-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Nmm (m : (ℓ : Loc Cert.Nmm.nD Cert.Nmm.τ Cert.Nmm.sig) → Buf (Elt Bits) ℓ) : Prop :=
  True

def Pre_NmmIdeal (m : (ℓ : Loc Cert.NmmIdeal.nD Cert.NmmIdeal.τ Cert.NmmIdeal.sig) → Buf (Elt Ideal) ℓ) : Prop :=
  True

def Pre_NmmRefIdeal (m : (ℓ : Loc Cert.NmmRefIdeal.nD Cert.NmmRefIdeal.τ Cert.NmmRefIdeal.sig) → Buf (Elt Ideal) ℓ) : Prop :=
  True

def Pre_RopeQ (m : (ℓ : Loc Cert.RopeQ.nD Cert.RopeQ.τ Cert.RopeQ.sig) → Buf (Elt Bits) ℓ) : Prop :=
  True

def Pre_RopeQIdeal (m : (ℓ : Loc Cert.RopeQIdeal.nD Cert.RopeQIdeal.τ Cert.RopeQIdeal.sig) → Buf (Elt Ideal) ℓ) : Prop :=
  True

def Pre_RopeQRefIdeal (m : (ℓ : Loc Cert.RopeQRefIdeal.nD Cert.RopeQRefIdeal.τ Cert.RopeQRefIdeal.sig) → Buf (Elt Ideal) ℓ) : Prop :=
  True

def Pre_RopeKv (m : (ℓ : Loc Cert.RopeKv.nD Cert.RopeKv.τ Cert.RopeKv.sig) → Buf (Elt Bits) ℓ) : Prop :=
  True

def Pre_RopeKvIdeal (m : (ℓ : Loc Cert.RopeKvIdeal.nD Cert.RopeKvIdeal.τ Cert.RopeKvIdeal.sig) → Buf (Elt Ideal) ℓ) : Prop :=
  True

def Pre_RopeKvRefIdeal (m : (ℓ : Loc Cert.RopeKvRefIdeal.nD Cert.RopeKvRefIdeal.τ Cert.RopeKvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombIdeal_top_is_real [hPre_top_is_real : Cert.Pre_top_is_real.Facts] (m : (ℓ : Loc Cert.CombIdeal.nD Cert.CombIdeal.τ Cert.CombIdeal.sig) → Buf (Elt Ideal) ℓ) : Prop :=
  ∀ c : Dev Cert.CombIdeal.nD,
    (Cert.Pre_top_is_real.fn (F := Ideal) (m ((c.tc : Thread Cert.CombIdeal.nD Cert.CombIdeal.τ).loc Cert.CombIdeal.main_arg0)) (m ((c.tc : Thread Cert.CombIdeal.nD Cert.CombIdeal.τ).loc Cert.CombIdeal.main_arg1)) (m ((c.tc : Thread Cert.CombIdeal.nD Cert.CombIdeal.τ).loc Cert.CombIdeal.main_arg2)) (m ((c.tc : Thread Cert.CombIdeal.nD Cert.CombIdeal.τ).loc Cert.CombIdeal.main_arg3)) (m ((c.tc : Thread Cert.CombIdeal.nD Cert.CombIdeal.τ).loc Cert.CombIdeal.main_arg4)) (m ((c.tc : Thread Cert.CombIdeal.nD Cert.CombIdeal.τ).loc Cert.CombIdeal.main_arg5)) (m ((c.tc : Thread Cert.CombIdeal.nD Cert.CombIdeal.τ).loc Cert.CombIdeal.main_arg6)) (m ((c.tc : Thread Cert.CombIdeal.nD Cert.CombIdeal.τ).loc Cert.CombIdeal.main_arg7))) = (fun _ => 1#1)

def Pre_CombRefIdeal (m : (ℓ : Loc Cert.CombRefIdeal.nD Cert.CombRefIdeal.τ Cert.CombRefIdeal.sig) → Buf (Elt Ideal) ℓ) : Prop :=
  True

def Pre_CombRefIdeal_top_is_real [hPre_top_is_real : Cert.Pre_top_is_real.Facts] (m : (ℓ : Loc Cert.CombRefIdeal.nD Cert.CombRefIdeal.τ Cert.CombRefIdeal.sig) → Buf (Elt Ideal) ℓ) : Prop :=
  ∀ c : Dev Cert.CombRefIdeal.nD,
    (Cert.Pre_top_is_real.fn (F := Ideal) (m ((c.tc : Thread Cert.CombRefIdeal.nD Cert.CombRefIdeal.τ).loc Cert.CombRefIdeal.main_arg0)) (m ((c.tc : Thread Cert.CombRefIdeal.nD Cert.CombRefIdeal.τ).loc Cert.CombRefIdeal.main_arg1)) (m ((c.tc : Thread Cert.CombRefIdeal.nD Cert.CombRefIdeal.τ).loc Cert.CombRefIdeal.main_arg2)) (m ((c.tc : Thread Cert.CombRefIdeal.nD Cert.CombRefIdeal.τ).loc Cert.CombRefIdeal.main_arg3)) (m ((c.tc : Thread Cert.CombRefIdeal.nD Cert.CombRefIdeal.τ).loc Cert.CombRefIdeal.main_arg4)) (m ((c.tc : Thread Cert.CombRefIdeal.nD Cert.CombRefIdeal.τ).loc Cert.CombRefIdeal.main_arg5)) (m ((c.tc : Thread Cert.CombRefIdeal.nD Cert.CombRefIdeal.τ).loc Cert.CombRefIdeal.main_arg6)) (m ((c.tc : Thread Cert.CombRefIdeal.nD Cert.CombRefIdeal.τ).loc Cert.CombRefIdeal.main_arg7))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Roll128 (m : (ℓ : Loc Cert.Roll128.nD Cert.Roll128.τ Cert.Roll128.sig) → Buf (Elt Bits) ℓ) : Prop :=
  True

def Pre_Roll128Ideal (m : (ℓ : Loc Cert.Roll128Ideal.nD Cert.Roll128Ideal.τ Cert.Roll128Ideal.sig) → Buf (Elt Ideal) ℓ) : Prop :=
  True

def Pre_Roll128RefIdeal (m : (ℓ : Loc Cert.Roll128RefIdeal.nD Cert.Roll128RefIdeal.τ Cert.Roll128RefIdeal.sig) → Buf (Elt Ideal) ℓ) : Prop :=
  True

def Pre_Roll512 (m : (ℓ : Loc Cert.Roll512.nD Cert.Roll512.τ Cert.Roll512.sig) → Buf (Elt Bits) ℓ) : Prop :=
  True

def Pre_Roll512Ideal (m : (ℓ : Loc Cert.Roll512Ideal.nD Cert.Roll512Ideal.τ Cert.Roll512Ideal.sig) → Buf (Elt Ideal) ℓ) : Prop :=
  True

def Pre_Roll512RefIdeal (m : (ℓ : Loc Cert.Roll512RefIdeal.nD Cert.Roll512RefIdeal.τ Cert.Roll512RefIdeal.sig) → Buf (Elt Ideal) ℓ) : Prop :=
  True

def Pre_Roll2048 (m : (ℓ : Loc Cert.Roll2048.nD Cert.Roll2048.τ Cert.Roll2048.sig) → Buf (Elt Bits) ℓ) : Prop :=
  True

def Pre_Roll2048Ideal (m : (ℓ : Loc Cert.Roll2048Ideal.nD Cert.Roll2048Ideal.τ Cert.Roll2048Ideal.sig) → Buf (Elt Ideal) ℓ) : Prop :=
  True

def Pre_Roll2048RefIdeal (m : (ℓ : Loc Cert.Roll2048RefIdeal.nD Cert.Roll2048RefIdeal.τ Cert.Roll2048RefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Nmm [hNmm : Cert.Nmm.Facts] : Prop :=
  ∀ (m : (ℓ : Loc Cert.Nmm.nD Cert.Nmm.τ Cert.Nmm.sig) → Buf (Elt Bits) ℓ) (g : Dev Cert.Nmm.nD → PrngReg), Pre_Nmm m →
    θ_run (Cert.Nmm.defs (F := Bits)) (onTc (τ := Cert.Nmm.τ) (Cert.Nmm.main (F := Bits))) ⟨m, fun _ => 0, g⟩ (fun r => (∀ c : Dev Cert.Nmm.nD,
      r.2.mem ((c.tc : Thread Cert.Nmm.nD Cert.Nmm.τ).loc Cert.Nmm.main_arg0) = m ((c.tc : Thread Cert.Nmm.nD Cert.Nmm.τ).loc Cert.Nmm.main_arg0)
      ∧ r.2.mem ((c.tc : Thread Cert.Nmm.nD Cert.Nmm.τ).loc Cert.Nmm.main_arg1) = m ((c.tc : Thread Cert.Nmm.nD Cert.Nmm.τ).loc Cert.Nmm.main_arg1)
      ∧ r.2.mem ((c.tc : Thread Cert.Nmm.nD Cert.Nmm.τ).loc Cert.Nmm.main_arg2) = m ((c.tc : Thread Cert.Nmm.nD Cert.Nmm.τ).loc Cert.Nmm.main_arg2))
      ∧ r.2.sem = fun _ => 0)

def quiescent_NmmIdeal [hNmmIdeal : Cert.NmmIdeal.Facts] : Prop :=
  ∀ (m : (ℓ : Loc Cert.NmmIdeal.nD Cert.NmmIdeal.τ Cert.NmmIdeal.sig) → Buf (Elt Ideal) ℓ) (g : Dev Cert.NmmIdeal.nD → PrngReg), Pre_NmmIdeal m →
    θ_run (Cert.NmmIdeal.defs (F := Ideal)) (onTc (τ := Cert.NmmIdeal.τ) (Cert.NmmIdeal.main (F := Ideal))) ⟨m, fun _ => 0, g⟩ (fun r => (∀ c : Dev Cert.NmmIdeal.nD,
      r.2.mem ((c.tc : Thread Cert.NmmIdeal.nD Cert.NmmIdeal.τ).loc Cert.NmmIdeal.main_arg0) = m ((c.tc : Thread Cert.NmmIdeal.nD Cert.NmmIdeal.τ).loc Cert.NmmIdeal.main_arg0)
      ∧ r.2.mem ((c.tc : Thread Cert.NmmIdeal.nD Cert.NmmIdeal.τ).loc Cert.NmmIdeal.main_arg1) = m ((c.tc : Thread Cert.NmmIdeal.nD Cert.NmmIdeal.τ).loc Cert.NmmIdeal.main_arg1)
      ∧ r.2.mem ((c.tc : Thread Cert.NmmIdeal.nD Cert.NmmIdeal.τ).loc Cert.NmmIdeal.main_arg2) = m ((c.tc : Thread Cert.NmmIdeal.nD Cert.NmmIdeal.τ).loc Cert.NmmIdeal.main_arg2))
      ∧ r.2.sem = fun _ => 0)

def quiescent_NmmRefIdeal [hNmmRefIdeal : Cert.NmmRefIdeal.Facts] : Prop :=
  ∀ (m : (ℓ : Loc Cert.NmmRefIdeal.nD Cert.NmmRefIdeal.τ Cert.NmmRefIdeal.sig) → Buf (Elt Ideal) ℓ) (g : Dev Cert.NmmRefIdeal.nD → PrngReg), Pre_NmmRefIdeal m →
    θ_run (Cert.NmmRefIdeal.defs (F := Ideal)) (onTc (τ := Cert.NmmRefIdeal.τ) (Cert.NmmRefIdeal.main (F := Ideal))) ⟨m, fun _ => 0, g⟩ (fun r => (∀ c : Dev Cert.NmmRefIdeal.nD,
      r.2.mem ((c.tc : Thread Cert.NmmRefIdeal.nD Cert.NmmRefIdeal.τ).loc Cert.NmmRefIdeal.main_arg0) = m ((c.tc : Thread Cert.NmmRefIdeal.nD Cert.NmmRefIdeal.τ).loc Cert.NmmRefIdeal.main_arg0)
      ∧ r.2.mem ((c.tc : Thread Cert.NmmRefIdeal.nD Cert.NmmRefIdeal.τ).loc Cert.NmmRefIdeal.main_arg1) = m ((c.tc : Thread Cert.NmmRefIdeal.nD Cert.NmmRefIdeal.τ).loc Cert.NmmRefIdeal.main_arg1)
      ∧ r.2.mem ((c.tc : Thread Cert.NmmRefIdeal.nD Cert.NmmRefIdeal.τ).loc Cert.NmmRefIdeal.main_arg2) = m ((c.tc : Thread Cert.NmmRefIdeal.nD Cert.NmmRefIdeal.τ).loc Cert.NmmRefIdeal.main_arg2))
      ∧ r.2.sem = fun _ => 0)

def quiescent_RopeQ [hRopeQ : Cert.RopeQ.Facts] : Prop :=
  ∀ (m : (ℓ : Loc Cert.RopeQ.nD Cert.RopeQ.τ Cert.RopeQ.sig) → Buf (Elt Bits) ℓ) (g : Dev Cert.RopeQ.nD → PrngReg), Pre_RopeQ m →
    θ_run (Cert.RopeQ.defs (F := Bits)) (onTc (τ := Cert.RopeQ.τ) (Cert.RopeQ.main (F := Bits))) ⟨m, fun _ => 0, g⟩ (fun r => (∀ c : Dev Cert.RopeQ.nD,
      r.2.mem ((c.tc : Thread Cert.RopeQ.nD Cert.RopeQ.τ).loc Cert.RopeQ.main_arg0) = m ((c.tc : Thread Cert.RopeQ.nD Cert.RopeQ.τ).loc Cert.RopeQ.main_arg0)
      ∧ r.2.mem ((c.tc : Thread Cert.RopeQ.nD Cert.RopeQ.τ).loc Cert.RopeQ.main_arg1) = m ((c.tc : Thread Cert.RopeQ.nD Cert.RopeQ.τ).loc Cert.RopeQ.main_arg1)
      ∧ r.2.mem ((c.tc : Thread Cert.RopeQ.nD Cert.RopeQ.τ).loc Cert.RopeQ.main_arg2) = m ((c.tc : Thread Cert.RopeQ.nD Cert.RopeQ.τ).loc Cert.RopeQ.main_arg2))
      ∧ r.2.sem = fun _ => 0)

def quiescent_RopeQIdeal [hRopeQIdeal : Cert.RopeQIdeal.Facts] : Prop :=
  ∀ (m : (ℓ : Loc Cert.RopeQIdeal.nD Cert.RopeQIdeal.τ Cert.RopeQIdeal.sig) → Buf (Elt Ideal) ℓ) (g : Dev Cert.RopeQIdeal.nD → PrngReg), Pre_RopeQIdeal m →
    θ_run (Cert.RopeQIdeal.defs (F := Ideal)) (onTc (τ := Cert.RopeQIdeal.τ) (Cert.RopeQIdeal.main (F := Ideal))) ⟨m, fun _ => 0, g⟩ (fun r => (∀ c : Dev Cert.RopeQIdeal.nD,
      r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0)
      ∧ r.2.mem ((c.tc : Thread Cert.RopeQIdeal.nD Cert.RopeQIdeal.τ).loc Cert.RopeQIdeal.main_arg1) = m ((c.tc : Thread Cert.RopeQIdeal.nD Cert.RopeQIdeal.τ).loc Cert.RopeQIdeal.main_arg1)
      ∧ r.2.mem ((c.tc : Thread Cert.RopeQIdeal.nD Cert.RopeQIdeal.τ).loc Cert.RopeQIdeal.main_arg2) = m ((c.tc : Thread Cert.RopeQIdeal.nD Cert.RopeQIdeal.τ).loc Cert.RopeQIdeal.main_arg2))
      ∧ r.2.sem = fun _ => 0)

def quiescent_RopeQRefIdeal [hRopeQRefIdeal : Cert.RopeQRefIdeal.Facts] : Prop :=
  ∀ (m : (ℓ : Loc Cert.RopeQRefIdeal.nD Cert.RopeQRefIdeal.τ Cert.RopeQRefIdeal.sig) → Buf (Elt Ideal) ℓ) (g : Dev Cert.RopeQRefIdeal.nD → PrngReg), Pre_RopeQRefIdeal m →
    θ_run (Cert.RopeQRefIdeal.defs (F := Ideal)) (onTc (τ := Cert.RopeQRefIdeal.τ) (Cert.RopeQRefIdeal.main (F := Ideal))) ⟨m, fun _ => 0, g⟩ (fun r => (∀ c : Dev Cert.RopeQRefIdeal.nD,
      r.2.mem ((c.tc : Thread Cert.RopeQRefIdeal.nD Cert.RopeQRefIdeal.τ).loc Cert.RopeQRefIdeal.main_arg0) = m ((c.tc : Thread Cert.RopeQRefIdeal.nD Cert.RopeQRefIdeal.τ).loc Cert.RopeQRefIdeal.main_arg0)
      ∧ r.2.mem ((c.tc : Thread Cert.RopeQRefIdeal.nD Cert.RopeQRefIdeal.τ).loc Cert.RopeQRefIdeal.main_arg1) = m ((c.tc : Thread Cert.RopeQRefIdeal.nD Cert.RopeQRefIdeal.τ).loc Cert.RopeQRefIdeal.main_arg1)
      ∧ r.2.mem ((c.tc : Thread Cert.RopeQRefIdeal.nD Cert.RopeQRefIdeal.τ).loc Cert.RopeQRefIdeal.main_arg2) = m ((c.tc : Thread Cert.RopeQRefIdeal.nD Cert.RopeQRefIdeal.τ).loc Cert.RopeQRefIdeal.main_arg2))
      ∧ r.2.sem = fun _ => 0)

def quiescent_RopeKv [hRopeKv : Cert.RopeKv.Facts] : Prop :=
  ∀ (m : (ℓ : Loc Cert.RopeKv.nD Cert.RopeKv.τ Cert.RopeKv.sig) → Buf (Elt Bits) ℓ) (g : Dev Cert.RopeKv.nD → PrngReg), Pre_RopeKv m →
    θ_run (Cert.RopeKv.defs (F := Bits)) (onTc (τ := Cert.RopeKv.τ) (Cert.RopeKv.main (F := Bits))) ⟨m, fun _ => 0, g⟩ (fun r => (∀ c : Dev Cert.RopeKv.nD,
      r.2.mem ((c.tc : Thread Cert.RopeKv.nD Cert.RopeKv.τ).loc Cert.RopeKv.main_arg0) = m ((c.tc : Thread Cert.RopeKv.nD Cert.RopeKv.τ).loc Cert.RopeKv.main_arg0)
      ∧ r.2.mem ((c.tc : Thread Cert.RopeKv.nD Cert.RopeKv.τ).loc Cert.RopeKv.main_arg1) = m ((c.tc : Thread Cert.RopeKv.nD Cert.RopeKv.τ).loc Cert.RopeKv.main_arg1)
      ∧ r.2.mem ((c.tc : Thread Cert.RopeKv.nD Cert.RopeKv.τ).loc Cert.RopeKv.main_arg2) = m ((c.tc : Thread Cert.RopeKv.nD Cert.RopeKv.τ).loc Cert.RopeKv.main_arg2)
      ∧ r.2.mem ((c.tc : Thread Cert.RopeKv.nD Cert.RopeKv.τ).loc Cert.RopeKv.main_arg3) = m ((c.tc : Thread Cert.RopeKv.nD Cert.RopeKv.τ).loc Cert.RopeKv.main_arg3))
      ∧ r.2.sem = fun _ => 0)

def quiescent_RopeKvIdeal [hRopeKvIdeal : Cert.RopeKvIdeal.Facts] : Prop :=
  ∀ (m : (ℓ : Loc Cert.RopeKvIdeal.nD Cert.RopeKvIdeal.τ Cert.RopeKvIdeal.sig) → Buf (Elt Ideal) ℓ) (g : Dev Cert.RopeKvIdeal.nD → PrngReg), Pre_RopeKvIdeal m →
    θ_run (Cert.RopeKvIdeal.defs (F := Ideal)) (onTc (τ := Cert.RopeKvIdeal.τ) (Cert.RopeKvIdeal.main (F := Ideal))) ⟨m, fun _ => 0, g⟩ (fun r => (∀ c : Dev Cert.RopeKvIdeal.nD,
      r.2.mem ((c.tc : Thread Cert.RopeKvIdeal.nD Cert.RopeKvIdeal.τ).loc Cert.RopeKvIdeal.main_arg0) = m ((c.tc : Thread Cert.RopeKvIdeal.nD Cert.RopeKvIdeal.τ).loc Cert.RopeKvIdeal.main_arg0)
      ∧ r.2.mem ((c.tc : Thread Cert.RopeKvIdeal.nD Cert.RopeKvIdeal.τ).loc Cert.RopeKvIdeal.main_arg1) = m ((c.tc : Thread Cert.RopeKvIdeal.nD Cert.RopeKvIdeal.τ).loc Cert.RopeKvIdeal.main_arg1)
      ∧ r.2.mem ((c.tc : Thread Cert.RopeKvIdeal.nD Cert.RopeKvIdeal.τ).loc Cert.RopeKvIdeal.main_arg2) = m ((c.tc : Thread Cert.RopeKvIdeal.nD Cert.RopeKvIdeal.τ).loc Cert.RopeKvIdeal.main_arg2)
      ∧ r.2.mem ((c.tc : Thread Cert.RopeKvIdeal.nD Cert.RopeKvIdeal.τ).loc Cert.RopeKvIdeal.main_arg3) = m ((c.tc : Thread Cert.RopeKvIdeal.nD Cert.RopeKvIdeal.τ).loc Cert.RopeKvIdeal.main_arg3))
      ∧ r.2.sem = fun _ => 0)

def quiescent_RopeKvRefIdeal [hRopeKvRefIdeal : Cert.RopeKvRefIdeal.Facts] : Prop :=
  ∀ (m : (ℓ : Loc Cert.RopeKvRefIdeal.nD Cert.RopeKvRefIdeal.τ Cert.RopeKvRefIdeal.sig) → Buf (Elt Ideal) ℓ) (g : Dev Cert.RopeKvRefIdeal.nD → PrngReg), Pre_RopeKvRefIdeal m →
    θ_run (Cert.RopeKvRefIdeal.defs (F := Ideal)) (onTc (τ := Cert.RopeKvRefIdeal.τ) (Cert.RopeKvRefIdeal.main (F := Ideal))) ⟨m, fun _ => 0, g⟩ (fun r => (∀ c : Dev Cert.RopeKvRefIdeal.nD,
      r.2.mem ((c.tc : Thread Cert.RopeKvRefIdeal.nD Cert.RopeKvRefIdeal.τ).loc Cert.RopeKvRefIdeal.main_arg0) = m ((c.tc : Thread Cert.RopeKvRefIdeal.nD Cert.RopeKvRefIdeal.τ).loc Cert.RopeKvRefIdeal.main_arg0)
      ∧ r.2.mem ((c.tc : Thread Cert.RopeKvRefIdeal.nD Cert.RopeKvRefIdeal.τ).loc Cert.RopeKvRefIdeal.main_arg1) = m ((c.tc : Thread Cert.RopeKvRefIdeal.nD Cert.RopeKvRefIdeal.τ).loc Cert.RopeKvRefIdeal.main_arg1)
      ∧ r.2.mem ((c.tc : Thread Cert.RopeKvRefIdeal.nD Cert.RopeKvRefIdeal.τ).loc Cert.RopeKvRefIdeal.main_arg2) = m ((c.tc : Thread Cert.RopeKvRefIdeal.nD Cert.RopeKvRefIdeal.τ).loc Cert.RopeKvRefIdeal.main_arg2)
      ∧ r.2.mem ((c.tc : Thread Cert.RopeKvRefIdeal.nD Cert.RopeKvRefIdeal.τ).loc Cert.RopeKvRefIdeal.main_arg3) = m ((c.tc : Thread Cert.RopeKvRefIdeal.nD Cert.RopeKvRefIdeal.τ).loc Cert.RopeKvRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4)
      ∧ r.2.mem ((c.tc : Thread Cert.Comb.nD Cert.Comb.τ).loc Cert.Comb.main_arg5) = m ((c.tc : Thread Cert.Comb.nD Cert.Comb.τ).loc Cert.Comb.main_arg5)
      ∧ r.2.mem ((c.tc : Thread Cert.Comb.nD Cert.Comb.τ).loc Cert.Comb.main_arg6) = m ((c.tc : Thread Cert.Comb.nD Cert.Comb.τ).loc Cert.Comb.main_arg6)
      ∧ r.2.mem ((c.tc : Thread Cert.Comb.nD Cert.Comb.τ).loc Cert.Comb.main_arg7) = m ((c.tc : Thread Cert.Comb.nD Cert.Comb.τ).loc Cert.Comb.main_arg7))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
      ∧ r.2.mem ((c.tc : Thread Cert.CombIdeal.nD Cert.CombIdeal.τ).loc Cert.CombIdeal.main_arg6) = m ((c.tc : Thread Cert.CombIdeal.nD Cert.CombIdeal.τ).loc Cert.CombIdeal.main_arg6)
      ∧ r.2.mem ((c.tc : Thread Cert.CombIdeal.nD Cert.CombIdeal.τ).loc Cert.CombIdeal.main_arg7) = m ((c.tc : Thread Cert.CombIdeal.nD Cert.CombIdeal.τ).loc Cert.CombIdeal.main_arg7))
      ∧ r.2.sem = fun _ => 0)

def quiescent_CombIdeal_pre_top_is_real [hCombIdeal : Cert.CombIdeal.Facts] [hPre_top_is_real : Cert.Pre_top_is_real.Facts] : Prop :=
  ∀ (m : (ℓ : Loc Cert.CombIdeal.nD Cert.CombIdeal.τ Cert.CombIdeal.sig) → Buf (Elt Ideal) ℓ) (g : Dev Cert.CombIdeal.nD → PrngReg), Pre_CombIdeal_top_is_real m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
      ∧ r.2.mem ((c.tc : Thread Cert.CombIdeal.nD Cert.CombIdeal.τ).loc Cert.CombIdeal.main_arg6) = m ((c.tc : Thread Cert.CombIdeal.nD Cert.CombIdeal.τ).loc Cert.CombIdeal.main_arg6)
      ∧ r.2.mem ((c.tc : Thread Cert.CombIdeal.nD Cert.CombIdeal.τ).loc Cert.CombIdeal.main_arg7) = m ((c.tc : Thread Cert.CombIdeal.nD Cert.CombIdeal.τ).loc Cert.CombIdeal.main_arg7))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4)
      ∧ r.2.mem ((c.tc : Thread Cert.CombRefIdeal.nD Cert.CombRefIdeal.τ).loc Cert.CombRefIdeal.main_arg5) = m ((c.tc : Thread Cert.CombRefIdeal.nD Cert.CombRefIdeal.τ).loc Cert.CombRefIdeal.main_arg5)
      ∧ r.2.mem ((c.tc : Thread Cert.CombRefIdeal.nD Cert.CombRefIdeal.τ).loc Cert.CombRefIdeal.main_arg6) = m ((c.tc : Thread Cert.CombRefIdeal.nD Cert.CombRefIdeal.τ).loc Cert.CombRefIdeal.main_arg6)
      ∧ r.2.mem ((c.tc : Thread Cert.CombRefIdeal.nD Cert.CombRefIdeal.τ).loc Cert.CombRefIdeal.main_arg7) = m ((c.tc : Thread Cert.CombRefIdeal.nD Cert.CombRefIdeal.τ).loc Cert.CombRefIdeal.main_arg7))
      ∧ r.2.sem = fun _ => 0)

def quiescent_CombRefIdeal_pre_top_is_real [hCombRefIdeal : Cert.CombRefIdeal.Facts] [hPre_top_is_real : Cert.Pre_top_is_real.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal_top_is_real m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4)
      ∧ r.2.mem ((c.tc : Thread Cert.CombRefIdeal.nD Cert.CombRefIdeal.τ).loc Cert.CombRefIdeal.main_arg5) = m ((c.tc : Thread Cert.CombRefIdeal.nD Cert.CombRefIdeal.τ).loc Cert.CombRefIdeal.main_arg5)
      ∧ r.2.mem ((c.tc : Thread Cert.CombRefIdeal.nD Cert.CombRefIdeal.τ).loc Cert.CombRefIdeal.main_arg6) = m ((c.tc : Thread Cert.CombRefIdeal.nD Cert.CombRefIdeal.τ).loc Cert.CombRefIdeal.main_arg6)
      ∧ r.2.mem ((c.tc : Thread Cert.CombRefIdeal.nD Cert.CombRefIdeal.τ).loc Cert.CombRefIdeal.main_arg7) = m ((c.tc : Thread Cert.CombRefIdeal.nD Cert.CombRefIdeal.τ).loc Cert.CombRefIdeal.main_arg7))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Roll128 [hRoll128 : Cert.Roll128.Facts] : Prop :=
  ∀ (m : (ℓ : Loc Cert.Roll128.nD Cert.Roll128.τ Cert.Roll128.sig) → Buf (Elt Bits) ℓ) (g : Dev Cert.Roll128.nD → PrngReg), Pre_Roll128 m →
    θ_run (Cert.Roll128.defs (F := Bits)) (onTc (τ := Cert.Roll128.τ) (Cert.Roll128.main (F := Bits))) ⟨m, fun _ => 0, g⟩ (fun r => (∀ c : Dev Cert.Roll128.nD,
      r.2.mem ((c.tc : Thread Cert.Roll128.nD Cert.Roll128.τ).loc Cert.Roll128.main_arg0) = m ((c.tc : Thread Cert.Roll128.nD Cert.Roll128.τ).loc Cert.Roll128.main_arg0)
      ∧ r.2.mem ((c.tc : Thread Cert.Roll128.nD Cert.Roll128.τ).loc Cert.Roll128.main_arg1) = m ((c.tc : Thread Cert.Roll128.nD Cert.Roll128.τ).loc Cert.Roll128.main_arg1))
      ∧ r.2.sem = fun _ => 0)

def quiescent_Roll128Ideal [hRoll128Ideal : Cert.Roll128Ideal.Facts] : Prop :=
  ∀ (m : (ℓ : Loc Cert.Roll128Ideal.nD Cert.Roll128Ideal.τ Cert.Roll128Ideal.sig) → Buf (Elt Ideal) ℓ) (g : Dev Cert.Roll128Ideal.nD → PrngReg), Pre_Roll128Ideal m →
    θ_run (Cert.Roll128Ideal.defs (F := Ideal)) (onTc (τ := Cert.Roll128Ideal.τ) (Cert.Roll128Ideal.main (F := Ideal))) ⟨m, fun _ => 0, g⟩ (fun r => (∀ c : Dev Cert.Roll128Ideal.nD,
      r.2.mem ((c.tc : Thread Cert.Roll128Ideal.nD Cert.Roll128Ideal.τ).loc Cert.Roll128Ideal.main_arg0) = m ((c.tc : Thread Cert.Roll128Ideal.nD Cert.Roll128Ideal.τ).loc Cert.Roll128Ideal.main_arg0)
      ∧ r.2.mem ((c.tc : Thread Cert.Roll128Ideal.nD Cert.Roll128Ideal.τ).loc Cert.Roll128Ideal.main_arg1) = m ((c.tc : Thread Cert.Roll128Ideal.nD Cert.Roll128Ideal.τ).loc Cert.Roll128Ideal.main_arg1))
      ∧ r.2.sem = fun _ => 0)

def quiescent_Roll128RefIdeal [hRoll128RefIdeal : Cert.Roll128RefIdeal.Facts] : Prop :=
  ∀ (m : (ℓ : Loc Cert.Roll128RefIdeal.nD Cert.Roll128RefIdeal.τ Cert.Roll128RefIdeal.sig) → Buf (Elt Ideal) ℓ) (g : Dev Cert.Roll128RefIdeal.nD → PrngReg), Pre_Roll128RefIdeal m →
    θ_run (Cert.Roll128RefIdeal.defs (F := Ideal)) (onTc (τ := Cert.Roll128RefIdeal.τ) (Cert.Roll128RefIdeal.main (F := Ideal))) ⟨m, fun _ => 0, g⟩ (fun r => (∀ c : Dev Cert.Roll128RefIdeal.nD,
      r.2.mem ((c.tc : Thread Cert.Roll128RefIdeal.nD Cert.Roll128RefIdeal.τ).loc Cert.Roll128RefIdeal.main_arg0) = m ((c.tc : Thread Cert.Roll128RefIdeal.nD Cert.Roll128RefIdeal.τ).loc Cert.Roll128RefIdeal.main_arg0)
      ∧ r.2.mem ((c.tc : Thread Cert.Roll128RefIdeal.nD Cert.Roll128RefIdeal.τ).loc Cert.Roll128RefIdeal.main_arg1) = m ((c.tc : Thread Cert.Roll128RefIdeal.nD Cert.Roll128RefIdeal.τ).loc Cert.Roll128RefIdeal.main_arg1))
      ∧ r.2.sem = fun _ => 0)

def quiescent_Roll512 [hRoll512 : Cert.Roll512.Facts] : Prop :=
  ∀ (m : (ℓ : Loc Cert.Roll512.nD Cert.Roll512.τ Cert.Roll512.sig) → Buf (Elt Bits) ℓ) (g : Dev Cert.Roll512.nD → PrngReg), Pre_Roll512 m →
    θ_run (Cert.Roll512.defs (F := Bits)) (onTc (τ := Cert.Roll512.τ) (Cert.Roll512.main (F := Bits))) ⟨m, fun _ => 0, g⟩ (fun r => (∀ c : Dev Cert.Roll512.nD,
      r.2.mem ((c.tc : Thread Cert.Roll512.nD Cert.Roll512.τ).loc Cert.Roll512.main_arg0) = m ((c.tc : Thread Cert.Roll512.nD Cert.Roll512.τ).loc Cert.Roll512.main_arg0)
      ∧ r.2.mem ((c.tc : Thread Cert.Roll512.nD Cert.Roll512.τ).loc Cert.Roll512.main_arg1) = m ((c.tc : Thread Cert.Roll512.nD Cert.Roll512.τ).loc Cert.Roll512.main_arg1))
      ∧ r.2.sem = fun _ => 0)

def quiescent_Roll512Ideal [hRoll512Ideal : Cert.Roll512Ideal.Facts] : Prop :=
  ∀ (m : (ℓ : Loc Cert.Roll512Ideal.nD Cert.Roll512Ideal.τ Cert.Roll512Ideal.sig) → Buf (Elt Ideal) ℓ) (g : Dev Cert.Roll512Ideal.nD → PrngReg), Pre_Roll512Ideal m →
    θ_run (Cert.Roll512Ideal.defs (F := Ideal)) (onTc (τ := Cert.Roll512Ideal.τ) (Cert.Roll512Ideal.main (F := Ideal))) ⟨m, fun _ => 0, g⟩ (fun r => (∀ c : Dev Cert.Roll512Ideal.nD,
      r.2.mem ((c.tc : Thread Cert.Roll512Ideal.nD Cert.Roll512Ideal.τ).loc Cert.Roll512Ideal.main_arg0) = m ((c.tc : Thread Cert.Roll512Ideal.nD Cert.Roll512Ideal.τ).loc Cert.Roll512Ideal.main_arg0)
      ∧ r.2.mem ((c.tc : Thread Cert.Roll512Ideal.nD Cert.Roll512Ideal.τ).loc Cert.Roll512Ideal.main_arg1) = m ((c.tc : Thread Cert.Roll512Ideal.nD Cert.Roll512Ideal.τ).loc Cert.Roll512Ideal.main_arg1))
      ∧ r.2.sem = fun _ => 0)

def quiescent_Roll512RefIdeal [hRoll512RefIdeal : Cert.Roll512RefIdeal.Facts] : Prop :=
  ∀ (m : (ℓ : Loc Cert.Roll512RefIdeal.nD Cert.Roll512RefIdeal.τ Cert.Roll512RefIdeal.sig) → Buf (Elt Ideal) ℓ) (g : Dev Cert.Roll512RefIdeal.nD → PrngReg), Pre_Roll512RefIdeal m →
    θ_run (Cert.Roll512RefIdeal.defs (F := Ideal)) (onTc (τ := Cert.Roll512RefIdeal.τ) (Cert.Roll512RefIdeal.main (F := Ideal))) ⟨m, fun _ => 0, g⟩ (fun r => (∀ c : Dev Cert.Roll512RefIdeal.nD,
      r.2.mem ((c.tc : Thread Cert.Roll512RefIdeal.nD Cert.Roll512RefIdeal.τ).loc Cert.Roll512RefIdeal.main_arg0) = m ((c.tc : Thread Cert.Roll512RefIdeal.nD Cert.Roll512RefIdeal.τ).loc Cert.Roll512RefIdeal.main_arg0)
      ∧ r.2.mem ((c.tc : Thread Cert.Roll512RefIdeal.nD Cert.Roll512RefIdeal.τ).loc Cert.Roll512RefIdeal.main_arg1) = m ((c.tc : Thread Cert.Roll512RefIdeal.nD Cert.Roll512RefIdeal.τ).loc Cert.Roll512RefIdeal.main_arg1))
      ∧ r.2.sem = fun _ => 0)

def quiescent_Roll2048 [hRoll2048 : Cert.Roll2048.Facts] : Prop :=
  ∀ (m : (ℓ : Loc Cert.Roll2048.nD Cert.Roll2048.τ Cert.Roll2048.sig) → Buf (Elt Bits) ℓ) (g : Dev Cert.Roll2048.nD → PrngReg), Pre_Roll2048 m →
    θ_run (Cert.Roll2048.defs (F := Bits)) (onTc (τ := Cert.Roll2048.τ) (Cert.Roll2048.main (F := Bits))) ⟨m, fun _ => 0, g⟩ (fun r => (∀ c : Dev Cert.Roll2048.nD,
      r.2.mem ((c.tc : Thread Cert.Roll2048.nD Cert.Roll2048.τ).loc Cert.Roll2048.main_arg0) = m ((c.tc : Thread Cert.Roll2048.nD Cert.Roll2048.τ).loc Cert.Roll2048.main_arg0)
      ∧ r.2.mem ((c.tc : Thread Cert.Roll2048.nD Cert.Roll2048.τ).loc Cert.Roll2048.main_arg1) = m ((c.tc : Thread Cert.Roll2048.nD Cert.Roll2048.τ).loc Cert.Roll2048.main_arg1))
      ∧ r.2.sem = fun _ => 0)

def quiescent_Roll2048Ideal [hRoll2048Ideal : Cert.Roll2048Ideal.Facts] : Prop :=
  ∀ (m : (ℓ : Loc Cert.Roll2048Ideal.nD Cert.Roll2048Ideal.τ Cert.Roll2048Ideal.sig) → Buf (Elt Ideal) ℓ) (g : Dev Cert.Roll2048Ideal.nD → PrngReg), Pre_Roll2048Ideal m →
    θ_run (Cert.Roll2048Ideal.defs (F := Ideal)) (onTc (τ := Cert.Roll2048Ideal.τ) (Cert.Roll2048Ideal.main (F := Ideal))) ⟨m, fun _ => 0, g⟩ (fun r => (∀ c : Dev Cert.Roll2048Ideal.nD,
      r.2.mem ((c.tc : Thread Cert.Roll2048Ideal.nD Cert.Roll2048Ideal.τ).loc Cert.Roll2048Ideal.main_arg0) = m ((c.tc : Thread Cert.Roll2048Ideal.nD Cert.Roll2048Ideal.τ).loc Cert.Roll2048Ideal.main_arg0)
      ∧ r.2.mem ((c.tc : Thread Cert.Roll2048Ideal.nD Cert.Roll2048Ideal.τ).loc Cert.Roll2048Ideal.main_arg1) = m ((c.tc : Thread Cert.Roll2048Ideal.nD Cert.Roll2048Ideal.τ).loc Cert.Roll2048Ideal.main_arg1))
      ∧ r.2.sem = fun _ => 0)

def quiescent_Roll2048RefIdeal [hRoll2048RefIdeal : Cert.Roll2048RefIdeal.Facts] : Prop :=
  ∀ (m : (ℓ : Loc Cert.Roll2048RefIdeal.nD Cert.Roll2048RefIdeal.τ Cert.Roll2048RefIdeal.sig) → Buf (Elt Ideal) ℓ) (g : Dev Cert.Roll2048RefIdeal.nD → PrngReg), Pre_Roll2048RefIdeal m →
    θ_run (Cert.Roll2048RefIdeal.defs (F := Ideal)) (onTc (τ := Cert.Roll2048RefIdeal.τ) (Cert.Roll2048RefIdeal.main (F := Ideal))) ⟨m, fun _ => 0, g⟩ (fun r => (∀ c : Dev Cert.Roll2048RefIdeal.nD,
      r.2.mem ((c.tc : Thread Cert.Roll2048RefIdeal.nD Cert.Roll2048RefIdeal.τ).loc Cert.Roll2048RefIdeal.main_arg0) = m ((c.tc : Thread Cert.Roll2048RefIdeal.nD Cert.Roll2048RefIdeal.τ).loc Cert.Roll2048RefIdeal.main_arg0)
      ∧ r.2.mem ((c.tc : Thread Cert.Roll2048RefIdeal.nD Cert.Roll2048RefIdeal.τ).loc Cert.Roll2048RefIdeal.main_arg1) = m ((c.tc : Thread Cert.Roll2048RefIdeal.nD Cert.Roll2048RefIdeal.τ).loc Cert.Roll2048RefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def preserves_Attn_AttnIdeal : Prop :=
  IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v2_0)) (v1 : (c : Dev Cert.AttnIdeal.nD) → Buf (Elt Ideal) ((c.tc : Thread Cert.AttnIdeal.nD Cert.AttnIdeal.τ).loc Cert.AttnIdeal.main_v2_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_0) = v0 c
          ∧ r.2.mem ((c.tc : Thread Cert.AttnIdeal.nD Cert.AttnIdeal.τ).loc Cert.AttnIdeal.main_v2_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v78) = v0 c
          ∧ r.2.mem ((c.tc : Thread Cert.AttnRefIdeal.nD Cert.AttnRefIdeal.τ).loc Cert.AttnRefIdeal.main_v79) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Nmm_NmmIdeal : Prop :=
  True

def algebraic_NmmIdeal_NmmRefIdeal [hNmmIdeal : Cert.NmmIdeal.Facts] [hNmmRefIdeal : Cert.NmmRefIdeal.Facts] : Prop :=
  ∀ (m : (ℓ : Loc Cert.NmmIdeal.nD Cert.NmmIdeal.τ Cert.NmmIdeal.sig) → Buf (Elt Ideal) ℓ) (g : Dev Cert.NmmIdeal.nD → PrngReg)
    (m' : (ℓ : Loc Cert.NmmRefIdeal.nD Cert.NmmRefIdeal.τ Cert.NmmRefIdeal.sig) → Buf (Elt Ideal) ℓ) (g' : Dev Cert.NmmRefIdeal.nD → PrngReg), Pre_NmmIdeal m →
    (∀ c : Dev Cert.NmmIdeal.nD,
      m' ((c.tc : Thread Cert.NmmRefIdeal.nD Cert.NmmRefIdeal.τ).loc Cert.NmmRefIdeal.main_arg0) = m ((c.tc : Thread Cert.NmmIdeal.nD Cert.NmmIdeal.τ).loc Cert.NmmIdeal.main_arg0)
      ∧ m' ((c.tc : Thread Cert.NmmRefIdeal.nD Cert.NmmRefIdeal.τ).loc Cert.NmmRefIdeal.main_arg1) = m ((c.tc : Thread Cert.NmmIdeal.nD Cert.NmmIdeal.τ).loc Cert.NmmIdeal.main_arg1)
      ∧ m' ((c.tc : Thread Cert.NmmRefIdeal.nD Cert.NmmRefIdeal.τ).loc Cert.NmmRefIdeal.main_arg2) = m ((c.tc : Thread Cert.NmmIdeal.nD Cert.NmmIdeal.τ).loc Cert.NmmIdeal.main_arg2)) →
    ∃ (v0 : (c : Dev Cert.NmmIdeal.nD) → Buf (Elt Ideal) ((c.tc : Thread Cert.NmmIdeal.nD Cert.NmmIdeal.τ).loc Cert.NmmIdeal.main_v9_0)) (v1 : (c : Dev Cert.NmmIdeal.nD) → Buf (Elt Ideal) ((c.tc : Thread Cert.NmmIdeal.nD Cert.NmmIdeal.τ).loc Cert.NmmIdeal.main_v9_1)) (v2 : (c : Dev Cert.NmmIdeal.nD) → Buf (Elt Ideal) ((c.tc : Thread Cert.NmmIdeal.nD Cert.NmmIdeal.τ).loc Cert.NmmIdeal.main_v9_2)) (v3 : (c : Dev Cert.NmmIdeal.nD) → Buf (Elt Ideal) ((c.tc : Thread Cert.NmmIdeal.nD Cert.NmmIdeal.τ).loc Cert.NmmIdeal.main_v9_3)),
      θ_run (Cert.NmmIdeal.defs (F := Ideal)) (onTc (τ := Cert.NmmIdeal.τ) (Cert.NmmIdeal.main (F := Ideal))) ⟨m, fun _ => 0, g⟩ (fun r => ∀ c : Dev Cert.NmmIdeal.nD,
          r.2.mem ((c.tc : Thread Cert.NmmIdeal.nD Cert.NmmIdeal.τ).loc Cert.NmmIdeal.main_v9_0) = v0 c
          ∧ r.2.mem ((c.tc : Thread Cert.NmmIdeal.nD Cert.NmmIdeal.τ).loc Cert.NmmIdeal.main_v9_1) = v1 c
          ∧ r.2.mem ((c.tc : Thread Cert.NmmIdeal.nD Cert.NmmIdeal.τ).loc Cert.NmmIdeal.main_v9_2) = v2 c
          ∧ r.2.mem ((c.tc : Thread Cert.NmmIdeal.nD Cert.NmmIdeal.τ).loc Cert.NmmIdeal.main_v9_3) = v3 c
          ∧ r.2.mem ((c.tc : Thread Cert.NmmIdeal.nD Cert.NmmIdeal.τ).loc Cert.NmmIdeal.main_arg0) = m ((c.tc : Thread Cert.NmmIdeal.nD Cert.NmmIdeal.τ).loc Cert.NmmIdeal.main_arg0)
          ∧ r.2.mem ((c.tc : Thread Cert.NmmIdeal.nD Cert.NmmIdeal.τ).loc Cert.NmmIdeal.main_arg1) = m ((c.tc : Thread Cert.NmmIdeal.nD Cert.NmmIdeal.τ).loc Cert.NmmIdeal.main_arg1)
          ∧ r.2.mem ((c.tc : Thread Cert.NmmIdeal.nD Cert.NmmIdeal.τ).loc Cert.NmmIdeal.main_arg2) = m ((c.tc : Thread Cert.NmmIdeal.nD Cert.NmmIdeal.τ).loc Cert.NmmIdeal.main_arg2))
      ∧ θ_run (Cert.NmmRefIdeal.defs (F := Ideal)) (onTc (τ := Cert.NmmRefIdeal.τ) (Cert.NmmRefIdeal.main (F := Ideal))) ⟨m', fun _ => 0, g'⟩ (fun r => ∀ c : Dev Cert.NmmRefIdeal.nD,
          r.2.mem ((c.tc : Thread Cert.NmmRefIdeal.nD Cert.NmmRefIdeal.τ).loc Cert.NmmRefIdeal.main_v16) = v0 c
          ∧ r.2.mem ((c.tc : Thread Cert.NmmRefIdeal.nD Cert.NmmRefIdeal.τ).loc Cert.NmmRefIdeal.main_v17) = v1 c
          ∧ r.2.mem ((c.tc : Thread Cert.NmmRefIdeal.nD Cert.NmmRefIdeal.τ).loc Cert.NmmRefIdeal.main_v18) = v2 c
          ∧ r.2.mem ((c.tc : Thread Cert.NmmRefIdeal.nD Cert.NmmRefIdeal.τ).loc Cert.NmmRefIdeal.main_v20) = v3 c
          ∧ r.2.mem ((c.tc : Thread Cert.NmmRefIdeal.nD Cert.NmmRefIdeal.τ).loc Cert.NmmRefIdeal.main_arg0) = m' ((c.tc : Thread Cert.NmmRefIdeal.nD Cert.NmmRefIdeal.τ).loc Cert.NmmRefIdeal.main_arg0)
          ∧ r.2.mem ((c.tc : Thread Cert.NmmRefIdeal.nD Cert.NmmRefIdeal.τ).loc Cert.NmmRefIdeal.main_arg1) = m' ((c.tc : Thread Cert.NmmRefIdeal.nD Cert.NmmRefIdeal.τ).loc Cert.NmmRefIdeal.main_arg1)
          ∧ r.2.mem ((c.tc : Thread Cert.NmmRefIdeal.nD Cert.NmmRefIdeal.τ).loc Cert.NmmRefIdeal.main_arg2) = m' ((c.tc : Thread Cert.NmmRefIdeal.nD Cert.NmmRefIdeal.τ).loc Cert.NmmRefIdeal.main_arg2))

def preserves_RopeQ_RopeQIdeal : Prop :=
  True

def algebraic_RopeQIdeal_RopeQRefIdeal [hRopeQIdeal : Cert.RopeQIdeal.Facts] [hRopeQRefIdeal : Cert.RopeQRefIdeal.Facts] : Prop :=
  ∀ (m : (ℓ : Loc Cert.RopeQIdeal.nD Cert.RopeQIdeal.τ Cert.RopeQIdeal.sig) → Buf (Elt Ideal) ℓ) (g : Dev Cert.RopeQIdeal.nD → PrngReg)
    (m' : (ℓ : Loc Cert.RopeQRefIdeal.nD Cert.RopeQRefIdeal.τ Cert.RopeQRefIdeal.sig) → Buf (Elt Ideal) ℓ) (g' : Dev Cert.RopeQRefIdeal.nD → PrngReg), Pre_RopeQIdeal m →
    (∀ c : Dev Cert.RopeQIdeal.nD,
      m' ((c.tc : Thread Cert.RopeQRefIdeal.nD Cert.RopeQRefIdeal.τ).loc Cert.RopeQRefIdeal.main_arg0) = m ((c.tc : Thread Cert.RopeQIdeal.nD Cert.RopeQIdeal.τ).loc Cert.RopeQIdeal.main_arg0)
      ∧ m' ((c.tc : Thread Cert.RopeQRefIdeal.nD Cert.RopeQRefIdeal.τ).loc Cert.RopeQRefIdeal.main_arg1) = m ((c.tc : Thread Cert.RopeQIdeal.nD Cert.RopeQIdeal.τ).loc Cert.RopeQIdeal.main_arg1)
      ∧ m' ((c.tc : Thread Cert.RopeQRefIdeal.nD Cert.RopeQRefIdeal.τ).loc Cert.RopeQRefIdeal.main_arg2) = m ((c.tc : Thread Cert.RopeQIdeal.nD Cert.RopeQIdeal.τ).loc Cert.RopeQIdeal.main_arg2)) →
    ∃ (v0 : (c : Dev Cert.RopeQIdeal.nD) → Buf (Elt Ideal) ((c.tc : Thread Cert.RopeQIdeal.nD Cert.RopeQIdeal.τ).loc Cert.RopeQIdeal.main_v32)),
      θ_run (Cert.RopeQIdeal.defs (F := Ideal)) (onTc (τ := Cert.RopeQIdeal.τ) (Cert.RopeQIdeal.main (F := Ideal))) ⟨m, fun _ => 0, g⟩ (fun r => ∀ c : Dev Cert.RopeQIdeal.nD,
          r.2.mem ((c.tc : Thread Cert.RopeQIdeal.nD Cert.RopeQIdeal.τ).loc Cert.RopeQIdeal.main_v32) = v0 c
          ∧ r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0)
          ∧ r.2.mem ((c.tc : Thread Cert.RopeQIdeal.nD Cert.RopeQIdeal.τ).loc Cert.RopeQIdeal.main_arg1) = m ((c.tc : Thread Cert.RopeQIdeal.nD Cert.RopeQIdeal.τ).loc Cert.RopeQIdeal.main_arg1)
          ∧ r.2.mem ((c.tc : Thread Cert.RopeQIdeal.nD Cert.RopeQIdeal.τ).loc Cert.RopeQIdeal.main_arg2) = m ((c.tc : Thread Cert.RopeQIdeal.nD Cert.RopeQIdeal.τ).loc Cert.RopeQIdeal.main_arg2))
      ∧ θ_run (Cert.RopeQRefIdeal.defs (F := Ideal)) (onTc (τ := Cert.RopeQRefIdeal.τ) (Cert.RopeQRefIdeal.main (F := Ideal))) ⟨m', fun _ => 0, g'⟩ (fun r => ∀ c : Dev Cert.RopeQRefIdeal.nD,
          r.2.mem ((c.tc : Thread Cert.RopeQRefIdeal.nD Cert.RopeQRefIdeal.τ).loc Cert.RopeQRefIdeal.main_v54) = v0 c
          ∧ r.2.mem ((c.tc : Thread Cert.RopeQRefIdeal.nD Cert.RopeQRefIdeal.τ).loc Cert.RopeQRefIdeal.main_arg0) = m' ((c.tc : Thread Cert.RopeQRefIdeal.nD Cert.RopeQRefIdeal.τ).loc Cert.RopeQRefIdeal.main_arg0)
          ∧ r.2.mem ((c.tc : Thread Cert.RopeQRefIdeal.nD Cert.RopeQRefIdeal.τ).loc Cert.RopeQRefIdeal.main_arg1) = m' ((c.tc : Thread Cert.RopeQRefIdeal.nD Cert.RopeQRefIdeal.τ).loc Cert.RopeQRefIdeal.main_arg1)
          ∧ r.2.mem ((c.tc : Thread Cert.RopeQRefIdeal.nD Cert.RopeQRefIdeal.τ).loc Cert.RopeQRefIdeal.main_arg2) = m' ((c.tc : Thread Cert.RopeQRefIdeal.nD Cert.RopeQRefIdeal.τ).loc Cert.RopeQRefIdeal.main_arg2))

def preserves_RopeKv_RopeKvIdeal : Prop :=
  True

def algebraic_RopeKvIdeal_RopeKvRefIdeal [hRopeKvIdeal : Cert.RopeKvIdeal.Facts] [hRopeKvRefIdeal : Cert.RopeKvRefIdeal.Facts] : Prop :=
  ∀ (m : (ℓ : Loc Cert.RopeKvIdeal.nD Cert.RopeKvIdeal.τ Cert.RopeKvIdeal.sig) → Buf (Elt Ideal) ℓ) (g : Dev Cert.RopeKvIdeal.nD → PrngReg)
    (m' : (ℓ : Loc Cert.RopeKvRefIdeal.nD Cert.RopeKvRefIdeal.τ Cert.RopeKvRefIdeal.sig) → Buf (Elt Ideal) ℓ) (g' : Dev Cert.RopeKvRefIdeal.nD → PrngReg), Pre_RopeKvIdeal m →
    (∀ c : Dev Cert.RopeKvIdeal.nD,
      m' ((c.tc : Thread Cert.RopeKvRefIdeal.nD Cert.RopeKvRefIdeal.τ).loc Cert.RopeKvRefIdeal.main_arg0) = m ((c.tc : Thread Cert.RopeKvIdeal.nD Cert.RopeKvIdeal.τ).loc Cert.RopeKvIdeal.main_arg0)
      ∧ m' ((c.tc : Thread Cert.RopeKvRefIdeal.nD Cert.RopeKvRefIdeal.τ).loc Cert.RopeKvRefIdeal.main_arg1) = m ((c.tc : Thread Cert.RopeKvIdeal.nD Cert.RopeKvIdeal.τ).loc Cert.RopeKvIdeal.main_arg1)
      ∧ m' ((c.tc : Thread Cert.RopeKvRefIdeal.nD Cert.RopeKvRefIdeal.τ).loc Cert.RopeKvRefIdeal.main_arg2) = m ((c.tc : Thread Cert.RopeKvIdeal.nD Cert.RopeKvIdeal.τ).loc Cert.RopeKvIdeal.main_arg2)
      ∧ m' ((c.tc : Thread Cert.RopeKvRefIdeal.nD Cert.RopeKvRefIdeal.τ).loc Cert.RopeKvRefIdeal.main_arg3) = m ((c.tc : Thread Cert.RopeKvIdeal.nD Cert.RopeKvIdeal.τ).loc Cert.RopeKvIdeal.main_arg3)) →
    ∃ (v0 : (c : Dev Cert.RopeKvIdeal.nD) → Buf (Elt Ideal) ((c.tc : Thread Cert.RopeKvIdeal.nD Cert.RopeKvIdeal.τ).loc Cert.RopeKvIdeal.main_v32)),
      θ_run (Cert.RopeKvIdeal.defs (F := Ideal)) (onTc (τ := Cert.RopeKvIdeal.τ) (Cert.RopeKvIdeal.main (F := Ideal))) ⟨m, fun _ => 0, g⟩ (fun r => ∀ c : Dev Cert.RopeKvIdeal.nD,
          r.2.mem ((c.tc : Thread Cert.RopeKvIdeal.nD Cert.RopeKvIdeal.τ).loc Cert.RopeKvIdeal.main_v32) = v0 c
          ∧ r.2.mem ((c.tc : Thread Cert.RopeKvIdeal.nD Cert.RopeKvIdeal.τ).loc Cert.RopeKvIdeal.main_arg0) = m ((c.tc : Thread Cert.RopeKvIdeal.nD Cert.RopeKvIdeal.τ).loc Cert.RopeKvIdeal.main_arg0)
          ∧ r.2.mem ((c.tc : Thread Cert.RopeKvIdeal.nD Cert.RopeKvIdeal.τ).loc Cert.RopeKvIdeal.main_arg1) = m ((c.tc : Thread Cert.RopeKvIdeal.nD Cert.RopeKvIdeal.τ).loc Cert.RopeKvIdeal.main_arg1)
          ∧ r.2.mem ((c.tc : Thread Cert.RopeKvIdeal.nD Cert.RopeKvIdeal.τ).loc Cert.RopeKvIdeal.main_arg2) = m ((c.tc : Thread Cert.RopeKvIdeal.nD Cert.RopeKvIdeal.τ).loc Cert.RopeKvIdeal.main_arg2)
          ∧ r.2.mem ((c.tc : Thread Cert.RopeKvIdeal.nD Cert.RopeKvIdeal.τ).loc Cert.RopeKvIdeal.main_arg3) = m ((c.tc : Thread Cert.RopeKvIdeal.nD Cert.RopeKvIdeal.τ).loc Cert.RopeKvIdeal.main_arg3))
      ∧ θ_run (Cert.RopeKvRefIdeal.defs (F := Ideal)) (onTc (τ := Cert.RopeKvRefIdeal.τ) (Cert.RopeKvRefIdeal.main (F := Ideal))) ⟨m', fun _ => 0, g'⟩ (fun r => ∀ c : Dev Cert.RopeKvRefIdeal.nD,
          r.2.mem ((c.tc : Thread Cert.RopeKvRefIdeal.nD Cert.RopeKvRefIdeal.τ).loc Cert.RopeKvRefIdeal.main_v54) = v0 c
          ∧ r.2.mem ((c.tc : Thread Cert.RopeKvRefIdeal.nD Cert.RopeKvRefIdeal.τ).loc Cert.RopeKvRefIdeal.main_arg0) = m' ((c.tc : Thread Cert.RopeKvRefIdeal.nD Cert.RopeKvRefIdeal.τ).loc Cert.RopeKvRefIdeal.main_arg0)
          ∧ r.2.mem ((c.tc : Thread Cert.RopeKvRefIdeal.nD Cert.RopeKvRefIdeal.τ).loc Cert.RopeKvRefIdeal.main_arg1) = m' ((c.tc : Thread Cert.RopeKvRefIdeal.nD Cert.RopeKvRefIdeal.τ).loc Cert.RopeKvRefIdeal.main_arg1)
          ∧ r.2.mem ((c.tc : Thread Cert.RopeKvRefIdeal.nD Cert.RopeKvRefIdeal.τ).loc Cert.RopeKvRefIdeal.main_arg2) = m' ((c.tc : Thread Cert.RopeKvRefIdeal.nD Cert.RopeKvRefIdeal.τ).loc Cert.RopeKvRefIdeal.main_arg2)
          ∧ r.2.mem ((c.tc : Thread Cert.RopeKvRefIdeal.nD Cert.RopeKvRefIdeal.τ).loc Cert.RopeKvRefIdeal.main_arg3) = m' ((c.tc : Thread Cert.RopeKvRefIdeal.nD Cert.RopeKvRefIdeal.τ).loc Cert.RopeKvRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Comb_CombIdeal : Prop :=
  True

def algebraic_CombIdeal_CombRefIdeal_pre_top_is_real [hCombIdeal : Cert.CombIdeal.Facts] [hCombRefIdeal : Cert.CombRefIdeal.Facts] [hPre_top_is_real : Cert.Pre_top_is_real.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal_top_is_real m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)
      ∧ m' ((c.tc : Thread Cert.CombRefIdeal.nD Cert.CombRefIdeal.τ).loc Cert.CombRefIdeal.main_arg5) = m ((c.tc : Thread Cert.CombIdeal.nD Cert.CombIdeal.τ).loc Cert.CombIdeal.main_arg5)
      ∧ m' ((c.tc : Thread Cert.CombRefIdeal.nD Cert.CombRefIdeal.τ).loc Cert.CombRefIdeal.main_arg6) = m ((c.tc : Thread Cert.CombIdeal.nD Cert.CombIdeal.τ).loc Cert.CombIdeal.main_arg6)
      ∧ m' ((c.tc : Thread Cert.CombRefIdeal.nD Cert.CombRefIdeal.τ).loc Cert.CombRefIdeal.main_arg7) = m ((c.tc : Thread Cert.CombIdeal.nD Cert.CombIdeal.τ).loc Cert.CombIdeal.main_arg7)) →
    ∃ (v0 : (c : Dev Cert.CombIdeal.nD) → Buf (Elt Ideal) ((c.tc : Thread Cert.CombIdeal.nD Cert.CombIdeal.τ).loc Cert.CombIdeal.main_v2)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v2) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
          ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
          ∧ r.2.mem ((c.tc : Thread Cert.CombIdeal.nD Cert.CombIdeal.τ).loc Cert.CombIdeal.main_arg6) = m ((c.tc : Thread Cert.CombIdeal.nD Cert.CombIdeal.τ).loc Cert.CombIdeal.main_arg6)
          ∧ r.2.mem ((c.tc : Thread Cert.CombIdeal.nD Cert.CombIdeal.τ).loc Cert.CombIdeal.main_arg7) = m ((c.tc : Thread Cert.CombIdeal.nD Cert.CombIdeal.τ).loc Cert.CombIdeal.main_arg7))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v32) = v0 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4)
          ∧ r.2.mem ((c.tc : Thread Cert.CombRefIdeal.nD Cert.CombRefIdeal.τ).loc Cert.CombRefIdeal.main_arg5) = m' ((c.tc : Thread Cert.CombRefIdeal.nD Cert.CombRefIdeal.τ).loc Cert.CombRefIdeal.main_arg5)
          ∧ r.2.mem ((c.tc : Thread Cert.CombRefIdeal.nD Cert.CombRefIdeal.τ).loc Cert.CombRefIdeal.main_arg6) = m' ((c.tc : Thread Cert.CombRefIdeal.nD Cert.CombRefIdeal.τ).loc Cert.CombRefIdeal.main_arg6)
          ∧ r.2.mem ((c.tc : Thread Cert.CombRefIdeal.nD Cert.CombRefIdeal.τ).loc Cert.CombRefIdeal.main_arg7) = m' ((c.tc : Thread Cert.CombRefIdeal.nD Cert.CombRefIdeal.τ).loc Cert.CombRefIdeal.main_arg7))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v5)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v5) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v36) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v5)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v23) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Roll128_Roll128Ideal : Prop :=
  True

def algebraic_Roll128Ideal_Roll128RefIdeal [hRoll128Ideal : Cert.Roll128Ideal.Facts] [hRoll128RefIdeal : Cert.Roll128RefIdeal.Facts] : Prop :=
  ∀ (m : (ℓ : Loc Cert.Roll128Ideal.nD Cert.Roll128Ideal.τ Cert.Roll128Ideal.sig) → Buf (Elt Ideal) ℓ) (g : Dev Cert.Roll128Ideal.nD → PrngReg)
    (m' : (ℓ : Loc Cert.Roll128RefIdeal.nD Cert.Roll128RefIdeal.τ Cert.Roll128RefIdeal.sig) → Buf (Elt Ideal) ℓ) (g' : Dev Cert.Roll128RefIdeal.nD → PrngReg), Pre_Roll128Ideal m →
    (∀ c : Dev Cert.Roll128Ideal.nD,
      m' ((c.tc : Thread Cert.Roll128RefIdeal.nD Cert.Roll128RefIdeal.τ).loc Cert.Roll128RefIdeal.main_arg0) = m ((c.tc : Thread Cert.Roll128Ideal.nD Cert.Roll128Ideal.τ).loc Cert.Roll128Ideal.main_arg0)
      ∧ m' ((c.tc : Thread Cert.Roll128RefIdeal.nD Cert.Roll128RefIdeal.τ).loc Cert.Roll128RefIdeal.main_arg1) = m ((c.tc : Thread Cert.Roll128Ideal.nD Cert.Roll128Ideal.τ).loc Cert.Roll128Ideal.main_arg1)) →
    ∃ (v0 : (c : Dev Cert.Roll128Ideal.nD) → Buf (Elt Ideal) ((c.tc : Thread Cert.Roll128Ideal.nD Cert.Roll128Ideal.τ).loc Cert.Roll128Ideal.main_v0)),
      θ_run (Cert.Roll128Ideal.defs (F := Ideal)) (onTc (τ := Cert.Roll128Ideal.τ) (Cert.Roll128Ideal.main (F := Ideal))) ⟨m, fun _ => 0, g⟩ (fun r => ∀ c : Dev Cert.Roll128Ideal.nD,
          r.2.mem ((c.tc : Thread Cert.Roll128Ideal.nD Cert.Roll128Ideal.τ).loc Cert.Roll128Ideal.main_v0) = v0 c
          ∧ r.2.mem ((c.tc : Thread Cert.Roll128Ideal.nD Cert.Roll128Ideal.τ).loc Cert.Roll128Ideal.main_arg0) = m ((c.tc : Thread Cert.Roll128Ideal.nD Cert.Roll128Ideal.τ).loc Cert.Roll128Ideal.main_arg0)
          ∧ r.2.mem ((c.tc : Thread Cert.Roll128Ideal.nD Cert.Roll128Ideal.τ).loc Cert.Roll128Ideal.main_arg1) = m ((c.tc : Thread Cert.Roll128Ideal.nD Cert.Roll128Ideal.τ).loc Cert.Roll128Ideal.main_arg1))
      ∧ θ_run (Cert.Roll128RefIdeal.defs (F := Ideal)) (onTc (τ := Cert.Roll128RefIdeal.τ) (Cert.Roll128RefIdeal.main (F := Ideal))) ⟨m', fun _ => 0, g'⟩ (fun r => ∀ c : Dev Cert.Roll128RefIdeal.nD,
          r.2.mem ((c.tc : Thread Cert.Roll128RefIdeal.nD Cert.Roll128RefIdeal.τ).loc Cert.Roll128RefIdeal.main_v1) = v0 c
          ∧ r.2.mem ((c.tc : Thread Cert.Roll128RefIdeal.nD Cert.Roll128RefIdeal.τ).loc Cert.Roll128RefIdeal.main_arg0) = m' ((c.tc : Thread Cert.Roll128RefIdeal.nD Cert.Roll128RefIdeal.τ).loc Cert.Roll128RefIdeal.main_arg0)
          ∧ r.2.mem ((c.tc : Thread Cert.Roll128RefIdeal.nD Cert.Roll128RefIdeal.τ).loc Cert.Roll128RefIdeal.main_arg1) = m' ((c.tc : Thread Cert.Roll128RefIdeal.nD Cert.Roll128RefIdeal.τ).loc Cert.Roll128RefIdeal.main_arg1))

def preserves_Roll512_Roll512Ideal : Prop :=
  True

def algebraic_Roll512Ideal_Roll512RefIdeal [hRoll512Ideal : Cert.Roll512Ideal.Facts] [hRoll512RefIdeal : Cert.Roll512RefIdeal.Facts] : Prop :=
  ∀ (m : (ℓ : Loc Cert.Roll512Ideal.nD Cert.Roll512Ideal.τ Cert.Roll512Ideal.sig) → Buf (Elt Ideal) ℓ) (g : Dev Cert.Roll512Ideal.nD → PrngReg)
    (m' : (ℓ : Loc Cert.Roll512RefIdeal.nD Cert.Roll512RefIdeal.τ Cert.Roll512RefIdeal.sig) → Buf (Elt Ideal) ℓ) (g' : Dev Cert.Roll512RefIdeal.nD → PrngReg), Pre_Roll512Ideal m →
    (∀ c : Dev Cert.Roll512Ideal.nD,
      m' ((c.tc : Thread Cert.Roll512RefIdeal.nD Cert.Roll512RefIdeal.τ).loc Cert.Roll512RefIdeal.main_arg0) = m ((c.tc : Thread Cert.Roll512Ideal.nD Cert.Roll512Ideal.τ).loc Cert.Roll512Ideal.main_arg0)
      ∧ m' ((c.tc : Thread Cert.Roll512RefIdeal.nD Cert.Roll512RefIdeal.τ).loc Cert.Roll512RefIdeal.main_arg1) = m ((c.tc : Thread Cert.Roll512Ideal.nD Cert.Roll512Ideal.τ).loc Cert.Roll512Ideal.main_arg1)) →
    ∃ (v0 : (c : Dev Cert.Roll512Ideal.nD) → Buf (Elt Ideal) ((c.tc : Thread Cert.Roll512Ideal.nD Cert.Roll512Ideal.τ).loc Cert.Roll512Ideal.main_v0)),
      θ_run (Cert.Roll512Ideal.defs (F := Ideal)) (onTc (τ := Cert.Roll512Ideal.τ) (Cert.Roll512Ideal.main (F := Ideal))) ⟨m, fun _ => 0, g⟩ (fun r => ∀ c : Dev Cert.Roll512Ideal.nD,
          r.2.mem ((c.tc : Thread Cert.Roll512Ideal.nD Cert.Roll512Ideal.τ).loc Cert.Roll512Ideal.main_v0) = v0 c
          ∧ r.2.mem ((c.tc : Thread Cert.Roll512Ideal.nD Cert.Roll512Ideal.τ).loc Cert.Roll512Ideal.main_arg0) = m ((c.tc : Thread Cert.Roll512Ideal.nD Cert.Roll512Ideal.τ).loc Cert.Roll512Ideal.main_arg0)
          ∧ r.2.mem ((c.tc : Thread Cert.Roll512Ideal.nD Cert.Roll512Ideal.τ).loc Cert.Roll512Ideal.main_arg1) = m ((c.tc : Thread Cert.Roll512Ideal.nD Cert.Roll512Ideal.τ).loc Cert.Roll512Ideal.main_arg1))
      ∧ θ_run (Cert.Roll512RefIdeal.defs (F := Ideal)) (onTc (τ := Cert.Roll512RefIdeal.τ) (Cert.Roll512RefIdeal.main (F := Ideal))) ⟨m', fun _ => 0, g'⟩ (fun r => ∀ c : Dev Cert.Roll512RefIdeal.nD,
          r.2.mem ((c.tc : Thread Cert.Roll512RefIdeal.nD Cert.Roll512RefIdeal.τ).loc Cert.Roll512RefIdeal.main_v1) = v0 c
          ∧ r.2.mem ((c.tc : Thread Cert.Roll512RefIdeal.nD Cert.Roll512RefIdeal.τ).loc Cert.Roll512RefIdeal.main_arg0) = m' ((c.tc : Thread Cert.Roll512RefIdeal.nD Cert.Roll512RefIdeal.τ).loc Cert.Roll512RefIdeal.main_arg0)
          ∧ r.2.mem ((c.tc : Thread Cert.Roll512RefIdeal.nD Cert.Roll512RefIdeal.τ).loc Cert.Roll512RefIdeal.main_arg1) = m' ((c.tc : Thread Cert.Roll512RefIdeal.nD Cert.Roll512RefIdeal.τ).loc Cert.Roll512RefIdeal.main_arg1))

def preserves_Roll2048_Roll2048Ideal : Prop :=
  True

def algebraic_Roll2048Ideal_Roll2048RefIdeal [hRoll2048Ideal : Cert.Roll2048Ideal.Facts] [hRoll2048RefIdeal : Cert.Roll2048RefIdeal.Facts] : Prop :=
  ∀ (m : (ℓ : Loc Cert.Roll2048Ideal.nD Cert.Roll2048Ideal.τ Cert.Roll2048Ideal.sig) → Buf (Elt Ideal) ℓ) (g : Dev Cert.Roll2048Ideal.nD → PrngReg)
    (m' : (ℓ : Loc Cert.Roll2048RefIdeal.nD Cert.Roll2048RefIdeal.τ Cert.Roll2048RefIdeal.sig) → Buf (Elt Ideal) ℓ) (g' : Dev Cert.Roll2048RefIdeal.nD → PrngReg), Pre_Roll2048Ideal m →
    (∀ c : Dev Cert.Roll2048Ideal.nD,
      m' ((c.tc : Thread Cert.Roll2048RefIdeal.nD Cert.Roll2048RefIdeal.τ).loc Cert.Roll2048RefIdeal.main_arg0) = m ((c.tc : Thread Cert.Roll2048Ideal.nD Cert.Roll2048Ideal.τ).loc Cert.Roll2048Ideal.main_arg0)
      ∧ m' ((c.tc : Thread Cert.Roll2048RefIdeal.nD Cert.Roll2048RefIdeal.τ).loc Cert.Roll2048RefIdeal.main_arg1) = m ((c.tc : Thread Cert.Roll2048Ideal.nD Cert.Roll2048Ideal.τ).loc Cert.Roll2048Ideal.main_arg1)) →
    ∃ (v0 : (c : Dev Cert.Roll2048Ideal.nD) → Buf (Elt Ideal) ((c.tc : Thread Cert.Roll2048Ideal.nD Cert.Roll2048Ideal.τ).loc Cert.Roll2048Ideal.main_v0)),
      θ_run (Cert.Roll2048Ideal.defs (F := Ideal)) (onTc (τ := Cert.Roll2048Ideal.τ) (Cert.Roll2048Ideal.main (F := Ideal))) ⟨m, fun _ => 0, g⟩ (fun r => ∀ c : Dev Cert.Roll2048Ideal.nD,
          r.2.mem ((c.tc : Thread Cert.Roll2048Ideal.nD Cert.Roll2048Ideal.τ).loc Cert.Roll2048Ideal.main_v0) = v0 c
          ∧ r.2.mem ((c.tc : Thread Cert.Roll2048Ideal.nD Cert.Roll2048Ideal.τ).loc Cert.Roll2048Ideal.main_arg0) = m ((c.tc : Thread Cert.Roll2048Ideal.nD Cert.Roll2048Ideal.τ).loc Cert.Roll2048Ideal.main_arg0)
          ∧ r.2.mem ((c.tc : Thread Cert.Roll2048Ideal.nD Cert.Roll2048Ideal.τ).loc Cert.Roll2048Ideal.main_arg1) = m ((c.tc : Thread Cert.Roll2048Ideal.nD Cert.Roll2048Ideal.τ).loc Cert.Roll2048Ideal.main_arg1))
      ∧ θ_run (Cert.Roll2048RefIdeal.defs (F := Ideal)) (onTc (τ := Cert.Roll2048RefIdeal.τ) (Cert.Roll2048RefIdeal.main (F := Ideal))) ⟨m', fun _ => 0, g'⟩ (fun r => ∀ c : Dev Cert.Roll2048RefIdeal.nD,
          r.2.mem ((c.tc : Thread Cert.Roll2048RefIdeal.nD Cert.Roll2048RefIdeal.τ).loc Cert.Roll2048RefIdeal.main_v1) = v0 c
          ∧ r.2.mem ((c.tc : Thread Cert.Roll2048RefIdeal.nD Cert.Roll2048RefIdeal.τ).loc Cert.Roll2048RefIdeal.main_arg0) = m' ((c.tc : Thread Cert.Roll2048RefIdeal.nD Cert.Roll2048RefIdeal.τ).loc Cert.Roll2048RefIdeal.main_arg0)
          ∧ r.2.mem ((c.tc : Thread Cert.Roll2048RefIdeal.nD Cert.Roll2048RefIdeal.τ).loc Cert.Roll2048RefIdeal.main_arg1) = m' ((c.tc : Thread Cert.Roll2048RefIdeal.nD Cert.Roll2048RefIdeal.τ).loc Cert.Roll2048RefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v10_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v10_1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v9) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def Claim : Prop :=
  ∃ (hAttn : Cert.Attn.Facts) (hAttnIdeal : Cert.AttnIdeal.Facts) (hAttnRefIdeal : Cert.AttnRefIdeal.Facts) (hNmm : Cert.Nmm.Facts) (hNmmIdeal : Cert.NmmIdeal.Facts) (hNmmRefIdeal : Cert.NmmRefIdeal.Facts) (hRopeQ : Cert.RopeQ.Facts) (hRopeQIdeal : Cert.RopeQIdeal.Facts) (hRopeQRefIdeal : Cert.RopeQRefIdeal.Facts) (hRopeKv : Cert.RopeKv.Facts) (hRopeKvIdeal : Cert.RopeKvIdeal.Facts) (hRopeKvRefIdeal : Cert.RopeKvRefIdeal.Facts) (hOut : Cert.Out.Facts) (hOutIdeal : Cert.OutIdeal.Facts) (hOutRefIdeal : Cert.OutRefIdeal.Facts) (hComb : Cert.Comb.Facts) (hCombIdeal : Cert.CombIdeal.Facts) (hCombRefIdeal : Cert.CombRefIdeal.Facts) (hPle : Cert.Ple.Facts) (hPleIdeal : Cert.PleIdeal.Facts) (hPleRefIdeal : Cert.PleRefIdeal.Facts) (hGate : Cert.Gate.Facts) (hGateIdeal : Cert.GateIdeal.Facts) (hGateRefIdeal : Cert.GateRefIdeal.Facts) (hRoll128 : Cert.Roll128.Facts) (hRoll128Ideal : Cert.Roll128Ideal.Facts) (hRoll128RefIdeal : Cert.Roll128RefIdeal.Facts) (hRoll512 : Cert.Roll512.Facts) (hRoll512Ideal : Cert.Roll512Ideal.Facts) (hRoll512RefIdeal : Cert.Roll512RefIdeal.Facts) (hRoll2048 : Cert.Roll2048.Facts) (hRoll2048Ideal : Cert.Roll2048Ideal.Facts) (hRoll2048RefIdeal : Cert.Roll2048RefIdeal.Facts) (hGlu : Cert.Glu.Facts) (hGluIdeal : Cert.GluIdeal.Facts) (hGluRefIdeal : Cert.GluRefIdeal.Facts) (hPre_top_is_real : Cert.Pre_top_is_real.Facts),
    quiescent_Attn (hAttn := hAttn)
    ∧ quiescent_AttnIdeal (hAttnIdeal := hAttnIdeal)
    ∧ quiescent_AttnRefIdeal (hAttnRefIdeal := hAttnRefIdeal)
    ∧ quiescent_Nmm (hNmm := hNmm)
    ∧ quiescent_NmmIdeal (hNmmIdeal := hNmmIdeal)
    ∧ quiescent_NmmRefIdeal (hNmmRefIdeal := hNmmRefIdeal)
    ∧ quiescent_RopeQ (hRopeQ := hRopeQ)
    ∧ quiescent_RopeQIdeal (hRopeQIdeal := hRopeQIdeal)
    ∧ quiescent_RopeQRefIdeal (hRopeQRefIdeal := hRopeQRefIdeal)
    ∧ quiescent_RopeKv (hRopeKv := hRopeKv)
    ∧ quiescent_RopeKvIdeal (hRopeKvIdeal := hRopeKvIdeal)
    ∧ quiescent_RopeKvRefIdeal (hRopeKvRefIdeal := hRopeKvRefIdeal)
    ∧ quiescent_Out (hOut := hOut)
    ∧ quiescent_OutIdeal (hOutIdeal := hOutIdeal)
    ∧ quiescent_OutRefIdeal (hOutRefIdeal := hOutRefIdeal)
    ∧ quiescent_Comb (hComb := hComb)
    ∧ quiescent_CombIdeal (hCombIdeal := hCombIdeal)
    ∧ quiescent_CombIdeal_pre_top_is_real (hCombIdeal := hCombIdeal) (hPre_top_is_real := hPre_top_is_real)
    ∧ quiescent_CombRefIdeal (hCombRefIdeal := hCombRefIdeal)
    ∧ quiescent_CombRefIdeal_pre_top_is_real (hCombRefIdeal := hCombRefIdeal) (hPre_top_is_real := hPre_top_is_real)
    ∧ quiescent_Ple (hPle := hPle)
    ∧ quiescent_PleIdeal (hPleIdeal := hPleIdeal)
    ∧ quiescent_PleRefIdeal (hPleRefIdeal := hPleRefIdeal)
    ∧ quiescent_Gate (hGate := hGate)
    ∧ quiescent_GateIdeal (hGateIdeal := hGateIdeal)
    ∧ quiescent_GateRefIdeal (hGateRefIdeal := hGateRefIdeal)
    ∧ quiescent_Roll128 (hRoll128 := hRoll128)
    ∧ quiescent_Roll128Ideal (hRoll128Ideal := hRoll128Ideal)
    ∧ quiescent_Roll128RefIdeal (hRoll128RefIdeal := hRoll128RefIdeal)
    ∧ quiescent_Roll512 (hRoll512 := hRoll512)
    ∧ quiescent_Roll512Ideal (hRoll512Ideal := hRoll512Ideal)
    ∧ quiescent_Roll512RefIdeal (hRoll512RefIdeal := hRoll512RefIdeal)
    ∧ quiescent_Roll2048 (hRoll2048 := hRoll2048)
    ∧ quiescent_Roll2048Ideal (hRoll2048Ideal := hRoll2048Ideal)
    ∧ quiescent_Roll2048RefIdeal (hRoll2048RefIdeal := hRoll2048RefIdeal)
    ∧ quiescent_Glu (hGlu := hGlu)
    ∧ quiescent_GluIdeal (hGluIdeal := hGluIdeal)
    ∧ quiescent_GluRefIdeal (hGluRefIdeal := hGluRefIdeal)
    ∧ preserves_Attn_AttnIdeal
    ∧ algebraic_AttnIdeal_AttnRefIdeal (hAttnIdeal := hAttnIdeal) (hAttnRefIdeal := hAttnRefIdeal)
    ∧ preserves_Nmm_NmmIdeal
    ∧ algebraic_NmmIdeal_NmmRefIdeal (hNmmIdeal := hNmmIdeal) (hNmmRefIdeal := hNmmRefIdeal)
    ∧ preserves_RopeQ_RopeQIdeal
    ∧ algebraic_RopeQIdeal_RopeQRefIdeal (hRopeQIdeal := hRopeQIdeal) (hRopeQRefIdeal := hRopeQRefIdeal)
    ∧ preserves_RopeKv_RopeKvIdeal
    ∧ algebraic_RopeKvIdeal_RopeKvRefIdeal (hRopeKvIdeal := hRopeKvIdeal) (hRopeKvRefIdeal := hRopeKvRefIdeal)
    ∧ preserves_Out_OutIdeal
    ∧ algebraic_OutIdeal_OutRefIdeal (hOutIdeal := hOutIdeal) (hOutRefIdeal := hOutRefIdeal)
    ∧ preserves_Comb_CombIdeal
    ∧ algebraic_CombIdeal_CombRefIdeal_pre_top_is_real (hCombIdeal := hCombIdeal) (hCombRefIdeal := hCombRefIdeal) (hPre_top_is_real := hPre_top_is_real)
    ∧ preserves_Ple_PleIdeal
    ∧ algebraic_PleIdeal_PleRefIdeal (hPleIdeal := hPleIdeal) (hPleRefIdeal := hPleRefIdeal)
    ∧ preserves_Gate_GateIdeal
    ∧ algebraic_GateIdeal_GateRefIdeal (hGateIdeal := hGateIdeal) (hGateRefIdeal := hGateRefIdeal)
    ∧ preserves_Roll128_Roll128Ideal
    ∧ algebraic_Roll128Ideal_Roll128RefIdeal (hRoll128Ideal := hRoll128Ideal) (hRoll128RefIdeal := hRoll128RefIdeal)
    ∧ preserves_Roll512_Roll512Ideal
    ∧ algebraic_Roll512Ideal_Roll512RefIdeal (hRoll512Ideal := hRoll512Ideal) (hRoll512RefIdeal := hRoll512RefIdeal)
    ∧ preserves_Roll2048_Roll2048Ideal
    ∧ algebraic_Roll2048Ideal_Roll2048RefIdeal (hRoll2048Ideal := hRoll2048Ideal) (hRoll2048RefIdeal := hRoll2048RefIdeal)
    ∧ preserves_Glu_GluIdeal
    ∧ algebraic_GluIdeal_GluRefIdeal (hGluIdeal := hGluIdeal) (hGluRefIdeal := hGluRefIdeal)
-- ==== Pre_top_is_real.lean ====
abbrev S16384x1024 : Shape := ⟨2, ![16384, 1024]⟩
abbrev S16384x128 : Shape := ⟨2, ![16384, 128]⟩
abbrev S1x1024x1024 : Shape := ⟨3, ![1, 1024, 1024]⟩
abbrev S16384x8 : Shape := ⟨2, ![16384, 8]⟩
abbrev S_ : Shape := ⟨0, ![]⟩

class Facts : Prop where
  slices_S16384x128_S16384x8_0_0 : S16384x128.Slices ![0, 0] S16384x8
  bcast_S_S16384x8 : S_.BroadcastsInDim S16384x8 (![] : Fin 0 → Fin S16384x8.rank)

variable [Facts]

def fn {F : FTy → Type} [FloatOps F] (main_arg0 : FVec F S16384x1024 .f32) (main_arg1 : FVec F S16384x1024 .f32) (main_arg2 : FVec F S16384x1024 .f32) (main_arg3 : FVec F S16384x128 .f32) (main_arg4 : FVec F S16384x128 .f32) (main_arg5 : FVec F S16384x128 .f32) (main_arg6 : FVec F S16384x1024 .f32) (main_arg7 : FVec F S1x1024x1024 .f32) : IVec S16384x8 1 :=
  let main_v0 : FVec F S16384x128 .f32 := maximumf main_arg3 main_arg4
  let main_v1 : FVec F S16384x128 .f32 := maximumf main_v0 main_arg5
  let main_v2 : FVec F S16384x8 .f32 := (extractStridedSlice S16384x8 ![0, 0] · slices_S16384x128_S16384x8_0_0) main_v1
  let main_cst : FVec F S_ .f32 := constant S_ .f32 0xFF800000#32
  let main_v3 : FVec F S16384x8 .f32 := broadcastInDim S16384x8 ![] bcast_S_S16384x8 main_cst
  let main_v4 : IVec S16384x8 1 := cmpf .ogt main_v2 main_v3
  let main_cst_0 : FVec F S_ .f32 := constant S_ .f32 0x7F800000#32
  let main_v5 : FVec F S16384x8 .f32 := broadcastInDim S16384x8 ![] bcast_S_S16384x8 main_cst_0
  let main_v6 : IVec S16384x8 1 := cmpf .olt main_v2 main_v5
  let main_v7 : IVec S16384x8 1 := andi main_v4 main_v6
  main_v7
-- ==== Attn.lean ====
abbrev S16384x3072 : Shape := ⟨2, ![16384, 3072]⟩
abbrev S16384x2048 : Shape := ⟨2, ![16384, 2048]⟩
abbrev S8x2048x3072 : Shape := ⟨3, ![8, 2048, 3072]⟩
abbrev S8x2048x2048 : Shape := ⟨3, ![8, 2048, 2048]⟩
abbrev S8x2048x1024 : Shape := ⟨3, ![8, 2048, 1024]⟩
abbrev S8x2048x128 : Shape := ⟨3, ![8, 2048, 128]⟩
abbrev S1x128x1024 : Shape := ⟨3, ![1, 128, 1024]⟩
abbrev S1x128x2048 : Shape := ⟨3, ![1, 128, 2048]⟩
abbrev S1x128x128 : Shape := ⟨3, ![1, 128, 128]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x3072, .f32⟩
  | .hbm, ⟨1, _⟩ => ⟨S16384x2048, .f32⟩
  | .hbm, ⟨2, _⟩ => ⟨S8x2048x3072, .f32⟩
  | .hbm, ⟨3, _⟩ => ⟨S8x2048x2048, .f32⟩
  | .hbm, ⟨4, _⟩ => ⟨S8x2048x1024, .f32⟩
  | .hbm, ⟨5, _⟩ => ⟨S8x2048x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x2048, .f32⟩
  | .local _ .vmem, ⟨3, _⟩ => ⟨S1x128x2048, .f32⟩
  | .local _ .vmem, ⟨4, _⟩ => ⟨S1x128x1024, .f32⟩
  | .local _ .vmem, ⟨5, _⟩ => ⟨S1x128x1024, .f32⟩
  | .local _ .vmem, ⟨6, _⟩ => ⟨S1x128x128, .f32⟩
  | .local _ .vmem, ⟨7, _⟩ => ⟨S1x128x128, .f32⟩
  | .local _ .vmem, ⟨8, _⟩ => ⟨S128x2048, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S16384x3072 : Shape := ⟨2, ![16384, 3072]⟩
abbrev S16384x2048 : Shape := ⟨2, ![16384, 2048]⟩
abbrev S8x2048x3x8x128 : Shape := ⟨5, ![8, 2048, 3, 8, 128]⟩
abbrev S8x2048x1x8x128 : Shape := ⟨5, ![8, 2048, 1, 8, 128]⟩
abbrev S8x2048x8x128 : Shape := ⟨4, ![8, 2048, 8, 128]⟩
abbrev S8x2048x2x8x128 : Shape := ⟨5, ![8, 2048, 2, 8, 128]⟩
abbrev S8x1x2048x8x128 : Shape := ⟨5, ![8, 1, 2048, 8, 128]⟩
abbrev S8x16x128x8x128 : Shape := ⟨5, ![8, 16, 128, 8, 128]⟩
abbrev S_ : Shape := ⟨0, ![]⟩
abbrev S8x17x128x8x128 : Shape := ⟨5, ![8, 17, 128, 8, 128]⟩
abbrev S8x16x256x8x128 : Shape := ⟨5, ![8, 16, 256, 8, 128]⟩
abbrev S8x16x8x256x128 : Shape := ⟨5, ![8, 16, 8, 256, 128]⟩
abbrev S8x16x128x8x256 : Shape := ⟨5, ![8, 16, 128, 8, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x128x1x256 : Shape := ⟨4, ![16, 128, 1, 256]⟩
abbrev S8x16x128x8 : Shape := ⟨4, ![8, 16, 128, 8]⟩
abbrev S8x16x128x8x1 : Shape := ⟨5, ![8, 16, 128, 8, 1]⟩
abbrev S8x16x8x128x128 : Shape := ⟨5, ![8, 16, 8, 128, 128]⟩
abbrev S8x1x2048x8 : Shape := ⟨4, ![8, 1, 2048, 8]⟩
abbrev S8x2048x1x8 : Shape := ⟨4, ![8, 2048, 1, 8]⟩
abbrev S8x2048x8 : Shape := ⟨3, ![8, 2048, 8]⟩
abbrev S8x2048x1024 : Shape := ⟨3, ![8, 2048, 1024]⟩
abbrev S8x2048x128 : Shape := ⟨3, ![8, 2048, 128]⟩

abbrev nBuf : Space → Nat
  | .hbm => 100
  | .vmem => 0
  | .smem => 0
  | _ => 0

abbrev bufTy : (tb : Table) → Fin (tcTables nBuf tb) → BufTy
  | .hbm, ⟨0, _⟩ => ⟨S16384x3072, .f32⟩
  | .hbm, ⟨1, _⟩ => ⟨S16384x2048, .f32⟩
  | .hbm, ⟨2, _⟩ => ⟨S8x2048x3x8x128, .f32⟩
  | .hbm, ⟨3, _⟩ => ⟨S8x2048x1x8x128, .f32⟩
  | .hbm, ⟨4, _⟩ => ⟨S8x2048x8x128, .f32⟩
  | .hbm, ⟨5, _⟩ => ⟨S8x2048x2x8x128, .f32⟩
  | .hbm, ⟨6, _⟩ => ⟨S8x2048x1x8x128, .f32⟩
  | .hbm, ⟨7, _⟩ => ⟨S8x2048x8x128, .f32⟩
  | .hbm, ⟨8, _⟩ => ⟨S8x2048x2x8x128, .f32⟩
  | .hbm, ⟨9, _⟩ => ⟨S8x2048x1x8x128, .f32⟩
  | .hbm, ⟨10, _⟩ => ⟨S8x2048x8x128, .f32⟩
  | .hbm, ⟨11, _⟩ => ⟨S8x2048x1x8x128, .f32⟩
  | .hbm, ⟨12, _⟩ => ⟨S8x1x2048x8x128, .f32⟩
  | .hbm, ⟨13, _⟩ => ⟨S8x16x128x8x128, .f32⟩
  | .hbm, ⟨14, _⟩ => ⟨S8x2048x1x8x128, .f32⟩
  | .hbm, ⟨15, _⟩ => ⟨S8x1x2048x8x128, .f32⟩
  | .hbm, ⟨16, _⟩ => ⟨S8x16x128x8x128, .f32⟩
  | .hbm, ⟨17, _⟩ => ⟨S_, .i32⟩
  | .hbm, ⟨18, _⟩ => ⟨S_, .f32⟩
  | .hbm, ⟨19, _⟩ => ⟨S8x17x128x8x128, .f32⟩
  | .hbm, ⟨20, _⟩ => ⟨S8x16x128x8x128, .f32⟩
  | .hbm, ⟨21, _⟩ => ⟨S8x16x256x8x128, .f32⟩
  | .hbm, ⟨22, _⟩ => ⟨S8x2048x1x8x128, .f32⟩
  | .hbm, ⟨23, _⟩ => ⟨S8x1x2048x8x128, .f32⟩
  | .hbm, ⟨24, _⟩ => ⟨S8x16x128x8x128, .f32⟩
  | .hbm, ⟨25, _⟩ => ⟨S_, .i32⟩
  | .hbm, ⟨26, _⟩ => ⟨S_, .f32⟩
  | .hbm, ⟨27, _⟩ => ⟨S8x17x128x8x128, .f32⟩
  | .hbm, ⟨28, _⟩ => ⟨S8x16x128x8x128, .f32⟩
  | .hbm, ⟨29, _⟩ => ⟨S8x16x256x8x128, .f32⟩
  | .hbm, ⟨30, _⟩ => ⟨S8x16x8x256x128, .f32⟩
  | .hbm, ⟨31, _⟩ => ⟨S8x16x128x8x256, .f32⟩
  | .hbm, ⟨32, _⟩ => ⟨S_, .f32⟩
  | .hbm, ⟨33, _⟩ => ⟨S8x16x128x8x256, .f32⟩
  | .hbm, ⟨34, _⟩ => ⟨S8x16x128x8x256, .f32⟩
  | .hbm, ⟨35, _⟩ => ⟨S128, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x256, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i1⟩
  | .hbm, ⟨52, _⟩ => ⟨S16, .i32⟩
  | .hbm, ⟨53, _⟩ => ⟨S16x1x1, .i32⟩
  | .hbm, ⟨54, _⟩ => ⟨S_, .i32⟩
  | .hbm, ⟨55, _⟩ => ⟨S16x1x1, .i32⟩
  | .hbm, ⟨56, _⟩ => ⟨S16x1x1, .i1⟩
  | .hbm, ⟨57, _⟩ => ⟨S1x1x256, .i32⟩
  | .hbm, ⟨58, _⟩ => ⟨S_, .i32⟩
  | .hbm, ⟨59, _⟩ => ⟨S1x1x256, .i32⟩
  | .hbm, ⟨60, _⟩ => ⟨S1x1x256, .i1⟩
  | .hbm, ⟨61, _⟩ => ⟨S16x1x256, .i1⟩
  | .hbm, ⟨62, _⟩ => ⟨S16x1x256, .i1⟩
  | .hbm, ⟨63, _⟩ => ⟨S16x1x256, .i1⟩
  | .hbm, ⟨64, _⟩ => ⟨S1x128x256, .i1⟩
  | .hbm, ⟨65, _⟩ => ⟨S16x128x256, .i1⟩
  | .hbm, ⟨66, _⟩ => ⟨S16x128x256, .i1⟩
  | .hbm, ⟨67, _⟩ => ⟨S16x128x256, .i1⟩
  | .hbm, ⟨68, _⟩ => ⟨S16x128x1x256, .i1⟩
  | .hbm, ⟨69, _⟩ => ⟨S_, .f32⟩
  | .hbm, ⟨70, _⟩ => ⟨S_, .f32⟩
  | .hbm, ⟨71, _⟩ => ⟨S8x16x128x8x256, .i1⟩
  | .hbm, ⟨72, _⟩ => ⟨S8x16x128x8x256, .f32⟩
  | .hbm, ⟨73, _⟩ => ⟨S8x16x128x8x256, .f32⟩
  | .hbm, ⟨74, _⟩ => ⟨S_, .f32⟩
  | .hbm, ⟨75, _⟩ => ⟨S8x16x128x8, .f32⟩
  | .hbm, ⟨76, _⟩ => ⟨S8x16x128x8x1, .f32⟩
  | .hbm, ⟨77, _⟩ => ⟨S8x16x128x8x256, .f32⟩
  | .hbm, ⟨78, _⟩ => ⟨S8x16x128x8x256, .f32⟩
  | .hbm, ⟨79, _⟩ => ⟨S8x16x128x8x256, .f32⟩
  | .hbm, ⟨80, _⟩ => ⟨S_, .f32⟩
  | .hbm, ⟨81, _⟩ => ⟨S8x16x128x8, .f32⟩
  | .hbm, ⟨82, _⟩ => ⟨S8x16x128x8x1, .f32⟩
  | .hbm, ⟨83, _⟩ => ⟨S8x16x8x128x128, .f32⟩
  | .hbm, ⟨84, _⟩ => ⟨S8x16x128x8x128, .f32⟩
  | .hbm, ⟨85, _⟩ => ⟨S8x16x128x8x128, .f32⟩
  | .hbm, ⟨86, _⟩ => ⟨S8x16x128x8x128, .f32⟩
  | .hbm, ⟨87, _⟩ => ⟨S8x16x128x8x1, .f32⟩
  | .hbm, ⟨88, _⟩ => ⟨S8x16x128x8x1, .f32⟩
  | .hbm, ⟨89, _⟩ => ⟨S8x16x128x8, .f32⟩
  | .hbm, ⟨90, _⟩ => ⟨S8x1x2048x8x128, .f32⟩
  | .hbm, ⟨91, _⟩ => ⟨S8x2048x1x8x128, .f32⟩
  | .hbm, ⟨92, _⟩ => ⟨S8x2048x8x128, .f32⟩
  | .hbm, ⟨93, _⟩ => ⟨S8x1x2048x8, .f32⟩
  | .hbm, ⟨94, _⟩ => ⟨S8x2048x1x8, .f32⟩
  | .hbm, ⟨95, _⟩ => ⟨S8x2048x8, .f32⟩
  | .hbm, ⟨96, _⟩ => ⟨S8x2048x1024, .f32⟩
  | .hbm, ⟨97, _⟩ => ⟨S_, .i32⟩
  | .hbm, ⟨98, _⟩ => ⟨S_, .f32⟩
  | .hbm, ⟨99, _⟩ => ⟨S8x2048x128, .f32⟩
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_call1_v0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_2 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c_9 : Ref sig .tc := ⟨.hbm, 97, rfl⟩
abbrev main_call3_v0 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== Nmm.lean ====
abbrev S8x2048x1024 : Shape := ⟨3, ![8, 2048, 1024]⟩
abbrev S1024 : Shape := ⟨1, ![1024]⟩
abbrev S1x1024x3080 : Shape := ⟨3, ![1, 1024, 3080]⟩
abbrev S1024x3080 : Shape := ⟨2, ![1024, 3080]⟩
abbrev S1024x8 : Shape := ⟨2, ![1024, 8]⟩
abbrev S_ : Shape := ⟨0, ![]⟩
abbrev S1024x128 : Shape := ⟨2, ![1024, 128]⟩
abbrev S1024x1024 : Shape := ⟨2, ![1024, 1024]⟩
abbrev S1024x1536 : Shape := ⟨2, ![1024, 1536]⟩
abbrev S1024x512 : Shape := ⟨2, ![1024, 512]⟩
abbrev S16384x1024 : Shape := ⟨2, ![16384, 1024]⟩
abbrev S1x1024 : Shape := ⟨2, ![1, 1024]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1x1024x3080, .f32⟩
  | .hbm, ⟨3, _⟩ => ⟨S1024x3080, .f32⟩
  | .hbm, ⟨4, _⟩ => ⟨S1024x3080, .bf16⟩
  | .hbm, ⟨5, _⟩ => ⟨S1024x8, .bf16⟩
  | .hbm, ⟨6, _⟩ => ⟨S_, .i32⟩
  | .hbm, ⟨7, _⟩ => ⟨S_, .bf16⟩
  | .hbm, ⟨8, _⟩ => ⟨S1024x128, .bf16⟩
  | .hbm, ⟨9, _⟩ => ⟨S1024x1024, .bf16⟩
  | .hbm, ⟨10, _⟩ => ⟨S1024x1536, .bf16⟩
  | .hbm, ⟨11, _⟩ => ⟨S1024x512, .bf16⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S16384x1536, .f32⟩
  | .hbm, ⟨16, _⟩ => ⟨S16384x512, .f32⟩
  | .hbm, ⟨17, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x512, .bf16⟩
  | .local _ .vmem, ⟨6, _⟩ => ⟨S1024x128, .bf16⟩
  | .local _ .vmem, ⟨7, _⟩ => ⟨S512x1024, .f32⟩
  | .local _ .vmem, ⟨8, _⟩ => ⟨S512x1024, .f32⟩
  | .local _ .vmem, ⟨9, _⟩ => ⟨S512x1536, .f32⟩
  | .local _ .vmem, ⟨10, _⟩ => ⟨S512x1536, .f32⟩
  | .local _ .vmem, ⟨11, _⟩ => ⟨S512x512, .f32⟩
  | .local _ .vmem, ⟨12, _⟩ => ⟨S512x512, .f32⟩
  | .local _ .vmem, ⟨13, _⟩ => ⟨S512x128, .f32⟩
  | .local _ .vmem, ⟨14, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v9_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NmmRefIdeal.lean ====
abbrev S8x2048x1024 : Shape := ⟨3, ![8, 2048, 1024]⟩
abbrev S1024 : Shape := ⟨1, ![1024]⟩
abbrev S1x1024x3080 : Shape := ⟨3, ![1, 1024, 3080]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x3080 : Shape := ⟨2, ![1024, 3080]⟩
abbrev S16384x3080 : Shape := ⟨2, ![16384, 3080]⟩
abbrev S16384x1536 : Shape := ⟨2, ![16384, 1536]⟩
abbrev S16384x512 : Shape := ⟨2, ![16384, 512]⟩
abbrev S16384x8 : Shape := ⟨2, ![16384, 8]⟩
abbrev S16384x128 : Shape := ⟨2, ![16384, 128]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1x1024x3080, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x3080, .f32⟩
  | .hbm, ⟨21, _⟩ => ⟨S16384x3080, .f32⟩
  | .hbm, ⟨22, _⟩ => ⟨S16384x1024, .f32⟩
  | .hbm, ⟨23, _⟩ => ⟨S16384x1536, .f32⟩
  | .hbm, ⟨24, _⟩ => ⟨S16384x512, .f32⟩
  | .hbm, ⟨25, _⟩ => ⟨S16384x8, .f32⟩
  | .hbm, ⟨26, _⟩ => ⟨S_, .i32⟩
  | .hbm, ⟨27, _⟩ => ⟨S_, .f32⟩
  | .hbm, ⟨28, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== RopeQ.lean ====
abbrev S8x2048x1024 : Shape := ⟨3, ![8, 2048, 1024]⟩
abbrev S1024 : Shape := ⟨1, ![1024]⟩
abbrev S1x1024x9216 : Shape := ⟨3, ![1, 1024, 9216]⟩
abbrev S1024x9216 : Shape := ⟨2, ![1024, 9216]⟩
abbrev S16384x1024 : Shape := ⟨2, ![16384, 1024]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1024x3072 : Shape := ⟨2, ![1024, 3072]⟩
abbrev S1x1024 : Shape := ⟨2, ![1, 1024]⟩
abbrev S16384x3072 : Shape := ⟨2, ![16384, 3072]⟩
abbrev S1024x1024 : Shape := ⟨2, ![1024, 1024]⟩
abbrev S1024x128 : Shape := ⟨2, ![1024, 128]⟩
abbrev S1024x1 : Shape := ⟨2, ![1024, 1]⟩
abbrev S1024x256 : Shape := ⟨2, ![1024, 256]⟩

abbrev nBuf : Space → Nat
  | .hbm => 44
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1x1024x9216, .f32⟩
  | .hbm, ⟨3, _⟩ => ⟨S1024x9216, .f32⟩
  | .hbm, ⟨4, _⟩ => ⟨S1024x9216, .bf16⟩
  | .hbm, ⟨5, _⟩ => ⟨S16384x1024, .f32⟩
  | .hbm, ⟨6, _⟩ => ⟨S2048, .i32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S2048, .f32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S_, .f32⟩
  | .hbm, ⟨32, _⟩ => ⟨S2048x96, .f32⟩
  | .hbm, ⟨33, _⟩ => ⟨S_, .f32⟩
  | .hbm, ⟨34, _⟩ => ⟨S2048x96, .f32⟩
  | .hbm, ⟨35, _⟩ => ⟨S_, .f32⟩
  | .hbm, ⟨36, _⟩ => ⟨S2048x16, .f32⟩
  | .hbm, ⟨37, _⟩ => ⟨S2048x128, .f32⟩
  | .hbm, ⟨38, _⟩ => ⟨S2048x128, .f32⟩
  | .hbm, ⟨39, _⟩ => ⟨S2048x16, .f32⟩
  | .hbm, ⟨40, _⟩ => ⟨S2048x128, .f32⟩
  | .hbm, ⟨41, _⟩ => ⟨S1024x3072, .bf16⟩
  | .hbm, ⟨42, _⟩ => ⟨S1x1024, .f32⟩
  | .hbm, ⟨43, _⟩ => ⟨S16384x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x3072, .bf16⟩
  | .local _ .vmem, ⟨10, _⟩ => ⟨S1024x3072, .f32⟩
  | .local _ .vmem, ⟨11, _⟩ => ⟨S1024x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RopeQRefIdeal.lean ====
abbrev S8x2048x1024 : Shape := ⟨3, ![8, 2048, 1024]⟩
abbrev S1024 : Shape := ⟨1, ![1024]⟩
abbrev S1x1024x9216 : Shape := ⟨3, ![1, 1024, 9216]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x3072 : Shape := ⟨3, ![1, 1024, 3072]⟩
abbrev S1024x3072 : Shape := ⟨2, ![1024, 3072]⟩
abbrev S16384x3072 : Shape := ⟨2, ![16384, 3072]⟩
abbrev S8x2048x3x8x128 : Shape := ⟨5, ![8, 2048, 3, 8, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x1x16 : Shape := ⟨5, ![1, 2048, 1, 1, 16]⟩
abbrev S8x2048x3x8x16 : Shape := ⟨5, ![8, 2048, 3, 8, 16]⟩
abbrev S8x2048x3x8x96 : Shape := ⟨5, ![8, 2048, 3, 8, 96]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1x1024x9216, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1024x3072, .f32⟩
  | .hbm, ⟨21, _⟩ => ⟨S1024x3072, .f32⟩
  | .hbm, ⟨22, _⟩ => ⟨S16384x3072, .f32⟩
  | .hbm, ⟨23, _⟩ => ⟨S8x2048x3x8x128, .f32⟩
  | .hbm, ⟨24, _⟩ => ⟨S2048, .i32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S2048, .f32⟩
  | .hbm, ⟨42, _⟩ => ⟨S2048x1, .f32⟩
  | .hbm, ⟨43, _⟩ => ⟨S1x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x16, .f32⟩
  | .hbm, ⟨48, _⟩ => ⟨S1x2048x1x1x16, .f32⟩
  | .hbm, ⟨49, _⟩ => ⟨S2048x16, .f32⟩
  | .hbm, ⟨50, _⟩ => ⟨S1x2048x1x1x16, .f32⟩
  | .hbm, ⟨51, _⟩ => ⟨S8x2048x3x8x16, .f32⟩
  | .hbm, ⟨52, _⟩ => ⟨S8x2048x3x8x16, .f32⟩
  | .hbm, ⟨53, _⟩ => ⟨S8x2048x3x8x16, .f32⟩
  | .hbm, ⟨54, _⟩ => ⟨S8x2048x3x8x16, .f32⟩
  | .hbm, ⟨55, _⟩ => ⟨S8x2048x3x8x16, .f32⟩
  | .hbm, ⟨56, _⟩ => ⟨S8x2048x3x8x16, .f32⟩
  | .hbm, ⟨57, _⟩ => ⟨S8x2048x3x8x16, .f32⟩
  | .hbm, ⟨58, _⟩ => ⟨S8x2048x3x8x16, .f32⟩
  | .hbm, ⟨59, _⟩ => ⟨S8x2048x3x8x16, .f32⟩
  | .hbm, ⟨60, _⟩ => ⟨S8x2048x3x8x16, .f32⟩
  | .hbm, ⟨61, _⟩ => ⟨S8x2048x3x8x16, .f32⟩
  | .hbm, ⟨62, _⟩ => ⟨S8x2048x3x8x16, .f32⟩
  | .hbm, ⟨63, _⟩ => ⟨S8x2048x3x8x96, .f32⟩
  | .hbm, ⟨64, _⟩ => ⟨S8x2048x3x8x128, .f32⟩
  | .hbm, ⟨65, _⟩ => ⟨S16384x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== RopeKv.lean ====
abbrev S8x2048x1024 : Shape := ⟨3, ![8, 2048, 1024]⟩
abbrev S1024 : Shape := ⟨1, ![1024]⟩
abbrev S1024x1024 : Shape := ⟨2, ![1024, 1024]⟩
abbrev S1024x2048 : Shape := ⟨2, ![1024, 2048]⟩
abbrev S16384x1024 : Shape := ⟨2, ![16384, 1024]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S1x1024 : Shape := ⟨2, ![1, 1024]⟩
abbrev S16384x2048 : Shape := ⟨2, ![16384, 2048]⟩
abbrev S1024x128 : Shape := ⟨2, ![1024, 128]⟩
abbrev S1024x1 : Shape := ⟨2, ![1024, 1]⟩
abbrev S1024x256 : Shape := ⟨2, ![1024, 256]⟩

abbrev nBuf : Space → Nat
  | .hbm => 45
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x2048, .bf16⟩
  | .hbm, ⟨7, _⟩ => ⟨S16384x1024, .f32⟩
  | .hbm, ⟨8, _⟩ => ⟨S2048, .i32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S2048, .f32⟩
  | .hbm, ⟨26, _⟩ => ⟨S2048x1, .f32⟩
  | .hbm, ⟨27, _⟩ => ⟨S1x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S2048x16, .f32⟩
  | .hbm, ⟨33, _⟩ => ⟨S_, .f32⟩
  | .hbm, ⟨34, _⟩ => ⟨S2048x96, .f32⟩
  | .hbm, ⟨35, _⟩ => ⟨S_, .f32⟩
  | .hbm, ⟨36, _⟩ => ⟨S2048x96, .f32⟩
  | .hbm, ⟨37, _⟩ => ⟨S_, .f32⟩
  | .hbm, ⟨38, _⟩ => ⟨S2048x16, .f32⟩
  | .hbm, ⟨39, _⟩ => ⟨S2048x128, .f32⟩
  | .hbm, ⟨40, _⟩ => ⟨S2048x128, .f32⟩
  | .hbm, ⟨41, _⟩ => ⟨S2048x16, .f32⟩
  | .hbm, ⟨42, _⟩ => ⟨S2048x128, .f32⟩
  | .hbm, ⟨43, _⟩ => ⟨S1x1024, .f32⟩
  | .hbm, ⟨44, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x2048, .bf16⟩
  | .local _ .vmem, ⟨10, _⟩ => ⟨S1024x2048, .f32⟩
  | .local _ .vmem, ⟨11, _⟩ => ⟨S1024x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RopeKvRefIdeal.lean ====
abbrev S8x2048x1024 : Shape := ⟨3, ![8, 2048, 1024]⟩
abbrev S1024 : Shape := ⟨1, ![1024]⟩
abbrev S1024x1024 : Shape := ⟨2, ![1024, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x2048x1x8x128 : Shape := ⟨5, ![8, 2048, 1, 8, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x1x16 : Shape := ⟨5, ![1, 2048, 1, 1, 16]⟩
abbrev S8x2048x1x8x16 : Shape := ⟨5, ![8, 2048, 1, 8, 16]⟩
abbrev S8x2048x1x8x96 : Shape := ⟨5, ![8, 2048, 1, 8, 96]⟩
abbrev S16384x2048 : Shape := ⟨2, ![16384, 2048]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S8x2048x1x8x128, .f32⟩
  | .hbm, ⟨23, _⟩ => ⟨S2048, .i32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S2048, .f32⟩
  | .hbm, ⟨41, _⟩ => ⟨S2048x1, .f32⟩
  | .hbm, ⟨42, _⟩ => ⟨S1x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S1x2048x1x1x16, .f32⟩
  | .hbm, ⟨48, _⟩ => ⟨S2048x16, .f32⟩
  | .hbm, ⟨49, _⟩ => ⟨S1x2048x1x1x16, .f32⟩
  | .hbm, ⟨50, _⟩ => ⟨S8x2048x1x8x16, .f32⟩
  | .hbm, ⟨51, _⟩ => ⟨S8x2048x1x8x16, .f32⟩
  | .hbm, ⟨52, _⟩ => ⟨S8x2048x1x8x16, .f32⟩
  | .hbm, ⟨53, _⟩ => ⟨S8x2048x1x8x16, .f32⟩
  | .hbm, ⟨54, _⟩ => ⟨S8x2048x1x8x16, .f32⟩
  | .hbm, ⟨55, _⟩ => ⟨S8x2048x1x8x16, .f32⟩
  | .hbm, ⟨56, _⟩ => ⟨S8x2048x1x8x16, .f32⟩
  | .hbm, ⟨57, _⟩ => ⟨S8x2048x1x8x16, .f32⟩
  | .hbm, ⟨58, _⟩ => ⟨S8x2048x1x8x16, .f32⟩
  | .hbm, ⟨59, _⟩ => ⟨S8x2048x1x8x16, .f32⟩
  | .hbm, ⟨60, _⟩ => ⟨S8x2048x1x8x16, .f32⟩
  | .hbm, ⟨61, _⟩ => ⟨S8x2048x1x8x16, .f32⟩
  | .hbm, ⟨62, _⟩ => ⟨S8x2048x1x8x96, .f32⟩
  | .hbm, ⟨63, _⟩ => ⟨S8x2048x1x8x128, .f32⟩
  | .hbm, ⟨64, _⟩ => ⟨S16384x1024, .f32⟩
  | .hbm, ⟨65, _⟩ => ⟨S16384x1024, .f32⟩
  | .hbm, ⟨66, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Out.lean ====
abbrev S16384x512 : Shape := ⟨2, ![16384, 512]⟩
abbrev S8x2048x1024 : Shape := ⟨3, ![8, 2048, 1024]⟩
abbrev S1x1024x1024 : Shape := ⟨3, ![1, 1024, 1024]⟩
abbrev S16384x1024 : Shape := ⟨2, ![16384, 1024]⟩
abbrev S1x512x1024 : Shape := ⟨3, ![1, 512, 1024]⟩
abbrev S512x1024 : Shape := ⟨2, ![512, 1024]⟩
abbrev S512x512 : Shape := ⟨2, ![512, 512]⟩

abbrev nBuf : Space → Nat
  | .hbm => 12
  | .vmem => 10
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S8x2048x1024, .f32⟩
  | .hbm, ⟨3, _⟩ => ⟨S1x1024x1024, .f32⟩
  | .hbm, ⟨4, _⟩ => ⟨S16384x1024, .f32⟩
  | .hbm, ⟨5, _⟩ => ⟨S1x512x1024, .f32⟩
  | .hbm, ⟨6, _⟩ => ⟨S512x1024, .f32⟩
  | .hbm, ⟨7, _⟩ => ⟨S512x1024, .bf16⟩
  | .hbm, ⟨8, _⟩ => ⟨S1x512x1024, .f32⟩
  | .hbm, ⟨9, _⟩ => ⟨S512x1024, .f32⟩
  | .hbm, ⟨10, _⟩ => ⟨S512x1024, .bf16⟩
  | .hbm, ⟨11, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16384x512 : Shape := ⟨2, ![16384, 512]⟩
abbrev S8x2048x1024 : Shape := ⟨3, ![8, 2048, 1024]⟩
abbrev S1x1024x1024 : Shape := ⟨3, ![1, 1024, 1024]⟩
abbrev S16384x1024 : Shape := ⟨2, ![16384, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S8x2048x1024, .f32⟩
  | .hbm, ⟨3, _⟩ => ⟨S1x1024x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Comb.lean ====
abbrev S16384x1024 : Shape := ⟨2, ![16384, 1024]⟩
abbrev S16384x128 : Shape := ⟨2, ![16384, 128]⟩
abbrev S1x1024x1024 : Shape := ⟨3, ![1, 1024, 1024]⟩
abbrev S1024x1024 : Shape := ⟨2, ![1024, 1024]⟩
abbrev S512x1024 : Shape := ⟨2, ![512, 1024]⟩
abbrev S512x128 : Shape := ⟨2, ![512, 128]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x1024, .f32⟩
  | .hbm, ⟨7, _⟩ => ⟨S1x1024x1024, .f32⟩
  | .hbm, ⟨8, _⟩ => ⟨S1024x1024, .f32⟩
  | .hbm, ⟨9, _⟩ => ⟨S1024x1024, .bf16⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== CombRefIdeal.lean ====
abbrev S16384x1024 : Shape := ⟨2, ![16384, 1024]⟩
abbrev S16384x128 : Shape := ⟨2, ![16384, 128]⟩
abbrev S1x1024x1024 : Shape := ⟨3, ![1, 1024, 1024]⟩
abbrev S16384x8x128 : Shape := ⟨3, ![16384, 8, 128]⟩
abbrev S1x16384x8x128 : Shape := ⟨4, ![1, 16384, 8, 128]⟩
abbrev S3x16384x8x128 : Shape := ⟨4, ![3, 16384, 8, 128]⟩
abbrev S16384x8 : Shape := ⟨2, ![16384, 8]⟩
abbrev S1x16384x8 : Shape := ⟨3, ![1, 16384, 8]⟩
abbrev S3x16384x8 : Shape := ⟨3, ![3, 16384, 8]⟩
abbrev S_ : Shape := ⟨0, ![]⟩
abbrev S3x16384x8x1 : Shape := ⟨4, ![3, 16384, 8, 1]⟩
abbrev S1024x1024 : Shape := ⟨2, ![1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x1024, .f32⟩
  | .hbm, ⟨7, _⟩ => ⟨S1x1024x1024, .f32⟩
  | .hbm, ⟨8, _⟩ => ⟨S16384x8x128, .f32⟩
  | .hbm, ⟨9, _⟩ => ⟨S16384x8x128, .f32⟩
  | .hbm, ⟨10, _⟩ => ⟨S16384x8x128, .f32⟩
  | .hbm, ⟨11, _⟩ => ⟨S1x16384x8x128, .f32⟩
  | .hbm, ⟨12, _⟩ => ⟨S1x16384x8x128, .f32⟩
  | .hbm, ⟨13, _⟩ => ⟨S1x16384x8x128, .f32⟩
  | .hbm, ⟨14, _⟩ => ⟨S3x16384x8x128, .f32⟩
  | .hbm, ⟨15, _⟩ => ⟨S16384x8, .f32⟩
  | .hbm, ⟨16, _⟩ => ⟨S16384x8, .f32⟩
  | .hbm, ⟨17, _⟩ => ⟨S16384x8, .f32⟩
  | .hbm, ⟨18, _⟩ => ⟨S1x16384x8, .f32⟩
  | .hbm, ⟨19, _⟩ => ⟨S1x16384x8, .f32⟩
  | .hbm, ⟨20, _⟩ => ⟨S1x16384x8, .f32⟩
  | .hbm, ⟨21, _⟩ => ⟨S3x16384x8, .f32⟩
  | .hbm, ⟨22, _⟩ => ⟨S_, .f32⟩
  | .hbm, ⟨23, _⟩ => ⟨S16384x8, .f32⟩
  | .hbm, ⟨24, _⟩ => ⟨S_, .f32⟩
  | .hbm, ⟨25, _⟩ => ⟨S16384x8, .f32⟩
  | .hbm, ⟨26, _⟩ => ⟨S16384x8, .f32⟩
  | .hbm, ⟨27, _⟩ => ⟨S1x16384x8, .f32⟩
  | .hbm, ⟨28, _⟩ => ⟨S3x16384x8, .f32⟩
  | .hbm, ⟨29, _⟩ => ⟨S3x16384x8, .f32⟩
  | .hbm, ⟨30, _⟩ => ⟨S3x16384x8, .f32⟩
  | .hbm, ⟨31, _⟩ => ⟨S_, .f32⟩
  | .hbm, ⟨32, _⟩ => ⟨S16384x8, .f32⟩
  | .hbm, ⟨33, _⟩ => ⟨S1x16384x8, .f32⟩
  | .hbm, ⟨34, _⟩ => ⟨S3x16384x8, .f32⟩
  | .hbm, ⟨35, _⟩ => ⟨S3x16384x8, .f32⟩
  | .hbm, ⟨36, _⟩ => ⟨S3x16384x8x1, .f32⟩
  | .hbm, ⟨37, _⟩ => ⟨S3x16384x8x128, .f32⟩
  | .hbm, ⟨38, _⟩ => ⟨S3x16384x8x128, .f32⟩
  | .hbm, ⟨39, _⟩ => ⟨S_, .f32⟩
  | .hbm, ⟨40, _⟩ => ⟨S16384x8x128, .f32⟩
  | .hbm, ⟨41, _⟩ => ⟨S16384x1024, .f32⟩
  | .hbm, ⟨42, _⟩ => ⟨S1024x1024, .f32⟩
  | .hbm, ⟨43, _⟩ => ⟨S16384x1024, .f32⟩
  | .hbm, ⟨44, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Ple.lean ====
abbrev S16384x1024 : Shape := ⟨2, ![16384, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x256, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PleRefIdeal.lean ====
abbrev S16384x1024 : Shape := ⟨2, ![16384, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x256 : Shape := ⟨2, ![16384, 256]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x256, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Gate.lean ====
abbrev S16384x1024 : Shape := ⟨2, ![16384, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x256, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateRefIdeal.lean ====
abbrev S16384x1024 : Shape := ⟨2, ![16384, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x256 : Shape := ⟨2, ![16384, 256]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x256, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Roll128.lean ====
abbrev S32x128x2x8x128 : Shape := ⟨5, ![32, 128, 2, 8, 128]⟩
abbrev S32x4x2x8x128 : Shape := ⟨5, ![32, 4, 2, 8, 128]⟩
abbrev S1x128x2x8x128 : Shape := ⟨5, ![1, 128, 2, 8, 128]⟩
abbrev S1x4x2x8x128 : Shape := ⟨5, ![1, 4, 2, 8, 128]⟩
abbrev S1x124x2x8x128 : Shape := ⟨5, ![1, 124, 2, 8, 128]⟩
abbrev S124x2x8x128 : Shape := ⟨4, ![124, 2, 8, 128]⟩
abbrev S4x2x8x128 : Shape := ⟨4, ![4, 2, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S32x128x2x8x128, .f32⟩
  | .hbm, ⟨1, _⟩ => ⟨S32x4x2x8x128, .f32⟩
  | .hbm, ⟨2, _⟩ => ⟨S32x128x2x8x128, .f32⟩
  | .local _ .vmem, ⟨0, _⟩ => ⟨S1x128x2x8x128, .f32⟩
  | .local _ .vmem, ⟨1, _⟩ => ⟨S1x128x2x8x128, .f32⟩
  | .local _ .vmem, ⟨2, _⟩ => ⟨S1x4x2x8x128, .f32⟩
  | .local _ .vmem, ⟨3, _⟩ => ⟨S1x4x2x8x128, .f32⟩
  | .local _ .vmem, ⟨4, _⟩ => ⟨S1x4x2x8x128, .f32⟩
  | .local _ .vmem, ⟨5, _⟩ => ⟨S1x4x2x8x128, .f32⟩
  | .local _ .vmem, ⟨6, _⟩ => ⟨S1x128x2x8x128, .f32⟩
  | .local _ .vmem, ⟨7, _⟩ => ⟨S1x128x2x8x128, .f32⟩
  | _, _ => ⟨S32x128x2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  let c0_i32_2 : BitVec 32 := 0#32
  ![arg0.toNat, v2.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x128x2x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Roll128Ideal.lean ====
abbrev S32x128x2x8x128 : Shape := ⟨5, ![32, 128, 2, 8, 128]⟩
abbrev S32x4x2x8x128 : Shape := ⟨5, ![32, 4, 2, 8, 128]⟩
abbrev S1x128x2x8x128 : Shape := ⟨5, ![1, 128, 2, 8, 128]⟩
abbrev S1x4x2x8x128 : Shape := ⟨5, ![1, 4, 2, 8, 128]⟩
abbrev S1x124x2x8x128 : Shape := ⟨5, ![1, 124, 2, 8, 128]⟩
abbrev S124x2x8x128 : Shape := ⟨4, ![124, 2, 8, 128]⟩
abbrev S4x2x8x128 : Shape := ⟨4, ![4, 2, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S32x128x2x8x128, .f32⟩
  | .hbm, ⟨1, _⟩ => ⟨S32x4x2x8x128, .f32⟩
  | .hbm, ⟨2, _⟩ => ⟨S32x128x2x8x128, .f32⟩
  | .local _ .vmem, ⟨0, _⟩ => ⟨S1x128x2x8x128, .f32⟩
  | .local _ .vmem, ⟨1, _⟩ => ⟨S1x128x2x8x128, .f32⟩
  | .local _ .vmem, ⟨2, _⟩ => ⟨S1x4x2x8x128, .f32⟩
  | .local _ .vmem, ⟨3, _⟩ => ⟨S1x4x2x8x128, .f32⟩
  | .local _ .vmem, ⟨4, _⟩ => ⟨S1x4x2x8x128, .f32⟩
  | .local _ .vmem, ⟨5, _⟩ => ⟨S1x4x2x8x128, .f32⟩
  | .local _ .vmem, ⟨6, _⟩ => ⟨S1x128x2x8x128, .f32⟩
  | .local _ .vmem, ⟨7, _⟩ => ⟨S1x128x2x8x128, .f32⟩
  | _, _ => ⟨S32x128x2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c31_i32 : BitVec 32 := 31#32
  let v2 : BitVec 32 := Scalar.minsi v1 c31_i32
  let c0_i32 : BitVec 32 := 0#32
  let c0_i32_0 : BitVec 32 := 0#32
  let c0_i32_1 : BitVec 32 := 0#32
  let c0_i32_2 : BitVec 32 := 0#32
  ![arg0.toNat, v2.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x128x2x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Roll128RefIdeal.lean ====
abbrev S32x128x2x8x128 : Shape := ⟨5, ![32, 128, 2, 8, 128]⟩
abbrev S32x4x2x8x128 : Shape := ⟨5, ![32, 4, 2, 8, 128]⟩
abbrev S32x132x2x8x128 : Shape := ⟨5, ![32, 132, 2, 8, 128]⟩

abbrev nBuf : Space → Nat
  | .hbm => 4
  | .vmem => 0
  | .smem => 0
  | _ => 0

abbrev bufTy : (tb : Table) → Fin (tcTables nBuf tb) → BufTy
  | .hbm, ⟨0, _⟩ => ⟨S32x128x2x8x128, .f32⟩
  | .hbm, ⟨1, _⟩ => ⟨S32x4x2x8x128, .f32⟩
  | .hbm, ⟨2, _⟩ => ⟨S32x132x2x8x128, .f32⟩
  | .hbm, ⟨3, _⟩ => ⟨S32x128x2x8x128, .f32⟩
  | _, _ => ⟨S32x128x2x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Roll512.lean ====
abbrev S32x512x2x8x128 : Shape := ⟨5, ![32, 512, 2, 8, 128]⟩
abbrev S32x4x2x8x128 : Shape := ⟨5, ![32, 4, 2, 8, 128]⟩
abbrev S1x256x2x8x128 : Shape := ⟨5, ![1, 256, 2, 8, 128]⟩
abbrev S1x4x2x8x128 : Shape := ⟨5, ![1, 4, 2, 8, 128]⟩
abbrev S1x252x2x8x128 : Shape := ⟨5, ![1, 252, 2, 8, 128]⟩
abbrev S252x2x8x128 : Shape := ⟨4, ![252, 2, 8, 128]⟩
abbrev S4x2x8x128 : Shape := ⟨4, ![4, 2, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S32x512x2x8x128, .f32⟩
  | .hbm, ⟨1, _⟩ => ⟨S32x4x2x8x128, .f32⟩
  | .hbm, ⟨2, _⟩ => ⟨S32x512x2x8x128, .f32⟩
  | .local _ .vmem, ⟨0, _⟩ => ⟨S1x256x2x8x128, .f32⟩
  | .local _ .vmem, ⟨1, _⟩ => ⟨S1x256x2x8x128, .f32⟩
  | .local _ .vmem, ⟨2, _⟩ => ⟨S1x4x2x8x128, .f32⟩
  | .local _ .vmem, ⟨3, _⟩ => ⟨S1x4x2x8x128, .f32⟩
  | .local _ .vmem, ⟨4, _⟩ => ⟨S1x4x2x8x128, .f32⟩
  | .local _ .vmem, ⟨5, _⟩ => ⟨S1x4x2x8x128, .f32⟩
  | .local _ .vmem, ⟨6, _⟩ => ⟨S1x256x2x8x128, .f32⟩
  | .local _ .vmem, ⟨7, _⟩ => ⟨S1x256x2x8x128, .f32⟩
  | _, _ => ⟨S32x512x2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  let c0_i32_2 : BitVec 32 := 0#32
  ![arg0.toNat, v2.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x256x2x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Roll512Ideal.lean ====
abbrev S32x512x2x8x128 : Shape := ⟨5, ![32, 512, 2, 8, 128]⟩
abbrev S32x4x2x8x128 : Shape := ⟨5, ![32, 4, 2, 8, 128]⟩
abbrev S1x256x2x8x128 : Shape := ⟨5, ![1, 256, 2, 8, 128]⟩
abbrev S1x4x2x8x128 : Shape := ⟨5, ![1, 4, 2, 8, 128]⟩
abbrev S1x252x2x8x128 : Shape := ⟨5, ![1, 252, 2, 8, 128]⟩
abbrev S252x2x8x128 : Shape := ⟨4, ![252, 2, 8, 128]⟩
abbrev S4x2x8x128 : Shape := ⟨4, ![4, 2, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S32x512x2x8x128, .f32⟩
  | .hbm, ⟨1, _⟩ => ⟨S32x4x2x8x128, .f32⟩
  | .hbm, ⟨2, _⟩ => ⟨S32x512x2x8x128, .f32⟩
  | .local _ .vmem, ⟨0, _⟩ => ⟨S1x256x2x8x128, .f32⟩
  | .local _ .vmem, ⟨1, _⟩ => ⟨S1x256x2x8x128, .f32⟩
  | .local _ .vmem, ⟨2, _⟩ => ⟨S1x4x2x8x128, .f32⟩
  | .local _ .vmem, ⟨3, _⟩ => ⟨S1x4x2x8x128, .f32⟩
  | .local _ .vmem, ⟨4, _⟩ => ⟨S1x4x2x8x128, .f32⟩
  | .local _ .vmem, ⟨5, _⟩ => ⟨S1x4x2x8x128, .f32⟩
  | .local _ .vmem, ⟨6, _⟩ => ⟨S1x256x2x8x128, .f32⟩
  | .local _ .vmem, ⟨7, _⟩ => ⟨S1x256x2x8x128, .f32⟩
  | _, _ => ⟨S32x512x2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  let c0_i32_1 : BitVec 32 := 0#32
  let c0_i32_2 : BitVec 32 := 0#32
  ![arg0.toNat, v2.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x256x2x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Roll512RefIdeal.lean ====
abbrev S32x512x2x8x128 : Shape := ⟨5, ![32, 512, 2, 8, 128]⟩
abbrev S32x4x2x8x128 : Shape := ⟨5, ![32, 4, 2, 8, 128]⟩
abbrev S32x516x2x8x128 : Shape := ⟨5, ![32, 516, 2, 8, 128]⟩

abbrev nBuf : Space → Nat
  | .hbm => 4
  | .vmem => 0
  | .smem => 0
  | _ => 0

abbrev bufTy : (tb : Table) → Fin (tcTables nBuf tb) → BufTy
  | .hbm, ⟨0, _⟩ => ⟨S32x512x2x8x128, .f32⟩
  | .hbm, ⟨1, _⟩ => ⟨S32x4x2x8x128, .f32⟩
  | .hbm, ⟨2, _⟩ => ⟨S32x516x2x8x128, .f32⟩
  | .hbm, ⟨3, _⟩ => ⟨S32x512x2x8x128, .f32⟩
  | _, _ => ⟨S32x512x2x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Roll2048.lean ====
abbrev S32x2048x2x8x128 : Shape := ⟨5, ![32, 2048, 2, 8, 128]⟩
abbrev S32x4x2x8x128 : Shape := ⟨5, ![32, 4, 2, 8, 128]⟩
abbrev S1x256x2x8x128 : Shape := ⟨5, ![1, 256, 2, 8, 128]⟩
abbrev S1x4x2x8x128 : Shape := ⟨5, ![1, 4, 2, 8, 128]⟩
abbrev S1x252x2x8x128 : Shape := ⟨5, ![1, 252, 2, 8, 128]⟩
abbrev S252x2x8x128 : Shape := ⟨4, ![252, 2, 8, 128]⟩
abbrev S4x2x8x128 : Shape := ⟨4, ![4, 2, 8, 128]⟩

abbrev nBuf : Space → Nat
  | .hbm => 3
  | .vmem => 8
  | .smem => 0
  | _ => 0

abbrev bufTy : (tb : Table) → Fin (tcTables nBuf tb) → BufTy
  | .hbm, ⟨0, _⟩ => ⟨S32x2048x2x8x128, .f32⟩
  | .hbm, ⟨1, _⟩ => ⟨S32x4x2x8x128, .f32⟩
  | .hbm, ⟨2, _⟩ => ⟨S32x2048x2x8x128, .f32⟩
  | .local _ .vmem, ⟨0, _⟩ => ⟨S1x256x2x8x128, .f32⟩
  | .local _ .vmem, ⟨1, _⟩ => ⟨S1x256x2x8x128, .f32⟩
  | .local _ .vmem, ⟨2, _⟩ => ⟨S1x4x2x8x128, .f32⟩
  | .local _ .vmem, ⟨3, _⟩ => ⟨S1x4x2x8x128, .f32⟩
  | .local _ .vmem, ⟨4, _⟩ => ⟨S1x4x2x8x128, .f32⟩
  | .local _ .vmem, ⟨5, _⟩ => ⟨S1x4x2x8x128, .f32⟩
  | .local _ .vmem, ⟨6, _⟩ => ⟨S1x256x2x8x128, .f32⟩
  | .local _ .vmem, ⟨7, _⟩ => ⟨S1x256x2x8x128, .f32⟩
  | _, _ => ⟨S32x2048x2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  let c0_i32_1 : BitVec 32 := 0#32
  let c0_i32_2 : BitVec 32 := 0#32
  ![arg0.toNat, v2.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x256x2x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Roll2048RefIdeal.lean ====
abbrev S32x2048x2x8x128 : Shape := ⟨5, ![32, 2048, 2, 8, 128]⟩
abbrev S32x4x2x8x128 : Shape := ⟨5, ![32, 4, 2, 8, 128]⟩
abbrev S32x2052x2x8x128 : Shape := ⟨5, ![32, 2052, 2, 8, 128]⟩

abbrev nBuf : Space → Nat
  | .hbm => 4
  | .vmem => 0
  | .smem => 0
  | _ => 0

abbrev bufTy : (tb : Table) → Fin (tcTables nBuf tb) → BufTy
  | .hbm, ⟨0, _⟩ => ⟨S32x2048x2x8x128, .f32⟩
  | .hbm, ⟨1, _⟩ => ⟨S32x4x2x8x128, .f32⟩
  | .hbm, ⟨2, _⟩ => ⟨S32x2052x2x8x128, .f32⟩
  | .hbm, ⟨3, _⟩ => ⟨S32x2048x2x8x128, .f32⟩
  | _, _ => ⟨S32x2048x2x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Glu.lean ====
abbrev S16384x1024 : Shape := ⟨2, ![16384, 1024]⟩
abbrev S1x31x512 : Shape := ⟨3, ![1, 31, 512]⟩
abbrev S1x512 : Shape := ⟨2, ![1, 512]⟩
abbrev S8x2048x1024 : Shape := ⟨3, ![8, 2048, 1024]⟩
abbrev S_ : Shape := ⟨0, ![]⟩
abbrev S8x32x512 : Shape := ⟨3, ![8, 32, 512]⟩
abbrev S31x512 : Shape := ⟨2, ![31, 512]⟩
abbrev S512 : Shape := ⟨1, ![512]⟩
abbrev S32x512 : Shape := ⟨2, ![32, 512]⟩
abbrev S8x2048x512 : Shape := ⟨3, ![8, 2048, 512]⟩
abbrev S1x256x1024 : Shape := ⟨3, ![1, 256, 1024]⟩
abbrev S1x32x512 : Shape := ⟨3, ![1, 32, 512]⟩
abbrev S1x256x512 : Shape := ⟨3, ![1, 256, 512]⟩
abbrev S288x512 : Shape := ⟨2, ![288, 512]⟩
abbrev S8x280x512 : Shape := ⟨3, ![8, 280, 512]⟩
abbrev S256x1024 : Shape := ⟨2, ![256, 1024]⟩
abbrev S256x512 : Shape := ⟨2, ![256, 512]⟩
abbrev S280x512 : Shape := ⟨2, ![280, 512]⟩
abbrev S1x280x512 : Shape := ⟨3, ![1, 280, 512]⟩
abbrev S64x512 : Shape := ⟨2, ![64, 512]⟩
abbrev S1x64x512 : Shape := ⟨3, ![1, 64, 512]⟩
abbrev S64 : Shape := ⟨1, ![64]⟩
abbrev S64x1 : Shape := ⟨2, ![64, 1]⟩

abbrev nBuf : Space → Nat
  | .hbm => 20
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8x2048x1024, .f32⟩
  | .hbm, ⟨6, _⟩ => ⟨S_, .f32⟩
  | .hbm, ⟨7, _⟩ => ⟨S8x32x512, .f32⟩
  | .hbm, ⟨8, _⟩ => ⟨S31x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S_, .f32⟩
  | .hbm, ⟨14, _⟩ => ⟨S32x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S8x2048x512, .f32⟩
  | .hbm, ⟨19, _⟩ => ⟨S8x2048x512, .f32⟩
  | .local _ .vmem, ⟨0, _⟩ => ⟨S1x256x1024, .f32⟩
  | .local _ .vmem, ⟨1, _⟩ => ⟨S1x256x1024, .f32⟩
  | .local _ .vmem, ⟨2, _⟩ => ⟨S1x32x512, .f32⟩
  | .local _ .vmem, ⟨3, _⟩ => ⟨S1x32x512, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S288x512, .f32⟩
  | .local _ .vmem, ⟨13, _⟩ => ⟨S8x280x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GluRefIdeal.lean ====
abbrev S16384x1024 : Shape := ⟨2, ![16384, 1024]⟩
abbrev S1x31x512 : Shape := ⟨3, ![1, 31, 512]⟩
abbrev S1x512 : Shape := ⟨2, ![1, 512]⟩
abbrev S8x2048x1024 : Shape := ⟨3, ![8, 2048, 1024]⟩
abbrev S8x2048x512 : Shape := ⟨3, ![8, 2048, 512]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8x2048x1024, .f32⟩
  | .hbm, ⟨6, _⟩ => ⟨S8x2048x512, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S_, .f32⟩
  | .hbm, ⟨11, _⟩ => ⟨S8x2048x512, .f32⟩
  | .hbm, ⟨12, _⟩ => ⟨S8x2048x512, .f32⟩
  | .hbm, ⟨13, _⟩ => ⟨S_, .f32⟩
  | .hbm, ⟨14, _⟩ => ⟨S8x2048x512, .f32⟩
  | .hbm, ⟨15, _⟩ => ⟨S8x2048x512, .f32⟩
  | .hbm, ⟨16, _⟩ => ⟨S8x2048x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Proof.BandSpec.lean ====
module

public import Idealize.ShloMosaic.Lib.Pipeline.ValueKit

@[expose] public section

noncomputable section

open Idealize.ShloMosaic

/-! # One query of a banded attention head, over two blocks of keys

A query sees 128 keys of its own block and 128 keys of the block before it. `top`, `den`, `out` and `lse` are the
maximum of the scores, the sum of the weights, the weighted mean of the values and the logarithm of the sum of the
exponentials, over the two blocks apart. The lemmas say that they are the same quantities over the 256 keys side by
side. -/

namespace Cert.BandSpec

/-- The scaled product of a query and a key. -/
def sc (q k : Fin 128 → EReal) : EReal := (∑ e, q e * k e) * Ideal.ofBits .f32 1035273459#32

/-- The score of key `y` of the query's own block, for the query in row `x`: keys after the query are masked. -/
def cur (x : Fin 128) (q : Fin 128 → EReal) (k : Fin 128 → Fin 128 → EReal) (y : Fin 128) : EReal :=
  if y.val ≤ x.val then sc q (k y) else ⊥

/-- The score of key `y` of the block before: keys more than 128 positions back are masked, and all keys of the block
before the first one. -/
def prev (b : Prop) [Decidable b] (x : Fin 128) (q : Fin 128 → EReal) (k : Fin 128 → Fin 128 → EReal) (y : Fin 128) : EReal :=
  if x.val ≤ y.val ∧ b then sc q (k y) else ⊥

/-- The greater of the two blocks' greatest scores. -/
def top (sc sp : Fin 128 → EReal) : EReal := max (Finset.univ.fold max ⊥ sc) (Finset.univ.fold max ⊥ sp)

/-- The sum of the weights. -/
def den (sc sp : Fin 128 → EReal) : EReal :=
  (∑ y, Ideal.exp (sc y - top sc sp)) + ∑ y, Ideal.exp (sp y - top sc sp)

/-- The weighted mean of the values. -/
def out (sc sp vc vp : Fin 128 → EReal) : EReal :=
  Ideal.div ((∑ y, Ideal.exp (sc y - top sc sp) * vc y) + ∑ y, Ideal.exp (sp y - top sc sp) * vp y) (den sc sp)

/-- The logarithm of the sum of the exponentials of the scores. -/
def lse (sc sp : Fin 128 → EReal) : EReal := top sc sp + Ideal.log (den sc sp)

/-- A maximum over 256 entries is the greater of the maxima of its halves. -/
theorem fold_max_halves (f : Fin 256 → EReal) :
    Finset.univ.fold max ⊥ f
      = max (Finset.univ.fold max ⊥ fun y : Fin 128 => f ⟨128 + y, by omega⟩) (Finset.univ.fold max ⊥ fun y : Fin 128 => f ⟨y, by omega⟩) := by
  refine eq_of_forall_ge_iff fun c => ?_
  simp only [max_le_iff, Finset.fold_max_le, bot_le, true_and, Finset.mem_univ, true_implies]
  constructor
  · intro h
    exact ⟨fun y => h _, fun y => h _⟩
  · rintro ⟨h1, h2⟩ x
    by_cases hx : x.val < 128
    · exact h2 ⟨x.val, hx⟩
    · have := h1 ⟨x.val - 128, by omega⟩
      have e : (⟨128 + (x.val - 128), by omega⟩ : Fin 256) = x := Fin.ext (by simp; omega)
      simpa only [e] using this

/-- A sum over 256 entries is the sum of its halves. -/
theorem sum_halves (f : Fin 256 → EReal) :
    ∑ x, f x = (∑ y : Fin 128, f ⟨128 + y, by omega⟩) + ∑ y : Fin 128, f ⟨y, by omega⟩ := by
  rw [add_comm]
  exact Fin.sum_univ_two_halves 128 128 rfl f

/-- The maximum over the 256 keys side by side. -/
theorem top_join (s : Fin 256 → EReal) :
    Finset.univ.fold max ⊥ s = top (fun y => s ⟨128 + y, by omega⟩) (fun y => s ⟨y, by omega⟩) := fold_max_halves s

/-- The sum of the weights over the 256 keys side by side. -/
theorem den_join (s : Fin 256 → EReal) :
    ∑ x, Ideal.exp (s x - Finset.univ.fold max ⊥ s) = den (fun y => s ⟨128 + y, by omega⟩) (fun y => s ⟨y, by omega⟩) := by
  rw [sum_halves, top_join, den]

/-- The weighted sum of the values over the 256 keys side by side. -/
theorem out_join (s v : Fin 256 → EReal) :
    Ideal.div (∑ x, v x * Ideal.exp (s x - Finset.univ.fold max ⊥ s)) (∑ x, Ideal.exp (s x - Finset.univ.fold max ⊥ s))
      = out (fun y => s ⟨128 + y, by omega⟩) (fun y => s ⟨y, by omega⟩) (fun y => v ⟨128 + y, by omega⟩) (fun y => v ⟨y, by omega⟩) := by
  rw [den_join, sum_halves, top_join, out]
  congr 2 <;> exact Finset.sum_congr rfl fun y _ => mul_comm _ _

end Cert.BandSpec

end
-- ==== Proof.AttnSame.lean ====
module

public import proofs.«01_k».proof.Proof.Gen.AttnIdeal.Value
public import Idealize.ShloMosaic.Lib.Pipeline.ValueKit

@[expose] public section

set_option maxRecDepth 16384

noncomputable section

open Idealize.ShloMosaic Idealize.ShloMosaic.TcCoe Idealize.SL.Sem

/-! # The eight heads are computed by the same functions

Each head's loads, scores, weights and means are printed apart; they are the ones of the second head. -/

namespace Cert.AttnIdeal.Head
open Cert.AttnIdeal Cert.AttnIdeal.Gen

/-- A head's block of queries, keys or values. -/
abbrev HB : Type := FVec Ideal S128x128 .bf16

/-- Loads of queries, keys and values. -/
theorem same_load :
    (k0_pay6 (F := Ideal) : Vec Ideal S1x128x128 .f32 → HB) = k0_pay5 (F := Ideal)
    ∧ (k0_pay7 (F := Ideal) : Vec Ideal S1x128x128 .f32 → HB) = k0_pay5 (F := Ideal)
    ∧ (k0_pay8 (F := Ideal) : Vec Ideal S1x128x128 .f32 → HB) = k0_pay5 (F := Ideal)
    ∧ (k0_pay9 (F := Ideal) : Vec Ideal S1x128x128 .f32 → HB) = k0_pay5 (F := Ideal)
    ∧ (k0_pay10 (F := Ideal) : Vec Ideal S1x128x128 .f32 → HB) = k0_pay5 (F := Ideal)
    ∧ (k0_pay11 (F := Ideal) : Vec Ideal S1x128x128 .f32 → HB) = k0_pay5 (F := Ideal)
    ∧ (k0_pay12 (F := Ideal) : Vec Ideal S1x128x128 .f32 → HB) = k0_pay5 (F := Ideal)
    ∧ (k0_pay13 (F := Ideal) : Vec Ideal S1x128x128 .f32 → HB) = k0_pay5 (F := Ideal)
    ∧ (k0_pay14 (F := Ideal) : Vec Ideal S1x128x128 .f32 → HB) = k0_pay5 (F := Ideal)
    ∧ (k0_pay15 (F := Ideal) : Vec Ideal S1x128x128 .f32 → HB) = k0_pay5 (F := Ideal)
    ∧ (k0_pay16 (F := Ideal) : Vec Ideal S1x128x128 .f32 → HB) = k0_pay5 (F := Ideal)
    ∧ (k0_pay17 (F := Ideal) : Vec Ideal S1x128x128 .f32 → HB) = k0_pay5 (F := Ideal)
    ∧ (k0_pay18 (F := Ideal) : Vec Ideal S1x128x128 .f32 → HB) = k0_pay5 (F := Ideal)
    ∧ (k0_pay19 (F := Ideal) : Vec Ideal S1x128x128 .f32 → HB) = k0_pay5 (F := Ideal)
    ∧ (k0_pay20 (F := Ideal) : Vec Ideal S1x128x128 .f32 → HB) = k0_pay5 (F := Ideal)
    ∧ (k0_pay21 (F := Ideal) : Vec Ideal S1x128x128 .f32 → HB) = k0_pay5 (F := Ideal)
    ∧ (k0_pay22 (F := Ideal) : Vec Ideal S1x128x128 .f32 → HB) = k0_pay5 (F := Ideal)
    ∧ (k0_pay23 (F := Ideal) : Vec Ideal S1x128x128 .f32 → HB) = k0_pay5 (F := Ideal)
    ∧ (k0_pay24 (F := Ideal) : Vec Ideal S1x128x128 .f32 → HB) = k0_pay5 (F := Ideal)
    ∧ (k0_pay25 (F := Ideal) : Vec Ideal S1x128x128 .f32 → HB) = k0_pay5 (F := Ideal)
    ∧ (k0_pay26 (F := Ideal) : Vec Ideal S1x128x128 .f32 → HB) = k0_pay5 (F := Ideal)
    ∧ (k0_pay27 (F := Ideal) : Vec Ideal S1x128x128 .f32 → HB) = k0_pay5 (F := Ideal)
    ∧ (k0_pay28 (F := Ideal) : Vec Ideal S1x128x128 .f32 → HB) = k0_pay5 (F := Ideal) :=
  ⟨rfl, rfl, rfl, rfl, rfl, rfl, rfl, rfl, rfl, rfl, rfl, rfl, rfl, rfl, rfl, rfl, rfl, rfl, rfl, rfl, rfl, rfl, rfl⟩

/-- Loads of the block before. -/
theorem same_prev :
    (k0_pay30 (F := Ideal) : Vec Ideal S128x128 .f32 → HB) = k0_pay29 (F := Ideal)
    ∧ (k0_pay31 (F := Ideal) : Vec Ideal S128x128 .f32 → HB) = k0_pay29 (F := Ideal)
    ∧ (k0_pay32 (F := Ideal) : Vec Ideal S128x128 .f32 → HB) = k0_pay29 (F := Ideal)
    ∧ (k0_pay33 (F := Ideal) : Vec Ideal S128x128 .f32 → HB) = k0_pay29 (F := Ideal)
    ∧ (k0_pay34 (F := Ideal) : Vec Ideal S128x128 .f32 → HB) = k0_pay29 (F := Ideal)
    ∧ (k0_pay35 (F := Ideal) : Vec Ideal S128x128 .f32 → HB) = k0_pay29 (F := Ideal)
    ∧ (k0_pay36 (F := Ideal) : Vec Ideal S128x128 .f32 → HB) = k0_pay29 (F := Ideal)
    ∧ (k0_pay37 (F := Ideal) : Vec Ideal S128x128 .f32 → HB) = k0_pay29 (F := Ideal)
    ∧ (k0_pay38 (F := Ideal) : Vec Ideal S128x128 .f32 → HB) = k0_pay29 (F := Ideal)
    ∧ (k0_pay39 (F := Ideal) : Vec Ideal S128x128 .f32 → HB) = k0_pay29 (F := Ideal)
    ∧ (k0_pay40 (F := Ideal) : Vec Ideal S128x128 .f32 → HB) = k0_pay29 (F := Ideal)
    ∧ (k0_pay41 (F := Ideal) : Vec Ideal S128x128 .f32 → HB) = k0_pay29 (F := Ideal)
    ∧ (k0_pay42 (F := Ideal) : Vec Ideal S128x128 .f32 → HB) = k0_pay29 (F := Ideal)
    ∧ (k0_pay43 (F := Ideal) : Vec Ideal S128x128 .f32 → HB) = k0_pay29 (F := Ideal)
    ∧ (k0_pay44 (F := Ideal) : Vec Ideal S128x128 .f32 → HB) = k0_pay29 (F := Ideal) :=
  ⟨rfl, rfl, rfl, rfl, rfl, rfl, rfl, rfl, rfl, rfl, rfl, rfl, rfl, rfl, rfl⟩

/-- Scores with the block's keys. -/
theorem same_cur :
    (k0_pay47 : HB → HB → FVec Ideal S128x128 .f32) = k0_pay48
    ∧ (∀ q k : HB, k0_pay49 q k k0_pay45 = k0_pay48 q k)
    ∧ (∀ q k : HB, k0_pay50 q k k0_pay45 = k0_pay48 q k)
    ∧ (∀ q k : HB, k0_pay51 q k k0_pay45 = k0_pay48 q k)
    ∧ (∀ q k : HB, k0_pay52 q k k0_pay45 = k0_pay48 q k)
    ∧ (∀ q k : HB, k0_pay53 q k k0_pay45 = k0_pay48 q k)
    ∧ (∀ q k : HB, k0_pay54 q k k0_pay45 = k0_pay48 q k) :=
  ⟨rfl, fun _ _ => rfl, fun _ _ => rfl, fun _ _ => rfl, fun _ _ => rfl, fun _ _ => rfl, fun _ _ => rfl⟩

/-- Greatest scores of the block. -/
theorem same_max :
    (k0_pay55 : FVec Ideal S128x128 .f32 → FVec Ideal S128x1 .f32) = k0_pay56
    ∧ (k0_pay59 : FVec Ideal S128x128 .f32 → FVec Ideal S128x1 .f32) = k0_pay56
    ∧ (k0_pay60 : FVec Ideal S128x128 .f32 → FVec Ideal S128x1 .f32) = k0_pay56
    ∧ (k0_pay61 : FVec Ideal S128x128 .f32 → FVec Ideal S128x1 .f32) = k0_pay56
    ∧ (k0_pay62 : FVec Ideal S128x128 .f32 → FVec Ideal S128x1 .f32) = k0_pay56
    ∧ (∀ q k : HB, k0_pay57 q k k0_pay45 = k0_pay56 (k0_pay48 q k))
    ∧ (∀ q k : HB, k0_pay58 q k k0_pay45 = k0_pay56 (k0_pay48 q k)) :=
  ⟨rfl, rfl, rfl, rfl, rfl, fun _ _ => rfl, fun _ _ => rfl⟩

/-- Scores with the keys of the block before. -/
theorem same_before :
    (k0_pay63 : HB → HB → IVec S128x128 1 → FVec Ideal S128x128 .f32) = k0_pay64
    ∧ (k0_pay65 : HB → HB → IVec S128x128 1 → FVec Ideal S128x128 .f32) = k0_pay64
    ∧ (k0_pay66 : HB → HB → IVec S128x128 1 → FVec Ideal S128x128 .f32) = k0_pay64
    ∧ (k0_pay67 : HB → HB → IVec S128x128 1 → FVec Ideal S128x128 .f32) = k0_pay64
    ∧ (k0_pay68 : HB → HB → IVec S128x128 1 → FVec Ideal S128x128 .f32) = k0_pay64
    ∧ (k0_pay69 : HB → HB → IVec S128x128 1 → FVec Ideal S128x128 .f32) = k0_pay64
    ∧ (k0_pay70 : HB → HB → IVec S128x128 1 → FVec Ideal S128x128 .f32) = k0_pay64 :=
  ⟨rfl, rfl, rfl, rfl, rfl, rfl, rfl⟩

/-- Greatest scores of both blocks. -/
theorem same_top :
    (k0_pay71 : FVec Ideal S128x1 .f32 → FVec Ideal S128x128 .f32 → FVec Ideal S128x1 .f32) = k0_pay72
    ∧ (k0_pay73 : FVec Ideal S128x1 .f32 → FVec Ideal S128x128 .f32 → FVec Ideal S128x1 .f32) = k0_pay72
    ∧ (k0_pay74 : FVec Ideal S128x1 .f32 → FVec Ideal S128x128 .f32 → FVec Ideal S128x1 .f32) = k0_pay72
    ∧ (k0_pay75 : FVec Ideal S128x1 .f32 → FVec Ideal S128x128 .f32 → FVec Ideal S128x1 .f32) = k0_pay72
    ∧ (k0_pay76 : FVec Ideal S128x1 .f32 → FVec Ideal S128x128 .f32 → FVec Ideal S128x1 .f32) = k0_pay72
    ∧ (∀ (q k : HB) (b : IVec S128x128 1) (m : FVec Ideal S128x1 .f32), k0_pay77 q k b m = k0_pay72 m (k0_pay64 q k b))
    ∧ (∀ (q k : HB) (b : IVec S128x128 1) (m : FVec Ideal S128x1 .f32), k0_pay78 q k b m = k0_pay72 m (k0_pay64 q k b)) :=
  ⟨rfl, rfl, rfl, rfl, rfl, fun _ _ _ _ => rfl, fun _ _ _ _ => rfl⟩

/-- Weights. -/
theorem same_weight :
    (∀ (s : FVec Ideal S128x128 .f32) (m : FVec Ideal S128x1 .f32) (p : FVec Ideal S128x128 .f32), k0_pay79 s m p = k0_pay104 s (k0_pay72 m p))
    ∧ (∀ (s : FVec Ideal S128x128 .f32) (m : FVec Ideal S128x1 .f32) (p : FVec Ideal S128x128 .f32), k0_pay80 s m p = k0_pay104 s (k0_pay72 m p))
    ∧ (∀ (s : FVec Ideal S128x128 .f32) (m : FVec Ideal S128x1 .f32) (p : FVec Ideal S128x128 .f32), k0_pay81 s m p = k0_pay104 s (k0_pay72 m p))
    ∧ (∀ (s : FVec Ideal S128x128 .f32) (m : FVec Ideal S128x1 .f32) (p : FVec Ideal S128x128 .f32), k0_pay82 s m p = k0_pay104 s (k0_pay72 m p))
    ∧ (k0_pay83 : FVec Ideal S128x128 .f32 → FVec Ideal S128x1 .f32 → FVec Ideal S128x128 .f32) = k0_pay104
    ∧ (k0_pay84 : FVec Ideal S128x128 .f32 → FVec Ideal S128x1 .f32 → FVec Ideal S128x128 .f32) = k0_pay104
    ∧ (k0_pay85 : FVec Ideal S128x128 .f32 → FVec Ideal S128x1 .f32 → FVec Ideal S128x128 .f32) = k0_pay104
    ∧ (k0_pay86 : FVec Ideal S128x128 .f32 → FVec Ideal S128x1 .f32 → FVec Ideal S128x128 .f32) = k0_pay104
    ∧ (k0_pay103 : FVec Ideal S128x128 .f32 → FVec Ideal S128x1 .f32 → FVec Ideal S128x128 .f32) = k0_pay104
    ∧ (k0_pay105 : FVec Ideal S128x128 .f32 → FVec Ideal S128x1 .f32 → FVec Ideal S128x128 .f32) = k0_pay104
    ∧ (k0_pay106 : FVec Ideal S128x128 .f32 → FVec Ideal S128x1 .f32 → FVec Ideal S128x128 .f32) = k0_pay104
    ∧ (k0_pay107 : FVec Ideal S128x128 .f32 → FVec Ideal S128x1 .f32 → FVec Ideal S128x128 .f32) = k0_pay104
    ∧ (k0_pay108 : FVec Ideal S128x128 .f32 → FVec Ideal S128x1 .f32 → FVec Ideal S128x128 .f32) = k0_pay104
    ∧ (k0_pay109 : FVec Ideal S128x128 .f32 → FVec Ideal S128x1 .f32 → FVec Ideal S128x128 .f32) = k0_pay104
    ∧ (k0_pay110 : FVec Ideal S128x128 .f32 → FVec Ideal S128x1 .f32 → FVec Ideal S128x128 .f32) = k0_pay104 :=
  ⟨fun _ _ _ => rfl, fun _ _ _ => rfl, fun _ _ _ => rfl, fun _ _ _ => rfl, rfl, rfl, rfl, rfl, rfl, rfl, rfl, rfl, rfl, rfl, rfl⟩

/-- Sums of weights. -/
theorem same_sum :
    (k0_pay87 : FVec Ideal S128x128 .f32 → FVec Ideal S128x1 .f32) = k0_pay88
    ∧ (k0_pay89 : FVec Ideal S128x128 .f32 → FVec Ideal S128x1 .f32) = k0_pay88
    ∧ (k0_pay90 : FVec Ideal S128x128 .f32 → FVec Ideal S128x1 .f32) = k0_pay88
    ∧ (∀ (s : FVec Ideal S128x128 .f32) (m : FVec Ideal S128x1 .f32), k0_pay91 s m = k0_pay88 (k0_pay104 s m))
    ∧ (∀ (s : FVec Ideal S128x128 .f32) (m : FVec Ideal S128x1 .f32), k0_pay92 s m = k0_pay88 (k0_pay104 s m))
    ∧ (∀ (s : FVec Ideal S128x128 .f32) (m : FVec Ideal S128x1 .f32), k0_pay93 s m = k0_pay88 (k0_pay104 s m))
    ∧ (∀ (s : FVec Ideal S128x128 .f32) (m : FVec Ideal S128x1 .f32), k0_pay94 s m = k0_pay88 (k0_pay104 s m))
    ∧ (k0_pay111 : FVec Ideal S128x128 .f32 → FVec Ideal S128x1 .f32 → FVec Ideal S128x1 .f32 → FVec Ideal S128x1 .f32) = k0_pay112
    ∧ (k0_pay113 : FVec Ideal S128x128 .f32 → FVec Ideal S128x1 .f32 → FVec Ideal S128x1 .f32 → FVec Ideal S128x1 .f32) = k0_pay112
    ∧ (k0_pay114 : FVec Ideal S128x128 .f32 → FVec Ideal S128x1 .f32 → FVec Ideal S128x1 .f32 → FVec Ideal S128x1 .f32) = k0_pay112
    ∧ (k0_pay115 : FVec Ideal S128x128 .f32 → FVec Ideal S128x1 .f32 → FVec Ideal S128x1 .f32 → FVec Ideal S128x1 .f32) = k0_pay112
    ∧ (k0_pay116 : FVec Ideal S128x128 .f32 → FVec Ideal S128x1 .f32 → FVec Ideal S128x1 .f32 → FVec Ideal S128x1 .f32) = k0_pay112
    ∧ (k0_pay117 : FVec Ideal S128x128 .f32 → FVec Ideal S128x1 .f32 → FVec Ideal S128x1 .f32 → FVec Ideal S128x1 .f32) = k0_pay112
    ∧ (k0_pay118 : FVec Ideal S128x128 .f32 → FVec Ideal S128x1 .f32 → FVec Ideal S128x1 .f32 → FVec Ideal S128x1 .f32) = k0_pay112 :=
  ⟨rfl, rfl, rfl, fun _ _ => rfl, fun _ _ => rfl, fun _ _ => rfl, fun _ _ => rfl, rfl, rfl, rfl, rfl, rfl, rfl, rfl⟩

/-- Weighted sums of the values. -/
theorem same_mean :
    (k0_pay95 : HB → FVec Ideal S128x128 .f32 → FVec Ideal S128x128 .f32) = k0_pay96
    ∧ (k0_pay97 : HB → FVec Ideal S128x128 .f32 → FVec Ideal S128x128 .f32) = k0_pay96
    ∧ (k0_pay98 : HB → FVec Ideal S128x128 .f32 → FVec Ideal S128x128 .f32) = k0_pay96
    ∧ (∀ (v : HB) (s : FVec Ideal S128x128 .f32) (m : FVec Ideal S128x1 .f32), k0_pay99 v s m = k0_pay96 v (k0_pay104 s m))
    ∧ (∀ (v : HB) (s : FVec Ideal S128x128 .f32) (m : FVec Ideal S128x1 .f32), k0_pay100 v s m = k0_pay96 v (k0_pay104 s m))
    ∧ (∀ (v : HB) (s : FVec Ideal S128x128 .f32) (m : FVec Ideal S128x1 .f32), k0_pay101 v s m = k0_pay96 v (k0_pay104 s m))
    ∧ (∀ (v : HB) (s : FVec Ideal S128x128 .f32) (m : FVec Ideal S128x1 .f32), k0_pay102 v s m = k0_pay96 v (k0_pay104 s m)) :=
  ⟨rfl, rfl, rfl, fun _ _ _ => rfl, fun _ _ _ => rfl, fun _ _ _ => rfl, fun _ _ _ => rfl⟩

/-- Outputs. -/
theorem same_out :
    (∀ (v : HB) (p n : FVec Ideal S128x128 .f32) (m d : FVec Ideal S128x1 .f32), k0_pay120 d (k0_pay119 v p m n) = k0_pay121 v n (k0_pay104 p m) d)
    ∧ (k0_pay122 : HB → FVec Ideal S128x128 .f32 → FVec Ideal S128x128 .f32 → FVec Ideal S128x1 .f32 → FVec Ideal S128x128 .f32) = k0_pay121
    ∧ (k0_pay123 : HB → FVec Ideal S128x128 .f32 → FVec Ideal S128x128 .f32 → FVec Ideal S128x1 .f32 → FVec Ideal S128x128 .f32) = k0_pay121
    ∧ (k0_pay124 : HB → FVec Ideal S128x128 .f32 → FVec Ideal S128x128 .f32 → FVec Ideal S128x1 .f32 → FVec Ideal S128x128 .f32) = k0_pay121
    ∧ (k0_pay125 : HB → FVec Ideal S128x128 .f32 → FVec Ideal S128x128 .f32 → FVec Ideal S128x1 .f32 → FVec Ideal S128x128 .f32) = k0_pay121
    ∧ (k0_pay126 : HB → FVec Ideal S128x128 .f32 → FVec Ideal S128x128 .f32 → FVec Ideal S128x1 .f32 → FVec Ideal S128x128 .f32) = k0_pay121
    ∧ (k0_pay127 : HB → FVec Ideal S128x128 .f32 → FVec Ideal S128x128 .f32 → FVec Ideal S128x1 .f32 → FVec Ideal S128x128 .f32) = k0_pay121 :=
  ⟨fun _ _ _ _ _ => rfl, rfl, rfl, rfl, rfl, rfl, rfl⟩

/-- Logarithms of the sums. -/
theorem same_lse :
    (k0_pay128 : FVec Ideal S128x1 .f32 → FVec Ideal S128x1 .f32 → FVec Ideal S128x1 .f32) = k0_pay129
    ∧ (k0_pay130 : FVec Ideal S128x1 .f32 → FVec Ideal S128x1 .f32 → FVec Ideal S128x1 .f32) = k0_pay129
    ∧ (k0_pay131 : FVec Ideal S128x1 .f32 → FVec Ideal S128x1 .f32 → FVec Ideal S128x1 .f32) = k0_pay129
    ∧ (k0_pay132 : FVec Ideal S128x1 .f32 → FVec Ideal S128x1 .f32 → FVec Ideal S128x1 .f32) = k0_pay129
    ∧ (k0_pay133 : FVec Ideal S128x1 .f32 → FVec Ideal S128x1 .f32 → FVec Ideal S128x1 .f32) = k0_pay129
    ∧ (k0_pay134 : FVec Ideal S128x1 .f32 → FVec Ideal S128x1 .f32 → FVec Ideal S128x1 .f32) = k0_pay129
    ∧ (k0_pay135 : FVec Ideal S128x1 .f32 → FVec Ideal S128x1 .f32 → FVec Ideal S128x1 .f32) = k0_pay129 :=
  ⟨rfl, rfl, rfl, rfl, rfl, rfl, rfl⟩

/-- Stored outputs. -/
theorem same_store :
    (k0_pay1 : FVec Ideal S128x128 .f32 → FVec Ideal S1x128x128 .f32) = k0_pay137
    ∧ (k0_pay136 : FVec Ideal S128x128 .f32 → FVec Ideal S1x128x128 .f32) = k0_pay137
    ∧ (k0_pay138 : FVec Ideal S128x128 .f32 → FVec Ideal S1x128x128 .f32) = k0_pay137
    ∧ (k0_pay140 : FVec Ideal S128x128 .f32 → FVec Ideal S1x128x128 .f32) = k0_pay137
    ∧ (k0_pay141 : FVec Ideal S128x128 .f32 → FVec Ideal S1x128x128 .f32) = k0_pay137
    ∧ (k0_pay142 : FVec Ideal S128x128 .f32 → FVec Ideal S1x128x128 .f32) = k0_pay137
    ∧ (k0_pay144 : FVec Ideal S128x128 .f32 → FVec Ideal S1x128x128 .f32) = k0_pay137 :=
  ⟨rfl, rfl, rfl, rfl, rfl, rfl, rfl⟩

end Cert.AttnIdeal.Head

end
-- ==== Proof.AttnHead.lean ====
module

public import proofs.«01_k».proof.Proof.BandSpec
public import proofs.«01_k».proof.Proof.AttnSame
public import Idealize.ShloMosaic.Lib.Pipeline.ValueKit

@[expose] public section

set_option maxRecDepth 16384

noncomputable section

open Idealize.ShloMosaic Idealize.ShloMosaic.TcCoe Idealize.SL.Sem

/-! # One head of the kernel's banded attention

The kernel computes the scores of a head's 128 queries with the 128 keys of their block and of the block before, masks
them, and takes the weighted mean of the values and the logarithm of the sum of the exponentials. At a query these are
`BandSpec.out` and `BandSpec.lse`. -/

namespace Cert.AttnIdeal.Head
open Cert.AttnIdeal Cert.AttnIdeal.Gen Cert.BandSpec

variable (q k v kp vp : HB) (n : Fin 16) (i : Fin 128)

/-- The bit pattern of minus infinity. -/
theorem bot_bits : Ideal.ofBits .f32 4286578688#32 = (⊥ : EReal) := by simp [Ideal.ofBits, Ideal.ieee]

/-- The mask's constant is minus infinity. -/
theorem mask_bot : Named.named (F := Ideal) (φ := .f32) κ "mask" 4048155338#32 = (⊥ : EReal) :=
  IdealRules.named_const.ideal_named_scalar _ _ _ _ rfl

/-- A word comparison of two positions of a block. -/
theorem le_word : ∀ i j : Fin 128,
    IntOp.cmpi .sle (BitVec.ofNat 32 j.val) (BitVec.ofNat 32 i.val) = BitVec.ofBool (decide (j.val ≤ i.val)) := by
  decide +kernel

/-- A word comparison of two positions of a block, the other way. -/
theorem ge_word : ∀ i j : Fin 128,
    IntOp.cmpi .sge (BitVec.ofNat 32 j.val) (BitVec.ofNat 32 i.val) = BitVec.ofBool (decide (i.val ≤ j.val)) := by
  decide +kernel

/-- The word comparison of a block number with zero. -/
theorem pos_word : ∀ n : Fin 16, Scalar.cmpi .sgt (BitVec.ofNat 32 n.val) 0#32 = BitVec.ofBool (decide (0 < n.val)) := by
  decide +kernel

/-- A selection on a decided bit. -/
theorem select_bit (p : Prop) [Decidable p] (u v : EReal) :
    Scalar.select (BitVec.ofBool (decide p)) u v = if p then u else v := by
  by_cases hp : p <;> simp [hp, Scalar.select]

/-- The conjunction of two decided bits. -/
theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The scores of query `i` with the keys of its block. -/
def hc : Fin 128 → EReal := cur i (fun e => q (ix2 i e)) fun y e => k (ix2 y e)

/-- The scores of query `i` with the keys of the block before. -/
def hp : Fin 128 → EReal := prev (0 < n.val) i (fun e => q (ix2 i e)) fun y e => kp (ix2 y e)

/-- The kernel's scores with the block's keys. -/
theorem s_cur (y : Fin 128) : k0_pay48 (F := Ideal) q k (ix2 i y) = hc q k i y := by
  pointwise [k0_pay48, k0_pay45]
  rw [hc, cur, sc]
  rw [le_word, select_bit, mask_bot]

/-- The kernel's scores with the keys of the block before. -/
theorem s_prev (y : Fin 128) :
    k0_pay64 (F := Ideal) q kp (k0_pay46 (BitVec.ofNat 32 n.val)) (ix2 i y) = hp q kp n i y := by
  pointwise [k0_pay64, k0_pay46]
  rw [ge_word, pos_word, and_bit, select_bit, mask_bot, hp, prev]
  rfl

/-- The greatest score. -/
theorem top_at (s p : FVec Ideal S128x128 .f32) :
    k0_pay72 (F := Ideal) (k0_pay56 s) p (ix2 i 0) = top (fun y => s (ix2 i y)) fun y => p (ix2 i y) := by
  pointwise [k0_pay72, k0_pay56]
  rw [bot_bits, top]

/-- The weights, for scores `r` and the greatest of the scores `s` and `p`. -/
theorem w_at (r s p : FVec Ideal S128x128 .f32) (y : Fin 128) :
    k0_pay104 (F := Ideal) r (k0_pay72 (k0_pay56 s) p) (ix2 i y)
      = Ideal.exp (r (ix2 i y) - top (fun y => s (ix2 i y)) fun y => p (ix2 i y)) := by
  rw [← top_at]
  pointwise [k0_pay104]

/-- The sum of the weights. -/
theorem den_at (s p : FVec Ideal S128x128 .f32) :
    k0_pay112 (F := Ideal) p (k0_pay72 (k0_pay56 s) p) (k0_pay88 (k0_pay104 s (k0_pay72 (k0_pay56 s) p))) (ix2 i 0)
      = den (fun y => s (ix2 i y)) fun y => p (ix2 i y) := by
  pointwise [k0_pay112, k0_pay88, w_at]
  rw [den]

/-- The logarithm of the sum of the exponentials. -/
theorem lse_at (s p : FVec Ideal S128x128 .f32) :
    k0_pay129 (F := Ideal) (k0_pay72 (k0_pay56 s) p)
        (k0_pay112 p (k0_pay72 (k0_pay56 s) p) (k0_pay88 (k0_pay104 s (k0_pay72 (k0_pay56 s) p)))) (ix2 i 0)
      = lse (fun y => s (ix2 i y)) fun y => p (ix2 i y) := by
  pointwise [k0_pay129, den_at, top_at]
  rw [lse]

/-- The weighted mean of the values. -/
theorem out_at (s p : FVec Ideal S128x128 .f32) (e : Fin 128) :
    k0_pay121 (F := Ideal) vp (k0_pay96 v (k0_pay104 s (k0_pay72 (k0_pay56 s) p))) (k0_pay104 p (k0_pay72 (k0_pay56 s) p))
        (k0_pay112 p (k0_pay72 (k0_pay56 s) p) (k0_pay88 (k0_pay104 s (k0_pay72 (k0_pay56 s) p)))) (ix2 i e)
      = out (fun y => s (ix2 i y)) (fun y => p (ix2 i y)) (fun y => v (ix2 y e)) fun y => vp (ix2 y e) := by
  pointwise [k0_pay121, k0_pay96, den_at, w_at]
  rw [out]

/-! ## A head at named entries -/

variable (b : IVec S128x128 1)

/-- A head's scores with its block's keys. -/
abbrev SC : FVec Ideal S128x128 .f32 := k0_pay48 q k
/-- A head's scores with the keys of the block before, under the mask `b`. -/
abbrev SP : FVec Ideal S128x128 .f32 := k0_pay64 q kp b
/-- A head's sum of weights. -/
abbrev DN : FVec Ideal S128x1 .f32 :=
  k0_pay112 (SP q kp b) (k0_pay72 (k0_pay56 (SC q k)) (SP q kp b)) (k0_pay88 (k0_pay104 (SC q k) (k0_pay72 (k0_pay56 (SC q k)) (SP q kp b))))
/-- A head's output. -/
abbrev HO : FVec Ideal S128x128 .f32 :=
  k0_pay121 vp (k0_pay96 v (k0_pay104 (SC q k) (k0_pay72 (k0_pay56 (SC q k)) (SP q kp b))))
    (k0_pay104 (SP q kp b) (k0_pay72 (k0_pay56 (SC q k)) (SP q kp b))) (DN q k kp b)
/-- A head's logarithm of the sum of the exponentials. -/
abbrev HL : FVec Ideal S128x1 .f32 := k0_pay129 (k0_pay72 (k0_pay56 (SC q k)) (SP q kp b)) (DN q k kp b)

variable (Q K V Kp Vp : Fin 128 → Fin 128 → EReal)

/-- A head's stored output, for queries, keys and values with given entries. -/
theorem stored (e : Fin 128) (hq : ∀ y e, q (ix2 y e) = Q y e) (hk : ∀ y e, k (ix2 y e) = K y e)
    (hv : ∀ y e, v (ix2 y e) = V y e) (hkp : ∀ y e, kp (ix2 y e) = Kp y e) (hvp : ∀ y e, vp (ix2 y e) = Vp y e) :
    k0_pay137 (F := Ideal) (HO q k v kp vp (k0_pay46 (BitVec.ofNat 32 n.val))) (ix3 0 i e)
      = out (cur i (Q i) K) (prev (0 < n.val) i (Q i) Kp) (fun y => V y e) fun y => Vp y e := by
  pointwise [k0_pay137]
  refine (out_at v vp i (SC q k) (SP q kp _) e).trans ?_
  simp only [SC, SP, s_cur, s_prev, hc, hp, hq, hk, hv, hkp, hvp]

/-- A head's logarithm of the sum of the exponentials, for queries and keys with given entries. -/
theorem logsum (hq : ∀ y e, q (ix2 y e) = Q y e) (hk : ∀ y e, k (ix2 y e) = K y e) (hkp : ∀ y e, kp (ix2 y e) = Kp y e) :
    HL q k kp (k0_pay46 (BitVec.ofNat 32 n.val)) (ix2 i 0) = lse (cur i (Q i) K) (prev (0 < n.val) i (Q i) Kp) := by
  refine (lse_at i (SC q k) (SP q kp _)).trans ?_
  simp only [SC, SP, s_cur, s_prev, hc, hp, hq, hk, hkp]

/-- The word comparison of a lane with a head's number. -/
theorem eq_word (j : Fin 128) (h : ℕ) (hh : h < 8) :
    IntOp.cmpi .eq (BitVec.ofNat 32 j.val) (BitVec.ofNat 32 h) = BitVec.ofBool (decide (j.val = h)) :=
  (by decide +kernel : ∀ (j : Fin 128) (h : Fin 8),
    IntOp.cmpi .eq (BitVec.ofNat 32 j.val) (BitVec.ofNat 32 h.val) = BitVec.ofBool (decide (j.val = h.val))) j ⟨h, hh⟩

/-- The lanes of the log-sum-exp block: lane `j` below 8 is head `j`'s, the others are zero. -/
theorem lanes (l0 l1 l2 l3 l4 l5 l6 l7 : FVec Ideal S128x1 .f32) (g : Fin 8 → EReal) (j : Fin 128)
    (h0 : l0 (ix2 i 0) = g 0) (h1 : l1 (ix2 i 0) = g 1) (h2 : l2 (ix2 i 0) = g 2) (h3 : l3 (ix2 i 0) = g 3)
    (h4 : l4 (ix2 i 0) = g 4) (h5 : l5 (ix2 i 0) = g 5) (h6 : l6 (ix2 i 0) = g 6) (h7 : l7 (ix2 i 0) = g 7) :
    k0_pay2 (F := Ideal) l7 (k0_pay143 l3 l4 l5 (k0_pay139 l0 l1 l2)) (k0_pay145 l6) (ix3 0 i j)
      = if h : j.val < 8 then g ⟨j.val, h⟩ else 0 := by
  pointwise [k0_pay2, k0_pay143, k0_pay139, k0_pay145]
  rw [eq_word j 0 (by omega), eq_word j 1 (by omega), eq_word j 2 (by omega), eq_word j 3 (by omega),
    eq_word j 4 (by omega), eq_word j 5 (by omega), eq_word j 6 (by omega), eq_word j 7 (by omega)]
  simp only [select_bit, h0, h1, h2, h3, h4, h5, h6, h7]
  by_cases hj : j.val < 8
  · rw [dif_pos hj]
    obtain ⟨r, hr⟩ : ∃ r : Fin 8, j.val = r.val := ⟨⟨j.val, hj⟩, rfl⟩
    rw [show (⟨j.val, hj⟩ : Fin 8) = r from Fin.ext hr]
    simp only [hr]
    fin_cases r <;> simp
  · rw [dif_neg hj, if_neg (by omega), if_neg (by omega), if_neg (by omega), if_neg (by omega), if_neg (by omega),
      if_neg (by omega), if_neg (by omega), if_neg (by omega)]
    simp

end Cert.AttnIdeal.Head

end
-- ==== Proof.AttnPoint.lean ====
module

public import proofs.«01_k».proof.Proof.AttnHead
public import proofs.«01_k».proof.Proof.Gen.AttnIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! # A grid point of the kernel's banded attention -/

namespace Cert.AttnIdeal.Point
open Cert.AttnIdeal Cert.AttnIdeal.Gen Cert.BandSpec

variable (c : Dev nD) (t : Fin cfg0.N) (xq : Vec Ideal S1x128x1024 .f32) (xk : Vec Ideal S1x128x2048 .f32)
  (xs0 : Vec Ideal S128x2048 .f32)

/-- The query at row `i` of the block, head `h`. -/
def qe (h : Fin 8) (i e : Fin 128) : EReal := xq (ix3 0 i ⟨h.val * 128 + e.val, by omega⟩)
/-- The key at row `y` of the block, head `h`. -/
def ke (h : Fin 8) (y e : Fin 128) : EReal := xk (ix3 0 y ⟨h.val * 128 + e.val, by omega⟩)
/-- The value at row `y` of the block, head `h`. -/
def ve (h : Fin 8) (y e : Fin 128) : EReal := xk (ix3 0 y ⟨1024 + (h.val * 128 + e.val), by omega⟩)
/-- The key at row `y` of the carried block, head `h`. -/
def kpe (h : Fin 8) (y e : Fin 128) : EReal := xs0 (ix2 y ⟨h.val * 128 + e.val, by omega⟩)
/-- The value at row `y` of the carried block, head `h`. -/
def vpe (h : Fin 8) (y e : Fin 128) : EReal := xs0 (ix2 y ⟨1024 + (h.val * 128 + e.val), by omega⟩)

/-- Reading the carried block whole gives what it holds. -/
theorem read_carried (hw : (Memref.whole cc0_scratch0).IsWhole) :
    View.read (Elt Ideal) (View.whole cc0_scratch0) (hw.unread xs0) = xs0 := hw.read_unread xs0

/-- Reading any part of the carried block after it is cleared gives zeros. -/
theorem read_cleared (r : Rect S128x2048) :
    (View.whole cc0_scratch0).readCov [(⟨Rect.unit ![0, 0] ![128, 2048] inb_S128x2048_S128x2048_0_0, k0_pay4 (F := Ideal)⟩ : View.Piece (Elt Ideal) S128x2048 .f32)]
      r.toLoadRect = fun _ => (0 : EReal) := by
  refine (View.readCov_fill (s := S128x2048) _ inb_S128x2048_S128x2048_0_0 _ [] r (by decide)).trans ?_
  funext y
  show k0_pay4 (F := Ideal) (r.emb y) = 0
  generalize r.emb y = z
  idx_vars z
  pointwise [k0_pay4]

/-- The outputs at a later block of a row: the block before is the carried one. -/
theorem oB (n : Fin 16) (hn : (grid0.coords t 1).val = n.val) (hc : ¬cond0_0 (grid0.coords t)) (y : S1x128x1024.Idx) (h : Fin 8)
    (i e : Fin 128) (hy1 : (y 1).val = i.val) (hy2 : (y 2).val = h.val * 128 + e.val) :
    out0_B_2 (F := Ideal) c (grid0.coords t) (ms0_0 t) (hs0_0 t) (ms0_1 t) (hs0_1 t) (ms0_2 t) (hs0_2 t) (ms0_3 t) (hs0_3 t) scM0_0
      (Memref.isWhole_whole _) hc xq xk xs0 y
      = out (cur i (qe xq h i) (ke xk h)) (prev (0 < n.val) i (qe xq h i) (kpe xs0 h)) (fun y => ve xk h y e) fun y => vpe xs0 h y e := by
  frame_out
  canon_tiles x hh
  all_goals
    rw [hn]
    idx_vars x
    obtain rfl : x0 = 0 := Subsingleton.elim _ _
    obtain rfl : i = x1 := Fin.ext (by omega)
    obtain rfl : e = x2 := Fin.ext (by omega)
    simp only [Head.same_load, Head.same_prev, Head.same_cur, Head.same_max, Head.same_before, Head.same_top, Head.same_weight,
      Head.same_sum, Head.same_mean, Head.same_out, Head.same_lse, Head.same_store, read_carried]
    refine Head.stored _ _ _ _ _ n _ (qe xq h) (ke xk h) (ve xk h) (kpe xs0 h) (vpe xs0 h) _ ?_ ?_ ?_ ?_ ?_
    all_goals
      intro y e
      pointwise [k0_pay5, k0_pay29, qe, ke, ve, kpe, vpe]
      blk_ext []

/-- The log-sum-exps at a later block of a row. -/
theorem lB (n : Fin 16) (hn : (grid0.coords t 1).val = n.val) (hc : ¬cond0_0 (grid0.coords t)) (i j : Fin 128) :
    out0_B_3 (F := Ideal) c (grid0.coords t) (ms0_0 t) (hs0_0 t) (ms0_1 t) (hs0_1 t) (ms0_2 t) (hs0_2 t) (ms0_3 t) (hs0_3 t) scM0_0
      (Memref.isWhole_whole _) hc xq xk xs0 (ix3 0 i j)
      = if h : j.val < 8 then lse (cur i (qe xq ⟨j.val, h⟩ i) (ke xk ⟨j.val, h⟩)) (prev (0 < n.val) i (qe xq ⟨j.val, h⟩ i) (kpe xs0 ⟨j.val, h⟩)) else 0 := by
  frame_out
  rw [hn]
  simp only [Head.same_load, Head.same_prev, Head.same_cur, Head.same_max, Head.same_before, Head.same_top, Head.same_weight,
      Head.same_sum, Head.same_mean, Head.same_out, Head.same_lse, Head.same_store, read_carried]
  refine Head.lanes _ _ _ _ _ _ _ _ _ (fun h => lse (cur i (qe xq h i) (ke xk h)) (prev (0 < n.val) i (qe xq h i) (kpe xs0 h))) _ ?_ ?_ ?_ ?_ ?_ ?_ ?_ ?_
  all_goals
    refine Head.logsum _ _ _ n _ (qe xq _) (ke xk _) (kpe xs0 _) ?_ ?_ ?_
    all_goals
      intro y e
      pointwise [k0_pay5, k0_pay29, qe, ke, kpe]
      blk_ext []

/-- A later block of a row leaves its keys and values in the carried block. -/
theorem sB (hc : ¬cond0_0 (grid0.coords t)) :
    sout0_B_0 (F := Ideal) c (grid0.coords t) (ms0_0 t) (hs0_0 t) (ms0_1 t) (hs0_1 t) (ms0_2 t) (hs0_2 t) (ms0_3 t) (hs0_3 t) scM0_0
      (Memref.isWhole_whole _) hc xq xk xs0 = k0_pay3 xk := by
  funext y
  frame_out

/-- The first block of a row leaves its keys and values in the carried block. -/
theorem sA (hc : cond0_0 (grid0.coords t)) :
    sout0_A_0 (F := Ideal) c (grid0.coords t) (ms0_0 t) (hs0_0 t) (ms0_1 t) (hs0_1 t) (ms0_2 t) (hs0_2 t) (ms0_3 t) (hs0_3 t) scM0_0
      (Memref.isWhole_whole _) hc xq xk = k0_pay3 xk := by
  funext y
  frame_out

/-- The outputs at the first block of a row: the block before counts as zeros, under the mask. -/
theorem oA (n : Fin 16) (hn : (grid0.coords t 1).val = n.val) (hc : cond0_0 (grid0.coords t)) (y : S1x128x1024.Idx) (h : Fin 8)
    (i e : Fin 128) (hy1 : (y 1).val = i.val) (hy2 : (y 2).val = h.val * 128 + e.val) :
    out0_A_2 (F := Ideal) c (grid0.coords t) (ms0_0 t) (hs0_0 t) (ms0_1 t) (hs0_1 t) (ms0_2 t) (hs0_2 t) (ms0_3 t) (hs0_3 t) scM0_0
      (Memref.isWhole_whole _) hc xq xk y
      = out (cur i (qe xq h i) (ke xk h)) (prev (0 < n.val) i (qe xq h i) (kpe (fun _ => 0) h)) (fun y => ve xk h y e) fun y => vpe (fun _ => 0) h y e := by
  frame_out
  canon_tiles x hh
  all_goals
    rw [hn]
    idx_vars x
    obtain rfl : x0 = 0 := Subsingleton.elim _ _
    obtain rfl : i = x1 := Fin.ext (by omega)
    obtain rfl : e = x2 := Fin.ext (by omega)
    simp only [Head.same_load, Head.same_prev, Head.same_cur, Head.same_max, Head.same_before, Head.same_top, Head.same_weight,
      Head.same_sum, Head.same_mean, Head.same_out, Head.same_lse, Head.same_store]
    refine Head.stored _ _ _ _ _ n _ (qe xq h) (ke xk h) (ve xk h) (kpe (fun _ => 0) h) (vpe (fun _ => 0) h) _ ?_ ?_ ?_ ?_ ?_
    all_goals
      intro y e
      pointwise [k0_pay5, k0_pay29, qe, ke, ve, kpe, vpe]
      first | exact congrFun (read_cleared _) _ | blk_ext []

/-- The log-sum-exps at the first block of a row. -/
theorem lA (n : Fin 16) (hn : (grid0.coords t 1).val = n.val) (hc : cond0_0 (grid0.coords t)) (i j : Fin 128) :
    out0_A_3 (F := Ideal) c (grid0.coords t) (ms0_0 t) (hs0_0 t) (ms0_1 t) (hs0_1 t) (ms0_2 t) (hs0_2 t) (ms0_3 t) (hs0_3 t) scM0_0
      (Memref.isWhole_whole _) hc xq xk (ix3 0 i j)
      = if h : j.val < 8 then lse (cur i (qe xq ⟨j.val, h⟩ i) (ke xk ⟨j.val, h⟩)) (prev (0 < n.val) i (qe xq ⟨j.val, h⟩ i) (kpe (fun _ => 0) ⟨j.val, h⟩)) else 0 := by
  frame_out
  rw [hn]
  simp only [Head.same_load, Head.same_prev, Head.same_cur, Head.same_max, Head.same_before, Head.same_top, Head.same_weight,
      Head.same_sum, Head.same_mean, Head.same_out, Head.same_lse, Head.same_store]
  refine Head.lanes _ _ _ _ _ _ _ _ _ (fun h => lse (cur i (qe xq h i) (ke xk h)) (prev (0 < n.val) i (qe xq h i) (kpe (fun _ => 0) h))) _ ?_ ?_ ?_ ?_ ?_ ?_ ?_ ?_
  all_goals
    refine Head.logsum _ _ _ n _ (qe xq _) (ke xk _) (kpe (fun _ => 0) _) ?_ ?_ ?_
    all_goals
      intro y e
      pointwise [k0_pay5, k0_pay29, qe, ke, kpe]
      first | exact congrFun (read_cleared _) _ | blk_ext []

end Cert.AttnIdeal.Point

end
-- ==== Proof.AttnRefScores.lean ====
module

public import proofs.«01_k».proof.Proof.BandSpec
public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem

/-! # The reference of the banded attention, at an index

Position `128 * n + x` of row `b` is query `x` of block `n`. Its output and its log-sum-exp are the ones of `BandSpec`,
for the keys and values of block `n` and of block `n - 1`. -/

namespace Cert.AttnRefIdeal.Band
open Cert.AttnRefIdeal Cert.AttnRefIdeal.Read Cert.BandSpec

/-- The queries. -/
abbrev QA : Type := (⟨S16384x3072, .f32⟩ : BufTy).Contents (Elt Ideal)
/-- The keys and values. -/
abbrev KA : Type := (⟨S16384x2048, .f32⟩ : BufTy).Contents (Elt Ideal)

variable (Q : QA) (K : KA) (b : Fin 8) (n : Fin 16) (h : Fin 8)

/-- The query at position `128 * n + x` of row `b`, head `h`. -/
def qv (x : Fin 128) : Fin 128 → EReal :=
  fun e => Q (ix2 ⟨b.val * 2048 + (n.val * 128 + x.val), by omega⟩ ⟨h.val * 128 + e.val, by omega⟩)

/-- The keys of block `n`. -/
def kc : Fin 128 → Fin 128 → EReal :=
  fun y e => K (ix2 ⟨b.val * 2048 + (n.val * 128 + y.val), by omega⟩ ⟨h.val * 128 + e.val, by omega⟩)

/-- The keys of the block before, zeros before the first. -/
def kp : Fin 128 → Fin 128 → EReal :=
  fun y e => if 1 ≤ n.val then K (ix2 ⟨b.val * 2048 + ((n.val - 1) * 128 + y.val), by omega⟩ ⟨h.val * 128 + e.val, by omega⟩) else 0

/-- The values of block `n`. -/
def vc : Fin 128 → Fin 128 → EReal :=
  fun y e => K (ix2 ⟨b.val * 2048 + (n.val * 128 + y.val), by omega⟩ ⟨1024 + (h.val * 128 + e.val), by omega⟩)

/-- The values of the block before, zeros before the first. -/
def vp : Fin 128 → Fin 128 → EReal :=
  fun y e => if 1 ≤ n.val then K (ix2 ⟨b.val * 2048 + ((n.val - 1) * 128 + y.val), by omega⟩ ⟨1024 + (h.val * 128 + e.val), by omega⟩) else 0

/-- The scores of the query with the keys of its own block. -/
def scur (x : Fin 128) : Fin 128 → EReal := cur x (qv Q b n h x) (kc K b n h)

/-- The scores of the query with the keys of the block before. -/
def sprev (x : Fin 128) : Fin 128 → EReal := prev (0 < n.val) x (qv Q b n h x) (kp K b n h)

/-- The bit pattern of minus infinity. -/
theorem bot_bits : Ideal.ofBits .f32 4286578688#32 = (⊥ : EReal) := by simp [Ideal.ofBits, Ideal.ieee]

/-- The queries of a block. -/
theorem q_at (x e : Fin 128) : val_main_v11 (F := Ideal) Q (ix5 b n x h e) = qv Q b n h x e := by
  pointwise [val_main_v11, val_main_v10, val_main_v9, val_main_v2, val_main_v1, val_main_v0, qv]

/-- The keys of a block. -/
theorem k_at (y e : Fin 128) : val_main_v14 (F := Ideal) K (ix5 b n y h e) = kc K b n h y e := by
  pointwise [val_main_v14, val_main_v13, val_main_v12, val_main_v5, val_main_v4, val_main_v3, kc]

/-- The values of a block. -/
theorem v_at (y e : Fin 128) : val_main_v20 (F := Ideal) K (ix5 b n y h e) = vc K b n h y e := by
  pointwise [val_main_v20, val_main_v19, val_main_v18, val_main_v8, val_main_v7, val_main_v6, vc]
  rw [show (⟨1024 + h.val * 128 + e.val, by omega⟩ : Fin 2048) = ⟨1024 + (h.val * 128 + e.val), by omega⟩ from Fin.ext (Nat.add_assoc _ _ _)]

/-- The pad of the keys is zero. -/
theorem pad_k (i : S_.Idx) : val_main_call0_v0 (F := Ideal) i = 0 := by
  simp [val_main_call0_v0, val_main_c, Ideal.scalar_sitofp_def, FloatOps.sitofp, sitofp, constantI]

/-- The pad of the values is zero. -/
theorem pad_v (i : S_.Idx) : val_main_call1_v0 (F := Ideal) i = 0 := by
  simp [val_main_call1_v0, val_main_c_0, Ideal.scalar_sitofp_def, FloatOps.sitofp, sitofp, constantI]

/-- The upper 128 of the 256 keys side by side are the query's own block. -/
theorem k_cur (y e : Fin 128) :
    val_main_v17 (F := Ideal) K (ix5 b n ⟨128 + y.val, by omega⟩ h e) = kc K b n h y e := by
  pointwise [val_main_v17, val_main_v16, val_main_v15, k_at]

/-- The lower 128 are the block before. -/
theorem k_prev (y e : Fin 128) :
    val_main_v17 (F := Ideal) K (ix5 b n ⟨y.val, by omega⟩ h e) = kp K b n h y e := by
  pointwise [val_main_v17, val_main_v16, val_main_v15, k_at]
  rw [pad_k, kp]
  by_cases hn : 1 ≤ n.val
  · rw [dif_pos ⟨hn, by omega⟩, if_pos hn]; rfl
  · rw [dif_neg fun hh => hn hh.1, if_neg hn]

/-- The upper 128 of the 256 values side by side are the query's own block. -/
theorem v_cur (y e : Fin 128) :
    val_main_v23 (F := Ideal) K (ix5 b n ⟨128 + y.val, by omega⟩ h e) = vc K b n h y e := by
  pointwise [val_main_v23, val_main_v22, val_main_v21, v_at]

/-- The lower 128 are the block before. -/
theorem v_prev (y e : Fin 128) :
    val_main_v23 (F := Ideal) K (ix5 b n ⟨y.val, by omega⟩ h e) = vp K b n h y e := by
  pointwise [val_main_v23, val_main_v22, val_main_v21, v_at]
  rw [pad_v, vp]
  by_cases hn : 1 ≤ n.val
  · rw [dif_pos ⟨hn, by omega⟩, if_pos hn]; rfl
  · rw [dif_neg fun hh => hn hh.1, if_neg hn]

/-- The word the mask compares: the distance of query `x` to key `y` of the 256. -/
def band (x y : ℕ) : BitVec 1 :=
  IntOp.andi
    (IntOp.cmpi .sge (IntOp.subi (IntOp.addi (128#32) (BitVec.ofNat 32 x)) (BitVec.ofNat 32 y)) 0#32)
    (IntOp.cmpi .sle (IntOp.subi (IntOp.addi (128#32) (BitVec.ofNat 32 x)) (BitVec.ofNat 32 y)) 128#32)

/-- The mask at a query and a key. -/
theorem mask_at (x : Fin 128) (y : Fin 256) :
    val_main_call2_v1 (F := Ideal) (ix5 b n x h y)
      = IntOp.andi (band x.val y.val)
          (IntOp.ori (IntOp.cmpi .sgt (BitVec.ofNat 32 n.val) 0#32) (IntOp.cmpi .sge (BitVec.ofNat 32 y.val) 128#32)) := by
  pointwise [val_main_call2_v1, val_main_v56, val_main_v55, val_main_v54, val_main_v53, val_main_v52, val_main_v51,
    val_main_v50, val_main_v49, val_main_v48, val_main_v47, val_main_v46, val_main_v45, val_main_v44, val_main_v43,
    val_main_v42, val_main_v41, val_main_v40, val_main_v39, val_main_v38, val_main_v37, val_main_v36, val_main_v35,
    val_main_v34, val_main_v33, val_main_v32, val_main_v31, val_main_v30, val_main_v29, val_main_v28, val_main_c_1,
    val_main_c_2, val_main_c_3, val_main_c_4, val_main_c_5, band]

/-- The band over the upper keys: keys up to the query. -/
theorem band_cur : ∀ x y : Fin 128, band x.val (128 + y.val) = BitVec.ofBool (decide (y.val ≤ x.val)) := by
  decide +kernel

/-- The band over the lower keys: keys at most 128 back. -/
theorem band_prev : ∀ x y : Fin 128, band x.val y.val = BitVec.ofBool (decide (x.val ≤ y.val)) := by
  decide +kernel

/-- The upper keys count in every block. -/
theorem own_all : ∀ (n : Fin 16) (y : Fin 128),
    IntOp.ori (IntOp.cmpi .sgt (BitVec.ofNat 32 n.val) 0#32) (IntOp.cmpi .sge (BitVec.ofNat 32 (128 + y.val)) 128#32) = 1#1 := by
  decide +kernel

/-- The lower keys count from the second block on. -/
theorem before_pos : ∀ (n : Fin 16) (y : Fin 128),
    IntOp.ori (IntOp.cmpi .sgt (BitVec.ofNat 32 n.val) 0#32) (IntOp.cmpi .sge (BitVec.ofNat 32 y.val) 128#32)
      = BitVec.ofBool (decide (0 < n.val)) := by
  decide +kernel

/-- A selection on the conjunction of two decided bits. -/
theorem select_and (p q : Prop) [Decidable p] [Decidable q] (u v : EReal) :
    Scalar.select (IntOp.andi (BitVec.ofBool (decide p)) (BitVec.ofBool (decide q))) u v = if p ∧ q then u else v := by
  by_cases hp : p <;> by_cases hq : q <;> simp [hp, hq, Scalar.select, IntOp.andi]

/-- The scaled products of the query with the 256 keys. -/
theorem prod_at (x : Fin 128) (y : Fin 256) :
    val_main_v27 (F := Ideal) Q K (ix5 b n x h y)
      = sc (qv Q b n h x) (fun e => val_main_v17 (F := Ideal) K (ix5 b n y h e)) := by
  pointwise [val_main_v27, val_main_v26, val_main_v25, val_main_v24, val_main_cst, q_at]
  rw [sc]
  congr 1
  exact Finset.sum_congr rfl fun e _ => mul_comm _ _

/-- The masked scores: minus infinity where the mask is off. -/
theorem s_at (x : Fin 128) (y : Fin 256) :
    val_main_v57 (F := Ideal) Q K (ix5 b n x h y)
      = Scalar.select (val_main_call2_v1 (F := Ideal) (ix5 b n x h y)) (val_main_v27 (F := Ideal) Q K (ix5 b n x h y)) ⊥ := by
  pointwise [val_main_v57, val_main_call2_v2, val_main_call2_v0, val_main_cst_6]
  exact congrArg _ bot_bits

/-- The scores over the upper keys. -/
theorem s_cur (x y : Fin 128) :
    val_main_v57 (F := Ideal) Q K (ix5 b n x h ⟨128 + y.val, by omega⟩) = scur Q K b n h x y := by
  rw [s_at, mask_at, prod_at]
  simp only [k_cur]
  rw [band_cur, own_all, show (1#1 : BitVec 1) = BitVec.ofBool (decide True) from rfl, select_and, scur, cur]
  simp only [and_true]

/-- The scores over the lower keys. -/
theorem s_prev (x y : Fin 128) :
    val_main_v57 (F := Ideal) Q K (ix5 b n x h ⟨y.val, by omega⟩) = sprev Q K b n h x y := by
  rw [s_at, mask_at, prod_at]
  simp only [k_prev]
  rw [band_prev, before_pos, select_and, sprev, prev]

end Cert.AttnRefIdeal.Band

end
-- ==== Proof.AttnRefSoftmax.lean ====
module

public import proofs.«01_k».proof.Proof.AttnRefScores
public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem

/-! # The softmax of the banded attention's reference, at an index

Position `128 * n + x` of row `b` is query `x` of block `n`. Its output and its log-sum-exp are the ones of `BandSpec`,
for the keys and values of block `n` and of block `n - 1`. -/

namespace Cert.AttnRefIdeal.Band
open Cert.AttnRefIdeal Cert.AttnRefIdeal.Read Cert.BandSpec

variable (Q : QA) (K : KA) (b : Fin 8) (n : Fin 16) (h : Fin 8)

/-- The maximum of the scores. -/
theorem max_at (x : Fin 128) :
    val_main_v58 (F := Ideal) Q K (ix4 b n x h)
      = Finset.univ.fold max ⊥ fun y : Fin 256 => val_main_v57 (F := Ideal) Q K (ix5 b n x h y) := by
  pointwise [val_main_v58, val_main_cst_7]
  rw [bot_bits]

/-- The weights. -/
theorem exp_at (x : Fin 128) (y : Fin 256) :
    val_main_v62 (F := Ideal) Q K (ix5 b n x h y)
      = Ideal.exp (val_main_v57 (F := Ideal) Q K (ix5 b n x h y) - val_main_v58 (F := Ideal) Q K (ix4 b n x h)) := by
  pointwise [val_main_v62, val_main_v61, val_main_v60, val_main_v59]

/-- The sum of the weights. -/
theorem sum_at (x : Fin 128) :
    val_main_v63 (F := Ideal) Q K (ix4 b n x h)
      = ∑ y : Fin 256, val_main_v62 (F := Ideal) Q K (ix5 b n x h y) := by
  pointwise [val_main_v63, val_main_cst_8]

/-- The weighted sum of the values. -/
theorem dot_at (x e : Fin 128) :
    val_main_v66 (F := Ideal) Q K (ix5 b n x h e)
      = ∑ y : Fin 256, val_main_v23 (F := Ideal) K (ix5 b n y h e) * val_main_v62 (F := Ideal) Q K (ix5 b n x h y) := by
  pointwise [val_main_v66, val_main_v65]

/-- The sum of the weights is the one over the two blocks apart. -/
theorem den_at (x : Fin 128) :
    val_main_v63 (F := Ideal) Q K (ix4 b n x h) = den (scur Q K b n h x) (sprev Q K b n h x) := by
  rw [sum_at]
  simp only [exp_at, max_at]
  rw [den_join fun y => val_main_v57 (F := Ideal) Q K (ix5 b n x h y)]
  simp only [s_cur, s_prev]

/-- The maximum is the one over the two blocks apart. -/
theorem top_at (x : Fin 128) :
    val_main_v58 (F := Ideal) Q K (ix4 b n x h) = top (scur Q K b n h x) (sprev Q K b n h x) := by
  rw [max_at, top_join]
  simp only [s_cur, s_prev]

/-- The attention's output in a block. -/
theorem out_at (x e : Fin 128) :
    val_main_v68 (F := Ideal) Q K (ix5 b n x h e)
      = out (scur Q K b n h x) (sprev Q K b n h x) (fun y => vc K b n h y e) (fun y => vp K b n h y e) := by
  have e1 : val_main_v68 (F := Ideal) Q K (ix5 b n x h e)
      = Ideal.div (val_main_v66 (F := Ideal) Q K (ix5 b n x h e)) (val_main_v63 (F := Ideal) Q K (ix4 b n x h)) := by
    pointwise [val_main_v68, val_main_v67, val_main_v64]
  rw [e1, dot_at, sum_at]
  simp only [exp_at, max_at]
  rw [out_join (fun y => val_main_v57 (F := Ideal) Q K (ix5 b n x h y)) fun y => val_main_v23 (F := Ideal) K (ix5 b n y h e)]
  simp only [s_cur, s_prev, v_cur, v_prev]

end Cert.AttnRefIdeal.Band

end
-- ==== Proof.AttnRefBand.lean ====
module

public import proofs.«01_k».proof.Proof.AttnRefSoftmax
public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem

/-! # The results of the banded attention's reference, at an index

Position `128 * n + x` of row `b` is query `x` of block `n`. Its output and its log-sum-exp are the ones of `BandSpec`,
for the keys and values of block `n` and of block `n - 1`. -/

namespace Cert.AttnRefIdeal.Band
open Cert.AttnRefIdeal Cert.AttnRefIdeal.Read Cert.BandSpec

variable (Q : QA) (K : KA) (b : Fin 8) (n : Fin 16) (h : Fin 8)

/-- Dropping a trailing axis of extent one. -/
theorem squeeze (Y : FVec Ideal S8x16x128x8x1 .f32) (x : Fin 128) :
    shapeCast S8x16x128x8 Y Gen.shapeCasts_S8x16x128x8x1_S8x16x128x8 (ix4 b n x h) = Y (ix5 b n x h 0) := by
  pointwise

/-- The logarithm of the sum of the exponentials in a block. -/
theorem lse_at (x : Fin 128) :
    val_main_v71 (F := Ideal) Q K (ix4 b n x h) = lse (scur Q K b n h x) (sprev Q K b n h x) := by
  have e59 : idx_main_v59 (ix5 b n x h 0) = ix4 b n x h := by
    funext a
    match a with | ⟨0, _⟩ => rfl | ⟨1, _⟩ => rfl | ⟨2, _⟩ => rfl | ⟨3, _⟩ => rfl
  have e64 : idx_main_v64 (ix5 b n x h 0) = ix4 b n x h := by
    funext a
    match a with | ⟨0, _⟩ => rfl | ⟨1, _⟩ => rfl | ⟨2, _⟩ => rfl | ⟨3, _⟩ => rfl
  refine (squeeze b n h (val_main_v70 (F := Ideal) Q K) x).trans ?_
  rw [val_main_v70_apply, val_main_v69_apply, val_main_v59_apply, val_main_v64_apply, e59, e64, top_at, den_at]
  rfl

/-- The first result at position `128 * n + x` of row `b`, lane `e` of head `h`. -/
theorem o_at (t : Fin 2048) (j : Fin 1024) (x e : Fin 128) (ht : t.val = n.val * 128 + x.val)
    (hj : j.val = h.val * 128 + e.val) :
    val_main_v78 (F := Ideal) Q K (ix3 b t j)
      = out (scur Q K b n h x) (sprev Q K b n h x) (fun y => vc K b n h y e) (fun y => vp K b n h y e) := by
  rw [← out_at]
  pointwise [val_main_v78, val_main_v74, val_main_v73, val_main_v72]
  congr 1
  congr 1 <;> ext <;> dsimp only <;> omega

/-- The second result at a lane below 8: the head's. -/
theorem l_at (t : Fin 2048) (j : Fin 128) (x : Fin 128) (ht : t.val = n.val * 128 + x.val) (hj : j.val = h.val) :
    val_main_v79 (F := Ideal) Q K (ix3 b t j) = lse (scur Q K b n h x) (sprev Q K b n h x) := by
  rw [← lse_at]
  pointwise [val_main_v79, val_main_v77, val_main_v76, val_main_v75]
  rw [dif_pos (show j.val < 8 by omega)]
  congr 1
  congr 1 <;> ext <;> dsimp only <;> omega

/-- The second result at the other lanes: zero. -/
theorem l_zero (t : Fin 2048) (j : Fin 128) (hj : ¬ j.val < 8) : val_main_v79 (F := Ideal) Q K (ix3 b t j) = 0 := by
  pointwise [val_main_v79]
  rw [dif_neg hj]
  simp [val_main_call3_v0, val_main_c_9, Ideal.scalar_sitofp_def, FloatOps.sitofp, sitofp, constantI]

end Cert.AttnRefIdeal.Band

end
-- ==== Proof.Attn.lean ====
module

public import proofs.«01_k».proof.Proof.AttnPoint
public import proofs.«01_k».proof.Proof.AttnRefBand

@[expose] public section

set_option maxRecDepth 16384

noncomputable section

open Idealize.ShloMosaic Idealize.ShloMosaic.TcCoe Idealize.SL.Sem
open Idealize.ShloMosaic.Pipeline (Dat)

/-! # The band attention, whole

Grid point `16 b + n` attends block `n` of row `b` to itself and to block `n - 1`, whose keys and values the point
before left in the carried block. Each result array of the kernel is the reference's, entry by entry. -/

namespace Cert.AttnIdeal.Whole
open Cert.AttnIdeal Cert.AttnIdeal.Gen Cert.AttnRefIdeal.Read Cert.BandSpec Cert.AttnIdeal.Point

variable (m : (ℓ : Loc nD τ sig) → Buf (Elt Ideal) ℓ)

/-- The block indices of the windows: the row, then the block of the row. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ (grid0.coords t 1).val = t.val % 16 :=
  (by decide +kernel : ∀ t : Fin grid0.N, _)

/-- The queries, laid out row by row. -/
theorem V_q (c : Dev nD) (b : Fin 8) (s : Fin 2048) (j : Fin 3072) :
    V m c main_v0 (ix3 b s j) = m ((c : Thread nD τ).loc main_arg0) (ix2 ⟨b.val * 2048 + s.val, by omega⟩ j) := by
  simp only [V, List.flatten_cons, List.flatten_nil, List.append_nil, hostOps0, List.cons_append, List.nil_append]
  after_results
  pointwise

/-- The keys and values, laid out row by row. -/
theorem V_kv (c : Dev nD) (b : Fin 8) (s : Fin 2048) (j : Fin 2048) :
    V m c main_v1 (ix3 b s j) = m ((c : Thread nD τ).loc main_arg1) (ix2 ⟨b.val * 2048 + s.val, by omega⟩ j) := by
  simp only [V, List.flatten_cons, List.flatten_nil, List.append_nil, hostOps0, List.cons_append, List.nil_append]
  after_results
  pointwise

/-- Row `i` of point `t`'s queries. -/
theorem q_at (c : Dev nD) (t : Fin cfg0.N) (b : Fin 8) (n : Fin 16) (ht : t.val = b.val * 16 + n.val) (i : Fin 128) (j : Fin 1024) :
    (iblk m c 0 t : FVec Ideal S1x128x1024 .f32) (ix3 0 i j)
      = m ((c : Thread nD τ).loc main_arg0) (ix2 ⟨b.val * 2048 + (n.val * 128 + i.val), by omega⟩ ⟨j.val, by omega⟩) := by
  refine Eq.trans ?_ (V_q m c b ⟨n.val * 128 + i.val, by omega⟩ ⟨j.val, by omega⟩)
  blk_ext [iblk, idx t]

/-- Row `i` of point `t`'s keys and values. -/
theorem kv_at (c : Dev nD) (t : Fin cfg0.N) (b : Fin 8) (n : Fin 16) (ht : t.val = b.val * 16 + n.val) (i : Fin 128) (j : Fin 2048) :
    (iblk m c 1 t : FVec Ideal S1x128x2048 .f32) (ix3 0 i j)
      = m ((c : Thread nD τ).loc main_arg1) (ix2 ⟨b.val * 2048 + (n.val * 128 + i.val), by omega⟩ j) := by
  refine Eq.trans ?_ (V_kv m c b ⟨n.val * 128 + i.val, by omega⟩ j)
  blk_ext [iblk, idx t]

/-- A point leaves its keys and values in the carried block. -/
theorem left_at (c : Dev nD) (t : Fin cfg0.N) : (outsAt0 m c t.val t.isLt).2.2 = k0_pay3 (F := Ideal) (iblk m c 1 t) := by
  by_cases h : t.val % 16 = 0
  · rw [outsAt0_A m c t h]
    dsimp only
    exact sA c t (iblk m c 0 t) (iblk m c 1 t) ((hcond0_0 t).mpr h)
  · rw [outsAt0_B m c t h]
    dsimp only
    exact sB c t (iblk m c 0 t) (iblk m c 1 t) _ (fun hh => h ((hcond0_0 t).mp hh))

/-- The queries and the keys and values a program is given. -/
abbrev Q (c : Dev nD) : Cert.AttnRefIdeal.Band.QA := m ((c : Thread nD τ).loc main_arg0)
abbrev K (c : Dev nD) : Cert.AttnRefIdeal.Band.KA := m ((c : Thread nD τ).loc main_arg1)

section
variable (c : Dev nD) (t : Fin cfg0.N) (b : Fin 8) (n : Fin 16) (ht : t.val = b.val * 16 + n.val) (h : Fin 8)
include ht

theorem qe_eq (i : Fin 128) : qe (iblk m c 0 t) h i = Cert.AttnRefIdeal.Band.qv (Q m c) b n h i :=
  funext fun e => q_at m c t b n ht i ⟨h.val * 128 + e.val, by omega⟩

theorem ke_eq : ke (iblk m c 1 t) h = Cert.AttnRefIdeal.Band.kc (K m c) b n h :=
  funext fun y => funext fun e => kv_at m c t b n ht y ⟨h.val * 128 + e.val, by omega⟩

theorem ve_eq : ve (iblk m c 1 t) h = Cert.AttnRefIdeal.Band.vc (K m c) b n h :=
  funext fun y => funext fun e => kv_at m c t b n ht y ⟨1024 + (h.val * 128 + e.val), by omega⟩

/-- What the point before left, at an entry. -/
theorem left_entry (hn : n.val ≠ 0) (y : Fin 128) (j : Fin 2048) :
    (outsAt0 m c (t.val - 1) (Nat.lt_of_le_of_lt (Nat.sub_le _ _) t.isLt)).2.2 (ix2 y j)
      = K m c (ix2 ⟨b.val * 2048 + ((n.val - 1) * 128 + y.val), by omega⟩ j) := by
  refine (congrFun (left_at m c ⟨t.val - 1, Nat.lt_of_le_of_lt (Nat.sub_le _ _) t.isLt⟩) (ix2 y j)).trans ?_
  refine Eq.trans ?_ (kv_at m c ⟨t.val - 1, Nat.lt_of_le_of_lt (Nat.sub_le _ _) t.isLt⟩ b ⟨n.val - 1, by omega⟩
    (by show t.val - 1 = b.val * 16 + (n.val - 1); omega) y j)
  pointwise [k0_pay3]

theorem kpe_eq (hn : n.val ≠ 0) :
    kpe (outsAt0 m c (t.val - 1) (Nat.lt_of_le_of_lt (Nat.sub_le _ _) t.isLt)).2.2 h = Cert.AttnRefIdeal.Band.kp (K m c) b n h := by
  funext y e
  refine (left_entry m c t b n ht hn y ⟨h.val * 128 + e.val, by omega⟩).trans ?_
  unfold Cert.AttnRefIdeal.Band.kp
  rw [if_pos (by omega)]

theorem vpe_eq (hn : n.val ≠ 0) :
    vpe (outsAt0 m c (t.val - 1) (Nat.lt_of_le_of_lt (Nat.sub_le _ _) t.isLt)).2.2 h = Cert.AttnRefIdeal.Band.vp (K m c) b n h := by
  funext y e
  refine (left_entry m c t b n ht hn y ⟨1024 + (h.val * 128 + e.val), by omega⟩).trans ?_
  unfold Cert.AttnRefIdeal.Band.vp
  rw [if_pos (by omega)]

omit ht

theorem kpe_zero (hn : n.val = 0) : kpe (fun _ => 0) h = Cert.AttnRefIdeal.Band.kp (K m c) b n h := by
  funext y e
  unfold Cert.AttnRefIdeal.Band.kp
  rw [if_neg (by omega)]; rfl

theorem vpe_zero (hn : n.val = 0) : vpe (fun _ => 0) h = Cert.AttnRefIdeal.Band.vp (K m c) b n h := by
  funext y e
  unfold Cert.AttnRefIdeal.Band.vp
  rw [if_neg (by omega)]; rfl

end

/-- An output entry of a point's block. -/
theorem core2 (c : Dev nD) (t : Fin cfg0.N) (y : S1x128x1024.Idx) (j : S8x2048x1024.Idx) (h0 : (j 0).val = t.val / 16)
    (h1 : (j 1).val = t.val % 16 * 128 + (y 1).val) (h2 : (j 2).val = (y 2).val) :
    (outsAt0 m c t.val t.isLt).1 y = val_main_v78 (F := Ideal) (Q m c) (K m c) j := by
  have hN : cfg0.N = 128 := N_0
  have hy1 : (y 1).val < 128 := (y 1).isLt
  have hy2 : (y 2).val < 1024 := (y 2).isLt
  have htl := t.isLt
  obtain ⟨b, hb⟩ : ∃ b : Fin 8, b.val = t.val / 16 := ⟨⟨t.val / 16, by omega⟩, rfl⟩
  obtain ⟨n, hn⟩ : ∃ n : Fin 16, n.val = t.val % 16 := ⟨⟨t.val % 16, by omega⟩, rfl⟩
  obtain ⟨i, hi⟩ : ∃ i : Fin 128, i.val = (y 1).val := ⟨⟨(y 1).val, by omega⟩, rfl⟩
  obtain ⟨h, hh⟩ : ∃ h : Fin 8, h.val = (y 2).val / 128 := ⟨⟨(y 2).val / 128, by omega⟩, rfl⟩
  obtain ⟨e, he⟩ : ∃ e : Fin 128, e.val = (y 2).val % 128 := ⟨⟨(y 2).val % 128, by omega⟩, rfl⟩
  have ht : t.val = b.val * 16 + n.val := by omega
  idx_vars j
  obtain rfl : b = j0 := Fin.ext (by omega)
  rw [Cert.AttnRefIdeal.Band.o_at (Q m c) (K m c) b n h j1 j2 i e (by omega) (by omega)]
  unfold Cert.AttnRefIdeal.Band.scur Cert.AttnRefIdeal.Band.sprev
  by_cases h0 : t.val % 16 = 0
  · rw [outsAt0_A m c t h0]
    dsimp only
    rw [oA c t (iblk m c 0 t) (iblk m c 1 t) n (by rw [(idx t).2.2.2.2, hn]) ((hcond0_0 t).mpr h0) y h i e (by omega) (by omega),
      qe_eq m c t b n ht h i, ke_eq m c t b n ht h, ve_eq m c t b n ht h, kpe_zero m c b n h (by omega), vpe_zero m c b n h (by omega)]
  · rw [outsAt0_B m c t h0]
    dsimp only
    rw [oB c t (iblk m c 0 t) (iblk m c 1 t) _ n (by rw [(idx t).2.2.2.2, hn]) (fun hh => h0 ((hcond0_0 t).mp hh)) y h i e (by omega) (by omega),
      qe_eq m c t b n ht h i, ke_eq m c t b n ht h, ve_eq m c t b n ht h, kpe_eq m c t b n ht h (by omega), vpe_eq m c t b n ht h (by omega)]

/-- A log-sum-exp entry of a point's block. -/
theorem core3 (c : Dev nD) (t : Fin cfg0.N) (y : S1x128x128.Idx) (j : S8x2048x128.Idx) (h0 : (j 0).val = t.val / 16)
    (h1 : (j 1).val = t.val % 16 * 128 + (y 1).val) (h2 : (j 2).val = (y 2).val) :
    (outsAt0 m c t.val t.isLt).2.1 y = val_main_v79 (F := Ideal) (Q m c) (K m c) j := by
  have hN : cfg0.N = 128 := N_0
  have htl := t.isLt
  obtain ⟨b, hb⟩ : ∃ b : Fin 8, b.val = t.val / 16 := ⟨⟨t.val / 16, by omega⟩, rfl⟩
  obtain ⟨n, hn⟩ : ∃ n : Fin 16, n.val = t.val % 16 := ⟨⟨t.val % 16, by omega⟩, rfl⟩
  have ht : t.val = b.val * 16 + n.val := by omega
  idx_vars j
  idx_vars y
  obtain rfl : y0 = 0 := Subsingleton.elim _ _
  obtain rfl : b = j0 := Fin.ext (by omega)
  obtain rfl : j2 = y2 := Fin.ext (by omega)
  have split : (if h : j2.val < 8 then lse (cur y1 (Cert.AttnRefIdeal.Band.qv (Q m c) b n ⟨j2.val, h⟩ y1) (Cert.AttnRefIdeal.Band.kc (K m c) b n ⟨j2.val, h⟩))
        (prev (0 < n.val) y1 (Cert.AttnRefIdeal.Band.qv (Q m c) b n ⟨j2.val, h⟩ y1) (Cert.AttnRefIdeal.Band.kp (K m c) b n ⟨j2.val, h⟩)) else 0)
      = val_main_v79 (F := Ideal) (Q m c) (K m c) (ix3 b j1 j2) := by
    by_cases h : j2.val < 8
    · rw [dif_pos h, Cert.AttnRefIdeal.Band.l_at (Q m c) (K m c) b n ⟨j2.val, h⟩ j1 j2 y1 (by omega) rfl]; rfl
    · rw [dif_neg h, Cert.AttnRefIdeal.Band.l_zero (Q m c) (K m c) b j1 j2 h]
  rw [← split]
  by_cases h0 : t.val % 16 = 0
  · rw [outsAt0_A m c t h0]
    dsimp only
    rw [lA c t (iblk m c 0 t) (iblk m c 1 t) n (by rw [(idx t).2.2.2.2, hn]) ((hcond0_0 t).mpr h0) y1 j2]
    simp only [qe_eq m c t b n ht, ke_eq m c t b n ht, kpe_zero m c b n _ (by omega : n.val = 0)]
  · rw [outsAt0_B m c t h0]
    dsimp only
    rw [lB c t (iblk m c 0 t) (iblk m c 1 t) _ n (by rw [(idx t).2.2.2.2, hn]) (fun hh => h0 ((hcond0_0 t).mp hh)) y1 j2]
    simp only [qe_eq m c t b n ht, ke_eq m c t b n ht, kpe_eq m c t b n ht _ (by omega : n.val ≠ 0)]

/-! ## The result arrays -/

theorem final2 (c : Dev nD) : (dats m 0 c).arrAt 2 (cfgs 0).N = val_main_v78 (F := Ideal) (Q m c) (K m c) := by
  refine (dats m 0 c).arrAt_eq_of_covers 2 _ (by decide +kernel) fun t _ y => ?_
  blk_simp
  rw [after0_2]
  refine core2 m c t y _ ?_ ?_ ?_
  all_goals (blk_simp [idx t] <;> try omega)

theorem final3 (c : Dev nD) : (dats m 0 c).arrAt 3 (cfgs 0).N = val_main_v79 (F := Ideal) (Q m c) (K m c) := by
  refine (dats m 0 c).arrAt_eq_of_covers 3 _ (by decide +kernel) fun t _ y => ?_
  blk_simp
  rw [after0_3]
  refine core3 m c t y _ ?_ ?_ ?_
  all_goals (blk_simp [idx t] <;> try omega)

end Cert.AttnIdeal.Whole

end
-- ==== Proof.Nmm.lean ====
module

public import proofs.«01_k».proof.Proof.Gen.NmmIdeal.Value
public import proofs.«01_k».proof.Proof.Gen.NmmRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The normalised projection of the first mixing block

The kernel normalises 512 rows of tokens at a grid point and multiplies them by the four column groups of the
weights; the reference normalises all rows and multiplies by the weights at once. Each result array of the kernel is
the reference's result, entry by entry: both are the same sum over the 1024 channels. -/

namespace Cert.NmmIdeal.Proj
open Cert.NmmIdeal Cert.NmmIdeal.Gen Cert.NmmRefIdeal.Read

variable (m : (ℓ : Loc nD τ sig) → Buf (Elt Ideal) ℓ)

/-- The block indices of the windows: the row windows move with the grid point, the others stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

/-! ## What the region finds in its input arrays -/

/-- The rows are the tokens, laid out as one column of rows. -/
theorem V_x (c : Dev nD) (r : Fin 16384) (k : Fin 1024) :
    V m c main_v7 (ix2 r k) = m ((c : Thread nD τ).loc main_arg0) (ix3 ⟨(r : ℕ) / 2048, by omega⟩ ⟨(r : ℕ) % 2048, by omega⟩ k) := by
  simp only [V, List.flatten_cons, List.flatten_nil, List.append_nil, hostOps0, hostOps0_1, hostOps0_2, List.cons_append, List.nil_append]
  after_results
  pointwise

/-- The gain as one row. -/
theorem V_g (c : Dev nD) (k : Fin 1024) : V m c main_v8 (ix2 0 k) = m ((c : Thread nD τ).loc main_arg1) (ix1 k) := by
  simp only [V, List.flatten_cons, List.flatten_nil, List.append_nil, hostOps0, hostOps0_1, hostOps0_2, List.cons_append, List.nil_append]
  after_results
  pointwise

/-- Column group 0 of the weights: 1024 columns. -/
theorem V_w0 (c : Dev nD) (k : Fin 1024) (j : Fin 1024) :
    V m c main_v4 (ix2 k j) = m ((c : Thread nD τ).loc main_arg2) (ix3 0 k ⟨j, by omega⟩) := by
  simp only [V, List.flatten_cons, List.flatten_nil, List.append_nil, hostOps0, hostOps0_1, hostOps0_2, List.cons_append, List.nil_append]
  after_results
  pointwise

/-- Column group 1 of the weights: 1536 columns from column 1024. -/
theorem V_w1 (c : Dev nD) (k : Fin 1024) (j : Fin 1536) :
    V m c main_v5 (ix2 k j) = m ((c : Thread nD τ).loc main_arg2) (ix3 0 k ⟨1024 + j, by omega⟩) := by
  simp only [V, List.flatten_cons, List.flatten_nil, List.append_nil, hostOps0, hostOps0_1, hostOps0_2, List.cons_append, List.nil_append]
  after_results
  pointwise

/-- Column group 2 of the weights: 512 columns from column 2560. -/
theorem V_w2 (c : Dev nD) (k : Fin 1024) (j : Fin 512) :
    V m c main_v6 (ix2 k j) = m ((c : Thread nD τ).loc main_arg2) (ix3 0 k ⟨2560 + j, by omega⟩) := by
  simp only [V, List.flatten_cons, List.flatten_nil, List.append_nil, hostOps0, hostOps0_1, hostOps0_2, List.cons_append, List.nil_append]
  after_results
  pointwise

/-- The weights' last 8 columns with 120 columns of a constant beside them, at an entry. -/
theorem pad_at (W : FVec Ideal S1x1024x3080 .f32) (z : FVec Ideal S_ .bf16) (k : Fin 1024) (j : Fin 128) :
    pad S1024x128 ![0, 0] ![0, 120] ![0, 0]
      (extractStridedSlice S1024x8 ![0, 3072]
        (truncf .bf16 (shapeCast S1024x3080 W shapeCasts_S1x1024x3080_S1024x3080 : FVec Ideal S1024x3080 .f32) bitsLt_bf16_f32)
        slices_S1024x3080_S1024x8_0_3072) z pads_S1024x8_S1024x128_000_01200 h_S_ (ix2 k j)
      = if h : (j : ℕ) < 8 then W (ix3 0 k ⟨3072 + j, by omega⟩) else z (Shape.Idx.first h_S_) := by
  pointwise

/-- Column group 3 of the weights: the last 8 columns, and 120 columns of zeros. -/
theorem V_w3 (c : Dev nD) (k : Fin 1024) (j : Fin 128) :
    V m c main_v3 (ix2 k j)
      = if h : (j : ℕ) < 8 then (m ((c : Thread nD τ).loc main_arg2) : FVec Ideal S1x1024x3080 .f32) (ix3 0 k ⟨3072 + j, by omega⟩) else (0 : EReal) := by
  simp only [V, List.flatten_cons, List.flatten_nil, List.append_nil, hostOps0, hostOps0_1, hostOps0_2, List.cons_append, List.nil_append]
  after_results
  refine (pad_at (m ((c : Thread nD τ).loc main_arg2)) (sitofp .bf16 (constantI S_ 32 0#32)) k j).trans ?_
  split
  · rfl
  · simp [Ideal.scalar_sitofp_def, FloatOps.sitofp, sitofp, constantI]

/-! ## The blocks of a grid point -/

/-- Row `r` of point `t`'s block is row `512 t + r` of the tokens. -/
theorem x_at (c : Dev nD) (t : Fin cfg0.N) (r : Fin 512) (k : Fin 1024) (R : Fin 16384) (hR : (R : ℕ) = t.val * 512 + r) :
    (iblk m c 0 t : FVec Ideal S512x1024 .f32) (ix2 r k)
      = m ((c : Thread nD τ).loc main_arg0) (ix3 ⟨(R : ℕ) / 2048, by omega⟩ ⟨(R : ℕ) % 2048, by omega⟩ k) := by
  refine Eq.trans ?_ (V_x m c R k)
  blk_ext [iblk, idx t]

theorem g_at (c : Dev nD) (t : Fin cfg0.N) (k : Fin 1024) :
    (iblk m c 1 t : FVec Ideal S1x1024 .f32) (ix2 0 k) = m ((c : Thread nD τ).loc main_arg1) (ix1 k) := by
  refine Eq.trans ?_ (V_g m c k)
  blk_ext [iblk, idx t]

theorem w0_at (c : Dev nD) (t : Fin cfg0.N) (k : Fin 1024) (j : Fin 1024) :
    (iblk m c 2 t : FVec Ideal S1024x1024 .bf16) (ix2 k j) = m ((c : Thread nD τ).loc main_arg2) (ix3 0 k ⟨j, by omega⟩) := by
  refine Eq.trans ?_ (V_w0 m c k j)
  blk_ext [iblk, idx t]

theorem w1_at (c : Dev nD) (t : Fin cfg0.N) (k : Fin 1024) (j : Fin 1536) :
    (iblk m c 3 t : FVec Ideal S1024x1536 .bf16) (ix2 k j) = m ((c : Thread nD τ).loc main_arg2) (ix3 0 k ⟨1024 + j, by omega⟩) := by
  refine Eq.trans ?_ (V_w1 m c k j)
  blk_ext [iblk, idx t]

theorem w2_at (c : Dev nD) (t : Fin cfg0.N) (k : Fin 1024) (j : Fin 512) :
    (iblk m c 4 t : FVec Ideal S1024x512 .bf16) (ix2 k j) = m ((c : Thread nD τ).loc main_arg2) (ix3 0 k ⟨2560 + j, by omega⟩) := by
  refine Eq.trans ?_ (V_w2 m c k j)
  blk_ext [iblk, idx t]

theorem w3_at (c : Dev nD) (t : Fin cfg0.N) (k : Fin 1024) (j : Fin 128) :
    (iblk m c 5 t : FVec Ideal S1024x128 .bf16) (ix2 k j) = (if h : (j : ℕ) < 8 then (m ((c : Thread nD τ).loc main_arg2) : FVec Ideal S1x1024x3080 .f32) (ix3 0 k ⟨3072 + j, by omega⟩) else (0 : EReal)) := by
  refine Eq.trans ?_ (V_w3 m c k j)
  blk_ext [iblk, idx t]

/-! ## One entry of a point's block -/

/-- The reference's normalised row, at an entry. -/
theorem row_ref (X : FVec Ideal S8x2048x1024 .f32) (G : FVec Ideal S1024 .f32) (r : Fin 16384) (k : Fin 1024) :
    val_main_v13 (F := Ideal) X G (ix2 r k)
      = X (ix3 ⟨(r : ℕ) / 2048, by omega⟩ ⟨(r : ℕ) % 2048, by omega⟩ k)
          * Ideal.rsqrt (Ideal.div (∑ q : Fin 1024, X (ix3 ⟨(r : ℕ) / 2048, by omega⟩ ⟨(r : ℕ) % 2048, by omega⟩ q)
              * X (ix3 ⟨(r : ℕ) / 2048, by omega⟩ ⟨(r : ℕ) % 2048, by omega⟩ q)) (Ideal.ofBits .f32 1149239296#32) + Ideal.ofBits .f32 897988541#32)
          * G (ix1 k) := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

/-- The kernel's normalised row is the reference's. -/
theorem row_at (c : Dev nD) (t : Fin cfg0.N) (r : Fin 512) (k : Fin 1024) (R : Fin 16384) (hR : (R : ℕ) = t.val * 512 + r) :
    k0_pay2 (F := Ideal) (iblk m c 0 t) (iblk m c 1 t) (ix2 r k)
      = val_main_v13 (F := Ideal) (m ((c : Thread nD τ).loc main_arg0)) (m ((c : Thread nD τ).loc main_arg1)) (ix2 R k) := by
  rw [row_ref]
  pointwise [k0_pay2]
  blk_point []
  · exact x_at m c t r _ R hR
  · exact x_at m c t r _ R hR
  · exact g_at m c t _

theorem core0 (c : Dev nD) (t : Fin cfg0.N) (y : S512x1024.Idx) (j : S16384x1024.Idx) (hj0 : (j 0 : ℕ) = t.val * 512 + y 0) (hj1 : (j 1 : ℕ) = y 1) :
    k0_pay3 (F := Ideal) (iblk m c 0 t) (iblk m c 1 t) (iblk m c 2 t) y
      = val_main_v16 (F := Ideal) (m ((c : Thread nD τ).loc main_arg0)) (m ((c : Thread nD τ).loc main_arg1)) (m ((c : Thread nD τ).loc main_arg2)) j := by
  idx_vars y
  idx_vars j
  obtain rfl : j1 = y1 := Fin.ext hj1
  pointwise [k0_pay3, val_main_v16, val_main_v15, val_main_v14]
  refine Fin.sum_fin_congr fun k => ?_
  rw [row_at m c t y0 k j0 hj0, w0_at m c t k j1]

theorem core1 (c : Dev nD) (t : Fin cfg0.N) (y : S512x1536.Idx) (j : S16384x1536.Idx) (hj0 : (j 0 : ℕ) = t.val * 512 + y 0) (hj1 : (j 1 : ℕ) = y 1) :
    k0_pay4 (F := Ideal) (iblk m c 0 t) (iblk m c 1 t) (iblk m c 3 t) y
      = val_main_v17 (F := Ideal) (m ((c : Thread nD τ).loc main_arg0)) (m ((c : Thread nD τ).loc main_arg1)) (m ((c : Thread nD τ).loc main_arg2)) j := by
  idx_vars y
  idx_vars j
  obtain rfl : j1 = y1 := Fin.ext hj1
  pointwise [k0_pay4, val_main_v17, val_main_v15, val_main_v14]
  refine Fin.sum_fin_congr fun k => ?_
  rw [row_at m c t y0 k j0 hj0, w1_at m c t k j1]

theorem core2 (c : Dev nD) (t : Fin cfg0.N) (y : S512x512.Idx) (j : S16384x512.Idx) (hj0 : (j 0 : ℕ) = t.val * 512 + y 0) (hj1 : (j 1 : ℕ) = y 1) :
    k0_pay5 (F := Ideal) (iblk m c 0 t) (iblk m c 1 t) (iblk m c 4 t) y
      = val_main_v18 (F := Ideal) (m ((c : Thread nD τ).loc main_arg0)) (m ((c : Thread nD τ).loc main_arg1)) (m ((c : Thread nD τ).loc main_arg2)) j := by
  idx_vars y
  idx_vars j
  obtain rfl : j1 = y1 := Fin.ext hj1
  pointwise [k0_pay5, val_main_v18, val_main_v15, val_main_v14]
  refine Fin.sum_fin_congr fun k => ?_
  rw [row_at m c t y0 k j0 hj0, w2_at m c t k j1]

theorem core3 (c : Dev nD) (t : Fin cfg0.N) (y : S512x128.Idx) (j : S16384x128.Idx) (hj0 : (j 0 : ℕ) = t.val * 512 + y 0) (hj1 : (j 1 : ℕ) = y 1) :
    k0_pay1 (F := Ideal) (k0_pay2 (iblk m c 0 t) (iblk m c 1 t)) (k0_pay6 (iblk m c 5 t)) (constant S512x128 .f32 0x00000000#32) y
      = val_main_v20 (F := Ideal) (m ((c : Thread nD τ).loc main_arg0)) (m ((c : Thread nD τ).loc main_arg1)) (m ((c : Thread nD τ).loc main_arg2)) j := by
  idx_vars y
  idx_vars j
  obtain rfl : j1 = y1 := Fin.ext hj1
  pointwise [k0_pay1, k0_pay6, val_main_v20, val_main_v19, val_main_v15, val_main_v14, val_main_call0_v0, val_main_c]
  split
  · refine Fin.sum_fin_congr fun k => ?_
    rw [row_at m c t y0 k j0 hj0, w3_at m c t k j1, dif_pos ‹_›]
  · refine Eq.trans (b := (0 : EReal)) (Finset.sum_eq_zero fun k _ => ?_) ?_
    · rw [w3_at m c t k j1, dif_neg ‹_›, mul_zero]

    · simp [Ideal.scalar_sitofp_def, FloatOps.sitofp]

/-! ## The result arrays -/

theorem final0 (c : Dev nD) : (dats m 0 c).arrAt 6 (cfgs 0).N
    = val_main_v16 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  refine core0 m c t y _ ?_ ?_
  all_goals (blk_simp [idx t] <;> try omega)

theorem final1 (c : Dev nD) : (dats m 0 c).arrAt 7 (cfgs 0).N
    = val_main_v17 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  refine core1 m c t y _ ?_ ?_
  all_goals (blk_simp [idx t] <;> try omega)

theorem final2 (c : Dev nD) : (dats m 0 c).arrAt 8 (cfgs 0).N
    = val_main_v18 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  refine core2 m c t y _ ?_ ?_
  all_goals (blk_simp [idx t] <;> try omega)

theorem final3 (c : Dev nD) : (dats m 0 c).arrAt 9 (cfgs 0).N
    = val_main_v20 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  refine core3 m c t y _ ?_ ?_
  all_goals (blk_simp [idx t] <;> try omega)

end Cert.NmmIdeal.Proj

end
-- ==== Proof.Rope.lean ====
module

public import proofs.«01_k».proof.Proof.Gen.RopeQIdeal.Skeleton
public import Idealize.ShloMosaic.Lib.Pipeline.ValueKit

@[expose] public section

set_option maxRecDepth 16384

noncomputable section

open Idealize.ShloMosaic Idealize.ShloMosaic.TcCoe Idealize.SL.Sem

/-! # Turning the first lanes of a head

A head has 128 lanes. Lane `e < 16` and lane `e + 16` are turned by an angle; the other 96 lanes stay. The kernel adds
three products: the head times one table, the head moved by 16 lanes times a second, and the head moved back by 16 lanes
times a third. The tables' zeros and ones make this the turn of the two lanes. -/

namespace Rope
open Cert.RopeQIdeal Cert.RopeQIdeal.Gen

/-- The rows `h` times 256 columns of the weights. -/
def prod (h : FVec Ideal S1024x1024 .bf16) (w : FVec Ideal S1024x256 .bf16) : FVec Ideal S1024x256 .f32 :=
  matmul dot_S1024x1024_S1024x256_S1024x256_1_0_0_1_n_n none h (shapeCast S1024x256 w shapeCasts_S1024x256_S1024x256)
    (constant S1024x256 .f32 0x00000000#32)

/-- The first of the two heads of 256 columns. -/
def lo (f : FVec Ideal S1024x256 .f32) : FVec Ideal S1024x128 .f32 :=
  extractStridedSlice S1024x128 ![0, 0] f slices_S1024x256_o0_0_S1024x128

/-- The second of the two heads of 256 columns. -/
def hi (f : FVec Ideal S1024x256 .f32) : FVec Ideal S1024x128 .f32 :=
  extractStridedSlice S1024x128 ![0, 128] f slices_S1024x256_o0_128_S1024x128

/-- A head turned by the tables `C`, `A` and `B`. -/
def turn (o C A B : FVec Ideal S1024x128 .f32) : FVec Ideal S1024x128 .f32 :=
  addf (addf (mulf o C) (mulf (dynamicRotate 1 16#32 none o rotates_S1024x128_d1) A))
    (mulf (dynamicRotate 1 112#32 none o rotates_S1024x128_d1) B)

theorem lo_at (h : FVec Ideal S1024x1024 .bf16) (w : FVec Ideal S1024x256 .bf16) (r : Fin 1024) (e : Fin 128) :
    lo (prod h w) (ix2 r e) = ∑ k : Fin 1024, h (ix2 r k) * w (ix2 k ⟨e, by omega⟩) := by
  pointwise [lo, prod]

theorem hi_at (h : FVec Ideal S1024x1024 .bf16) (w : FVec Ideal S1024x256 .bf16) (r : Fin 1024) (e : Fin 128) :
    hi (prod h w) (ix2 r e) = ∑ k : Fin 1024, h (ix2 r k) * w (ix2 k ⟨128 + e, by omega⟩) := by
  pointwise [hi, prod]

/-- An entry of a turned head, the lanes counted round the head. -/
theorem turn_at (o C A B : FVec Ideal S1024x128 .f32) (r : Fin 1024) (e : Fin 128) :
    turn o C A B (ix2 r e)
      = o (ix2 r e) * C (ix2 r e) + o (ix2 r ⟨((e : ℕ) + 112) % 128, by omega⟩) * A (ix2 r e)
        + o (ix2 r ⟨((e : ℕ) + 16) % 128, by omega⟩) * B (ix2 r e) := by
  pointwise [turn]
  blk_point []

/-- What a turn leaves in a lane, from the head's row `p` and the cosines `c` and sines `s` of the row's angles. -/
def turned (p : Fin 128 → EReal) (c s : Fin 16 → EReal) (e : Fin 128) : EReal :=
  if h : (e : ℕ) < 16 then p e * c ⟨e, h⟩ - p ⟨(e : ℕ) + 16, by omega⟩ * s ⟨e, h⟩
  else if h' : (e : ℕ) - 16 < 16 then p e * c ⟨(e : ℕ) - 16, by omega⟩ + p ⟨(e : ℕ) - 16, by omega⟩ * s ⟨(e : ℕ) - 16, h'⟩
  else p e

/-- The first table at a lane: the cosines, the cosines again, then ones. -/
def tabC (c : Fin 16 → EReal) (e : Fin 128) : EReal :=
  if h : (e : ℕ) < 16 then c ⟨e, h⟩ else if h' : (e : ℕ) - 16 < 16 then c ⟨(e : ℕ) - 16, by omega⟩ else 1

/-- The second table: zeros, the sines, zeros. -/
def tabA (s : Fin 16 → EReal) (e : Fin 128) : EReal :=
  if h : (e : ℕ) < 16 then 0 else if h' : (e : ℕ) - 16 < 16 then s ⟨(e : ℕ) - 16, by omega⟩ else 0

/-- The third table: the sines with their signs changed, then zeros. -/
def tabB (s : Fin 16 → EReal) (e : Fin 128) : EReal :=
  if h : (e : ℕ) < 16 then -s ⟨e, h⟩ else 0

/-- The kernel's three products are the turn. -/
theorem turn_eq (o C A B : FVec Ideal S1024x128 .f32) (p : Fin 128 → EReal) (c s : Fin 16 → EReal) (r : Fin 1024) (e : Fin 128)
    (ho : ∀ e : Fin 128, o (ix2 r e) = p e) (hC : ∀ e : Fin 128, C (ix2 r e) = tabC c e)
    (hA : ∀ e : Fin 128, A (ix2 r e) = tabA s e) (hB : ∀ e : Fin 128, B (ix2 r e) = tabB s e) :
    turn o C A B (ix2 r e) = turned p c s e := by
  rw [turn_at, ho, ho, ho, hC, hA, hB]
  unfold turned tabC tabA tabB
  by_cases h : (e : ℕ) < 16
  · have h1 : (⟨((e : ℕ) + 16) % 128, by omega⟩ : Fin 128) = ⟨(e : ℕ) + 16, by omega⟩ := Fin.ext (by show ((e : ℕ) + 16) % 128 = (e : ℕ) + 16; omega)
    simp only [dif_pos h, h1, mul_zero, add_zero, mul_neg, sub_eq_add_neg]
  · by_cases h' : (e : ℕ) - 16 < 16
    · have h1 : (⟨((e : ℕ) + 112) % 128, by omega⟩ : Fin 128) = ⟨(e : ℕ) - 16, by omega⟩ := Fin.ext (by show ((e : ℕ) + 112) % 128 = (e : ℕ) - 16; omega)
      simp only [dif_neg h, dif_pos h', h1, mul_zero, add_zero]
    · simp only [dif_neg h, dif_neg h', mul_zero, add_zero, mul_one]

end Rope

end
-- ==== Proof.RopeQHead.lean ====
module

public import proofs.«01_k».proof.Proof.Rope
public import proofs.«01_k».proof.Proof.Gen.RopeQIdeal.Value
public import proofs.«01_k».proof.Proof.Gen.RopeQRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Rope

/-! # The queries of the attention block

A grid point normalises 1024 rows of tokens, multiplies them by the weights 256 columns at a time, turns the first lanes
of each of the 24 heads by the row's angles, and stores the heads one by one. The reference normalises and multiplies all
rows at once, and turns the heads as one array. -/

namespace Cert.RopeQIdeal.Heads
open Cert.RopeQIdeal Cert.RopeQIdeal.Gen Cert.RopeQRefIdeal.Read

variable (m : (ℓ : Loc nD τ sig) → Buf (Elt Ideal) ℓ)

/-- The block indices of the windows: the rows move with the grid point, the tables repeat after two points. -/
theorem idx : ∀ t : Fin cfg0.N, win0_0.index t = ![t.val, 0] ∧ win0_1.index t = ![0, 0] ∧ win0_2.index t = ![t.val % 2, 0]
    ∧ win0_3.index t = ![t.val % 2, 0] ∧ win0_4.index t = ![t.val % 2, 0] ∧ win0_5.index t = ![0, 0] ∧ win0_6.index t = ![t.val, 0] :=
  (by decide +kernel : ∀ t : Fin grid0.N, _)

/-! ## The reference -/

/-- The cosine and the sine of the angle of position `p` at frequency `i`. -/
def cosv (p : Fin 2048) (i : Fin 16) : EReal := val_main_v36 (F := Ideal) (ix2 p i)
def sinv (p : Fin 2048) (i : Fin 16) : EReal := val_main_v38 (F := Ideal) (ix2 p i)

/-- The reference's normalised row, at an entry. -/
theorem row_ref (X : FVec Ideal S8x2048x1024 .f32) (G : FVec Ideal S1024 .f32) (r : Fin 16384) (k : Fin 1024) :
    val_main_v13 (F := Ideal) X G (ix2 r k)
      = X (ix3 ⟨(r : ℕ) / 2048, by omega⟩ ⟨(r : ℕ) % 2048, by omega⟩ k)
          * Ideal.rsqrt (Ideal.div (∑ q : Fin 1024, X (ix3 ⟨(r : ℕ) / 2048, by omega⟩ ⟨(r : ℕ) % 2048, by omega⟩ q)
              * X (ix3 ⟨(r : ℕ) / 2048, by omega⟩ ⟨(r : ℕ) % 2048, by omega⟩ q)) (Ideal.ofBits .f32 1149239296#32) + Ideal.ofBits .f32 897988541#32)
          * G (ix1 k) := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

/-- The reference's product, at an entry. -/
theorem prod_ref (X : FVec Ideal S8x2048x1024 .f32) (G : FVec Ideal S1024 .f32) (W : FVec Ideal S1x1024x9216 .f32) (r : Fin 16384) (j : Fin 3072) :
    val_main_v16 (F := Ideal) X G W (ix2 r j) = ∑ k : Fin 1024, val_main_v13 (F := Ideal) X G (ix2 r k) * W (ix3 0 k ⟨j, by omega⟩) := by
  pointwise [val_main_v16, val_main_v15, val_main_v14]

/-- The reference's turned heads: an entry of head `h`. -/
theorem turned_ref (X : FVec Ideal S8x2048x1024 .f32) (G : FVec Ideal S1024 .f32) (W : FVec Ideal S1x1024x9216 .f32) (r : Fin 16384) (h : Fin 24)
    (e : Fin 128) (j : Fin 3072) (hj : (j : ℕ) = 128 * h + e) :
    val_main_v54 (F := Ideal) X G W (ix2 r j)
      = turned (fun e => val_main_v16 (F := Ideal) X G W (ix2 r ⟨128 * h + e, by omega⟩))
          (cosv ⟨(r : ℕ) % 2048, by omega⟩) (sinv ⟨(r : ℕ) % 2048, by omega⟩) e := by
  have he : ((r : ℕ) * 3072 + j) % 128 = e := by omega
  have hp : ((r : ℕ) * 3072 + j) / 3072 % 2048 = r % 2048 := by omega
  have hc : ((r : ℕ) * 3072 + j) / 1024 % 3 * 1024 + ((r : ℕ) * 3072 + j) / 128 % 8 * 128 = 128 * h := by omega
  have hj' : j = ⟨128 * h + e, by omega⟩ := Fin.ext hj
  rw [val_main_v54_apply]
  unfold turned cosv sinv
  pointwise [val_main_v53, val_main_v52, val_main_v51, val_main_v50, val_main_v49, val_main_v48, val_main_v47, val_main_v46, val_main_v45,
    val_main_v44, val_main_v43, val_main_v42, val_main_v41, val_main_v40, val_main_v39, val_main_v37, val_main_v17]
  simp only [he, hp, hc]
  by_cases h1 : (e : ℕ) < 16
  · simp only [dif_pos h1, Nat.add_comm 16, hj']
  · have h2 : 16 + ((e : ℕ) - 16) = e := by omega
    by_cases h3 : (e : ℕ) - 16 < 16
    · simp only [dif_neg h1, dif_pos h3, h2]
    · have h4 : 32 + ((e : ℕ) - 16 - 16) = e := by omega
      simp only [dif_neg h1, dif_neg h3, h4]

/-! ## What the region finds in its input arrays -/

/-- The rows are the tokens, laid out as one column of rows. -/
theorem V_x (c : Dev nD) (r : Fin 16384) (k : Fin 1024) :
    V m c main_v2 (ix2 r k) = m ((c : Thread nD τ).loc main_arg0) (ix3 ⟨(r : ℕ) / 2048, by omega⟩ ⟨(r : ℕ) % 2048, by omega⟩ k) := by
  simp only [V, List.flatten_cons, List.flatten_nil, List.append_nil, hostOps0, List.cons_append, List.nil_append]
  after_results
  pointwise

/-- The gain as one row. -/
theorem V_g (c : Dev nD) (k : Fin 1024) : V m c main_v31 (ix2 0 k) = m ((c : Thread nD τ).loc main_arg1) (ix1 k) := by
  simp only [V, List.flatten_cons, List.flatten_nil, List.append_nil, hostOps0, List.cons_append, List.nil_append]
  after_results
  pointwise

/-- The weights: the first 3072 columns. -/
theorem V_w (c : Dev nD) (k : Fin 1024) (j : Fin 3072) :
    V m c main_v30 (ix2 k j) = m ((c : Thread nD τ).loc main_arg2) (ix3 0 k ⟨j, by omega⟩) := by
  simp only [V, List.flatten_cons, List.flatten_nil, List.append_nil, hostOps0, List.cons_append, List.nil_append]
  after_results
  pointwise

/-- The first table: the reference's cosines twice, then ones. -/
theorem tab_cos (c : Dev nD) : V m c main_v26 = concatenate S2048x128 1 [⟨S2048x16, val_main_v36 (F := Ideal)⟩, ⟨S2048x16, val_main_v36 (F := Ideal)⟩,
      ⟨S2048x96, (broadcastInDim S2048x96 ![] bcast_S_S2048x96 (constant S_ .f32 0x3F800000#32) : FVec Ideal S2048x96 .f32)⟩]
      concatenates_S2048x16_S2048x16_S2048x96_S2048x128_d1 := by
  simp only [V, List.flatten_cons, List.flatten_nil, List.append_nil, hostOps0, List.cons_append, List.nil_append]
  after_results_simp
  dsimp only [Matrix.cons_val]
  rfl

/-- The second table: zeros, the reference's sines, then zeros. -/
theorem tab_sa (c : Dev nD) : V m c main_v27 = concatenate S2048x128 1
      [⟨S2048x16, (broadcastInDim S2048x16 ![] bcast_S_S2048x16 (constant S_ .f32 0x00000000#32) : FVec Ideal S2048x16 .f32)⟩, ⟨S2048x16, val_main_v38 (F := Ideal)⟩,
      ⟨S2048x96, (broadcastInDim S2048x96 ![] bcast_S_S2048x96 (constant S_ .f32 0x00000000#32) : FVec Ideal S2048x96 .f32)⟩]
      concatenates_S2048x16_S2048x16_S2048x96_S2048x128_d1 := by
  simp only [V, List.flatten_cons, List.flatten_nil, List.append_nil, hostOps0, List.cons_append, List.nil_append]
  after_results_simp
  dsimp only [Matrix.cons_val]
  rfl

/-- The third table: the reference's sines with their signs changed, then zeros. -/
theorem tab_sb (c : Dev nD) : V m c main_v29 = concatenate S2048x128 1
      [⟨S2048x16, Host.negf (val_main_v38 (F := Ideal))⟩, ⟨S2048x16, (broadcastInDim S2048x16 ![] bcast_S_S2048x16 (constant S_ .f32 0x00000000#32) : FVec Ideal S2048x16 .f32)⟩,
      ⟨S2048x96, (broadcastInDim S2048x96 ![] bcast_S_S2048x96 (constant S_ .f32 0x00000000#32) : FVec Ideal S2048x96 .f32)⟩]
      concatenates_S2048x16_S2048x16_S2048x96_S2048x128_d1 := by
  simp only [V, List.flatten_cons, List.flatten_nil, List.append_nil, hostOps0, List.cons_append, List.nil_append]
  after_results_simp
  dsimp only [Matrix.cons_val]
  rfl

theorem V_cos (c : Dev nD) (p : Fin 2048) (e : Fin 128) : V m c main_v26 (ix2 p e) = tabC (cosv p) e := by
  rw [tab_cos m c]
  unfold tabC cosv
  generalize val_main_v36 (F := Ideal) = u
  pointwise

theorem V_sa (c : Dev nD) (p : Fin 2048) (e : Fin 128) : V m c main_v27 (ix2 p e) = tabA (sinv p) e := by
  rw [tab_sa m c]
  unfold tabA sinv
  generalize val_main_v38 (F := Ideal) = u
  pointwise

theorem V_sb (c : Dev nD) (p : Fin 2048) (e : Fin 128) : V m c main_v29 (ix2 p e) = tabB (sinv p) e := by
  rw [tab_sb m c]
  unfold tabB sinv
  generalize val_main_v38 (F := Ideal) = u
  pointwise
  split_ifs <;> rfl

/-! ## The blocks of a grid point -/

/-- Row `r` of point `t`'s block is row `1024 t + r` of the tokens. -/
theorem x_at (c : Dev nD) (t : Fin cfg0.N) (r : Fin 1024) (k : Fin 1024) (R : Fin 16384) (hR : (R : ℕ) = t.val * 1024 + r) :
    (iblk m c 0 t : FVec Ideal S1024x1024 .f32) (ix2 r k)
      = m ((c : Thread nD τ).loc main_arg0) (ix3 ⟨(R : ℕ) / 2048, by omega⟩ ⟨(R : ℕ) % 2048, by omega⟩ k) := by
  refine Eq.trans ?_ (V_x m c R k)
  blk_ext [iblk, idx t]

theorem g_at (c : Dev nD) (t : Fin cfg0.N) (k : Fin 1024) :
    (iblk m c 1 t : FVec Ideal S1x1024 .f32) (ix2 0 k) = m ((c : Thread nD τ).loc main_arg1) (ix1 k) := by
  refine Eq.trans ?_ (V_g m c k)
  blk_ext [iblk, idx t]

theorem cos_at (c : Dev nD) (t : Fin cfg0.N) (r : Fin 1024) (e : Fin 128) (R : Fin 16384) (hR : (R : ℕ) = t.val * 1024 + r) :
    (iblk m c 2 t : FVec Ideal S1024x128 .f32) (ix2 r e) = tabC (cosv ⟨(R : ℕ) % 2048, by omega⟩) e := by
  refine Eq.trans ?_ (V_cos m c _ e)
  blk_ext [iblk, idx t]

theorem sa_at (c : Dev nD) (t : Fin cfg0.N) (r : Fin 1024) (e : Fin 128) (R : Fin 16384) (hR : (R : ℕ) = t.val * 1024 + r) :
    (iblk m c 3 t : FVec Ideal S1024x128 .f32) (ix2 r e) = tabA (sinv ⟨(R : ℕ) % 2048, by omega⟩) e := by
  refine Eq.trans ?_ (V_sa m c _ e)
  blk_ext [iblk, idx t]

theorem sb_at (c : Dev nD) (t : Fin cfg0.N) (r : Fin 1024) (e : Fin 128) (R : Fin 16384) (hR : (R : ℕ) = t.val * 1024 + r) :
    (iblk m c 4 t : FVec Ideal S1024x128 .f32) (ix2 r e) = tabB (sinv ⟨(R : ℕ) % 2048, by omega⟩) e := by
  refine Eq.trans ?_ (V_sb m c _ e)
  blk_ext [iblk, idx t]

theorem w_at (c : Dev nD) (t : Fin cfg0.N) (k : Fin 1024) (j : Fin 3072) :
    (iblk m c 5 t : FVec Ideal S1024x3072 .bf16) (ix2 k j) = m ((c : Thread nD τ).loc main_arg2) (ix3 0 k ⟨j, by omega⟩) := by
  refine Eq.trans ?_ (V_w m c k j)
  blk_ext [iblk, idx t]

/-- The kernel's normalised row is the reference's. -/
theorem row_at (c : Dev nD) (t : Fin cfg0.N) (r : Fin 1024) (k : Fin 1024) (R : Fin 16384) (hR : (R : ℕ) = t.val * 1024 + r) :
    k0_pay3 (F := Ideal) (iblk m c 0 t) (iblk m c 1 t) (ix2 r k)
      = val_main_v13 (F := Ideal) (m ((c : Thread nD τ).loc main_arg0)) (m ((c : Thread nD τ).loc main_arg1)) (ix2 R k) := by
  rw [row_ref]
  pointwise [k0_pay3]
  blk_point []
  · exact x_at m c t r _ R hR
  · exact x_at m c t r _ R hR
  · exact g_at m c t _

/-! ## The heads of a point's block -/

/-- A load of a whole block is the block. -/
theorem ld_row (a : FVec Ideal S1024x1024 .f32) : View.ld (Val := Elt Ideal) (e' := .f32) a r0_0 = a :=
  View.ld_unit_lit _ _ (by decide)

theorem ld_gain (a : FVec Ideal S1x1024 .f32) : View.ld (Val := Elt Ideal) (e' := .f32) a r0_1 = a :=
  View.ld_unit_lit _ _ (by decide)

theorem ld_tab (a : FVec Ideal S1024x128 .f32) : View.ld (Val := Elt Ideal) (e' := .f32) a r0_2 = a :=
  View.ld_unit_lit _ _ (by decide)

/-- The tables are used as they are loaded. -/
theorem same_tab (a : FVec Ideal S1024x128 .f32) : k0_pay4 a = a ∧ k0_pay5 a = a ∧ k0_pay6 a = a := by
  refine ⟨?_, ?_, ?_⟩ <;> funext y <;> pointwise [k0_pay4, k0_pay5, k0_pay6]

/-- The first two heads are turned heads of the product. -/
theorem same_first (x : FVec Ideal S1024x1024 .f32) (g : FVec Ideal S1x1024 .f32) (C A B : FVec Ideal S1024x128 .f32) (w : FVec Ideal S1024x256 .bf16) :
    k0_pay8 x g C A B w = turn (lo (prod (k0_pay3 x g) w)) (k0_pay4 C) (k0_pay5 A) (k0_pay6 B)
      ∧ k0_pay11 A B (k0_pay9 x g w) (k0_pay10 x g C w) 16#32 = turn (hi (prod (k0_pay3 x g) w)) (k0_pay4 C) A B := by
  and_intros <;> rfl

/-- So are the others. -/
theorem same_heads (h : FVec Ideal S1024x1024 .bf16) (C A B : FVec Ideal S1024x128 .f32) (w : FVec Ideal S1024x256 .bf16) :
    k0_pay13 h C A B w = turn (lo (prod h w)) C A B
      ∧ k0_pay14 h C A B w = turn (hi (prod h w)) C A B
      ∧ k0_pay19 (k0_pay17 h C A w) (k0_pay18 h B w) = turn (lo (prod h w)) C A B
      ∧ k0_pay20 C A B (k0_pay15 h w) = turn (hi (prod h w)) C A B
      ∧ k0_pay22 h C A B w = turn (lo (prod h w)) C A B
      ∧ k0_pay23 h C A B w = turn (hi (prod h w)) C A B
      ∧ k0_pay26 C A B (k0_pay25 h w) = turn (lo (prod h w)) C A B
      ∧ k0_pay27 C A B (k0_pay24 h w) = turn (hi (prod h w)) C A B
      ∧ k0_pay29 h C A B w = turn (lo (prod h w)) C A B
      ∧ k0_pay30 h C A B w = turn (hi (prod h w)) C A B
      ∧ k0_pay32 h C A B w = turn (lo (prod h w)) C A B
      ∧ k0_pay33 h C A B w = turn (hi (prod h w)) C A B
      ∧ k0_pay35 h C A B w = turn (lo (prod h w)) C A B
      ∧ k0_pay39 B (k0_pay36 h w) (k0_pay37 h C w) (k0_pay38 h A w) = turn (hi (prod h w)) C A B
      ∧ k0_pay41 h C A B w = turn (lo (prod h w)) C A B
      ∧ k0_pay42 h C A B w = turn (hi (prod h w)) C A B
      ∧ k0_pay44 h C A B w = turn (lo (prod h w)) C A B
      ∧ k0_pay45 C A B (k0_pay43 h w) = turn (hi (prod h w)) C A B
      ∧ k0_pay47 h C A B w = turn (lo (prod h w)) C A B
      ∧ k0_pay48 h C A B w = turn (hi (prod h w)) C A B
      ∧ k0_pay1 A B (k0_pay50 h w) (k0_pay51 h C w) 16#32 = turn (lo (prod h w)) C A B
      ∧ k0_pay2 C A B (k0_pay49 h w) = turn (hi (prod h w)) C A B := by
  and_intros <;> rfl

section Point
variable (X : FVec Ideal S8x2048x1024 .f32) (G : FVec Ideal S1024 .f32) (W : FVec Ideal S1x1024x9216 .f32) (r : Fin 1024) (R : Fin 16384)

/-- The first of two heads of 256 columns, turned. -/
theorem head_lo (h : FVec Ideal S1024x1024 .bf16) (C A B : FVec Ideal S1024x128 .f32) (w : FVec Ideal S1024x256 .bf16) (e : Fin 128) (j : Fin 3072)
    (hrow : ∀ k : Fin 1024, h (ix2 r k) = val_main_v13 (F := Ideal) X G (ix2 R k))
    (hC : ∀ e : Fin 128, C (ix2 r e) = tabC (cosv ⟨(R : ℕ) % 2048, by omega⟩) e)
    (hA : ∀ e : Fin 128, A (ix2 r e) = tabA (sinv ⟨(R : ℕ) % 2048, by omega⟩) e)
    (hB : ∀ e : Fin 128, B (ix2 r e) = tabB (sinv ⟨(R : ℕ) % 2048, by omega⟩) e)
    (n : Fin 24) (hj : (j : ℕ) = 128 * n + e)
    (hw : ∀ (k : Fin 1024) (q : Fin 128), w (ix2 k ⟨q, by omega⟩) = W (ix3 0 k ⟨128 * n + q, by omega⟩)) :
    turn (lo (prod h w)) C A B (ix2 r e) = val_main_v54 (F := Ideal) X G W (ix2 R j) := by
  rw [turned_ref X G W R n e j hj]
  refine turn_eq _ _ _ _ _ _ _ r e (fun q => ?_) hC hA hB
  rw [lo_at, prod_ref]
  refine Fin.sum_fin_congr fun k => ?_
  rw [hrow, hw]

/-- The second of two heads of 256 columns, turned. -/
theorem head_hi (h : FVec Ideal S1024x1024 .bf16) (C A B : FVec Ideal S1024x128 .f32) (w : FVec Ideal S1024x256 .bf16) (e : Fin 128) (j : Fin 3072)
    (hrow : ∀ k : Fin 1024, h (ix2 r k) = val_main_v13 (F := Ideal) X G (ix2 R k))
    (hC : ∀ e : Fin 128, C (ix2 r e) = tabC (cosv ⟨(R : ℕ) % 2048, by omega⟩) e)
    (hA : ∀ e : Fin 128, A (ix2 r e) = tabA (sinv ⟨(R : ℕ) % 2048, by omega⟩) e)
    (hB : ∀ e : Fin 128, B (ix2 r e) = tabB (sinv ⟨(R : ℕ) % 2048, by omega⟩) e)
    (n : Fin 24) (hj : (j : ℕ) = 128 * n + e)
    (hw : ∀ (k : Fin 1024) (q : Fin 128), w (ix2 k ⟨128 + q, by omega⟩) = W (ix3 0 k ⟨128 * n + q, by omega⟩)) :
    turn (hi (prod h w)) C A B (ix2 r e) = val_main_v54 (F := Ideal) X G W (ix2 R j) := by
  rw [turned_ref X G W R n e j hj]
  refine turn_eq _ _ _ _ _ _ _ r e (fun q => ?_) hC hA hB
  rw [hi_at, prod_ref]
  refine Fin.sum_fin_congr fun k => ?_
  rw [hrow, hw]

end Point

end Cert.RopeQIdeal.Heads

end
-- ==== Proof.RopeQ.lean ====
module

public import proofs.«01_k».proof.Proof.RopeQHead
public import proofs.«01_k».proof.Proof.Gen.RopeQIdeal.Value
public import proofs.«01_k».proof.Proof.Gen.RopeQRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Rope

/-! # The queries of the attention block: the result array

The 24 heads of a point's block are put together, and the blocks of all points. -/

namespace Cert.RopeQIdeal.Heads
open Cert.RopeQIdeal Cert.RopeQIdeal.Gen Cert.RopeQRefIdeal.Read

section Point
variable (X : FVec Ideal S8x2048x1024 .f32) (G : FVec Ideal S1024 .f32) (W : FVec Ideal S1x1024x9216 .f32) (r : Fin 1024) (R : Fin 16384)

attribute [local irreducible] lo hi prod turn

/-- An entry of a point's block is the reference's entry, whatever head it lies in. -/
theorem point (a0 : FVec Ideal S1024x1024 .f32) (a1 : FVec Ideal S1x1024 .f32) (a2 a3 a4 : FVec Ideal S1024x128 .f32) (a5 : FVec Ideal S1024x3072 .bf16)
    (hrow : ∀ k : Fin 1024, k0_pay3 (F := Ideal) a0 a1 (ix2 r k) = val_main_v13 (F := Ideal) X G (ix2 R k))
    (hC : ∀ e : Fin 128, a2 (ix2 r e) = tabC (cosv ⟨(R : ℕ) % 2048, by omega⟩) e)
    (hA : ∀ e : Fin 128, a3 (ix2 r e) = tabA (sinv ⟨(R : ℕ) % 2048, by omega⟩) e)
    (hB : ∀ e : Fin 128, a4 (ix2 r e) = tabB (sinv ⟨(R : ℕ) % 2048, by omega⟩) e)
    (hw : ∀ (k : Fin 1024) (q : Fin 3072), a5 (ix2 k q) = W (ix3 0 k ⟨q, by omega⟩))
    (y : S1024x3072.Idx) (j : Fin 3072) (hy0 : (y 0 : ℕ) = r) (hy1 : (y 1 : ℕ) = j) :
    out0_6 (F := Ideal) a0 a1 a2 a3 a4 a5 y = val_main_v54 (F := Ideal) X G W (ix2 R j) := by
  unfold out0_6
  canon_tiles x hh
  all_goals
    idx_vars x
    obtain rfl : r = x0 := Fin.ext (by omega)
    simp only [k0_pay52, k0_pay53, k0_pay54, k0_pay55, same_first, same_heads, ld_row, ld_gain, ld_tab, same_tab]
    first
      | refine head_lo X G W r R _ _ _ _ _ x1 j hrow hC hA hB ⟨(j : ℕ) / 128, by omega⟩ (by show (j : ℕ) = 128 * ((j : ℕ) / 128) + x1; omega) fun k q => ?_
      | refine head_hi X G W r R _ _ _ _ _ x1 j hrow hC hA hB ⟨(j : ℕ) / 128, by omega⟩ (by show (j : ℕ) = 128 * ((j : ℕ) / 128) + x1; omega) fun k q => ?_
    refine Eq.trans ?_ (hw k ⟨128 * ((j : ℕ) / 128) + q, by omega⟩)
    pointwise
    blk_ext []
end Point

variable (m : (ℓ : Loc nD τ sig) → Buf (Elt Ideal) ℓ)

theorem core (c : Dev nD) (t : Fin cfg0.N) (y : S1024x3072.Idx) (j : S16384x3072.Idx) (hj0 : (j 0 : ℕ) = t.val * 1024 + y 0) (hj1 : (j 1 : ℕ) = y 1) :
    out0_6 (F := Ideal) (iblk m c 0 t) (iblk m c 1 t) (iblk m c 2 t) (iblk m c 3 t) (iblk m c 4 t) (iblk m c 5 t) y
      = val_main_v54 (F := Ideal) (m ((c : Thread nD τ).loc main_arg0)) (m ((c : Thread nD τ).loc main_arg1)) (m ((c : Thread nD τ).loc main_arg2)) j := by
  idx_vars j
  exact point _ _ _ (y 0) j0 _ _ _ _ _ _ (fun k => row_at m c t (y 0) k j0 hj0) (fun e => cos_at m c t (y 0) e j0 hj0) (fun e => sa_at m c t (y 0) e j0 hj0)
    (fun e => sb_at m c t (y 0) e j0 hj0) (fun k q => w_at m c t k q) y j1 rfl hj1.symm

/-- The kernel's result array is the reference's. -/
theorem final (c : Dev nD) : (dats m 0 c).arrAt 6 (cfgs 0).N
    = val_main_v54 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  refine core m c t y _ ?_ ?_
  all_goals (blk_simp [idx t] <;> try omega)

end Cert.RopeQIdeal.Heads

end
-- ==== Proof.RopeKvHead.lean ====
module

public import proofs.«01_k».proof.Proof.Rope
public import proofs.«01_k».proof.Proof.Gen.RopeKvIdeal.Value
public import proofs.«01_k».proof.Proof.Gen.RopeKvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Rope

/-! # The keys and values of the attention block

A grid point normalises 1024 rows of tokens, multiplies them by the key weights and the value weights 256 columns at a time,
turns the first lanes of each of the 8 key heads by the row's angles, and stores the 16 heads one by one. The reference
multiplies by the two weights apart, turns the keys as one array, and lays the values beside them. -/

namespace Cert.RopeKvIdeal.Heads
open Cert.RopeKvIdeal Cert.RopeKvIdeal.Gen Cert.RopeKvRefIdeal.Read

variable (m : (ℓ : Loc nD τ sig) → Buf (Elt Ideal) ℓ)

/-- The block indices of the windows: the rows move with the grid point, the tables repeat after two points. -/
theorem idx : ∀ t : Fin cfg0.N, win0_0.index t = ![t.val, 0] ∧ win0_1.index t = ![0, 0] ∧ win0_2.index t = ![t.val % 2, 0]
    ∧ win0_3.index t = ![t.val % 2, 0] ∧ win0_4.index t = ![t.val % 2, 0] ∧ win0_5.index t = ![0, 0] ∧ win0_6.index t = ![t.val, 0] :=
  (by decide +kernel : ∀ t : Fin grid0.N, _)

/-! ## The reference -/

/-- The cosine and the sine of the angle of position `p` at frequency `i`. -/
def cosv (p : Fin 2048) (i : Fin 16) : EReal := val_main_v34 (F := Ideal) (ix2 p i)
def sinv (p : Fin 2048) (i : Fin 16) : EReal := val_main_v36 (F := Ideal) (ix2 p i)

/-- The reference's normalised row, at an entry. -/
theorem row_ref (X : FVec Ideal S8x2048x1024 .f32) (G : FVec Ideal S1024 .f32) (r : Fin 16384) (k : Fin 1024) :
    val_main_v13 (F := Ideal) X G (ix2 r k)
      = X (ix3 ⟨(r : ℕ) / 2048, by omega⟩ ⟨(r : ℕ) % 2048, by omega⟩ k)
          * Ideal.rsqrt (Ideal.div (∑ q : Fin 1024, X (ix3 ⟨(r : ℕ) / 2048, by omega⟩ ⟨(r : ℕ) % 2048, by omega⟩ q)
              * X (ix3 ⟨(r : ℕ) / 2048, by omega⟩ ⟨(r : ℕ) % 2048, by omega⟩ q)) (Ideal.ofBits .f32 1149239296#32) + Ideal.ofBits .f32 897988541#32)
          * G (ix1 k) := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

/-- The reference's product with the key weights, at an entry. -/
theorem prod_ref (X : FVec Ideal S8x2048x1024 .f32) (G : FVec Ideal S1024 .f32) (W : FVec Ideal S1024x1024 .f32) (r : Fin 16384) (j : Fin 1024) :
    val_main_v14 (F := Ideal) X G W (ix2 r j) = ∑ k : Fin 1024, val_main_v13 (F := Ideal) X G (ix2 r k) * W (ix2 k j) := by
  pointwise [val_main_v14]

/-- The reference's product with the value weights, at an entry. -/
theorem values_ref (X : FVec Ideal S8x2048x1024 .f32) (G : FVec Ideal S1024 .f32) (W : FVec Ideal S1024x1024 .f32) (r : Fin 16384) (j : Fin 1024) :
    val_main_v53 (F := Ideal) X G W (ix2 r j) = ∑ k : Fin 1024, val_main_v13 (F := Ideal) X G (ix2 r k) * W (ix2 k j) := by
  pointwise [val_main_v53]

/-- The reference's turned heads: an entry of head `h`. -/
theorem turned_ref (X : FVec Ideal S8x2048x1024 .f32) (G : FVec Ideal S1024 .f32) (W : FVec Ideal S1024x1024 .f32) (r : Fin 16384) (h : Fin 8)
    (e : Fin 128) (j : Fin 1024) (hj : (j : ℕ) = 128 * h + e) :
    val_main_v52 (F := Ideal) X G W (ix2 r j)
      = turned (fun e => val_main_v14 (F := Ideal) X G W (ix2 r ⟨128 * h + e, by omega⟩))
          (cosv ⟨(r : ℕ) % 2048, by omega⟩) (sinv ⟨(r : ℕ) % 2048, by omega⟩) e := by
  have he : ((r : ℕ) * 1024 + j) % 128 = e := by omega
  have hp : ((r : ℕ) * 1024 + j) / 1024 % 2048 = r % 2048 := by omega
  have hc : ((r : ℕ) * 1024 + j) / 128 % 8 * 128 = 128 * h := by omega
  have hj' : j = ⟨128 * h + e, by omega⟩ := Fin.ext hj
  rw [val_main_v52_apply]
  unfold turned cosv sinv
  pointwise [val_main_v51, val_main_v50, val_main_v49, val_main_v48, val_main_v47, val_main_v46, val_main_v45, val_main_v44, val_main_v43,
    val_main_v42, val_main_v41, val_main_v40, val_main_v39, val_main_v38, val_main_v37, val_main_v35, val_main_v15]
  simp only [he, hp, hc]
  by_cases h1 : (e : ℕ) < 16
  · simp only [dif_pos h1, Nat.add_comm 16, hj']
  · have h2 : 16 + ((e : ℕ) - 16) = e := by omega
    by_cases h3 : (e : ℕ) - 16 < 16
    · simp only [dif_neg h1, dif_pos h3, h2]
    · have h4 : 32 + ((e : ℕ) - 16 - 16) = e := by omega
      simp only [dif_neg h1, dif_neg h3, h4]

/-- The reference's result: the turned keys in the first 1024 columns, the values in the others. -/
theorem keys_ref (X : FVec Ideal S8x2048x1024 .f32) (G : FVec Ideal S1024 .f32) (W U : FVec Ideal S1024x1024 .f32) (r : Fin 16384) (j : Fin 2048)
    (i : Fin 1024) (hj : (j : ℕ) = i) :
    val_main_v54 (F := Ideal) X G W U (ix2 r j) = val_main_v52 (F := Ideal) X G W (ix2 r i) := by
  unfold val_main_v54
  generalize val_main_v52 (F := Ideal) X G W = u
  generalize val_main_v53 (F := Ideal) X G U = v
  pointwise
  rw [dif_pos (by omega)]
  blk_ext []

theorem beside_ref (X : FVec Ideal S8x2048x1024 .f32) (G : FVec Ideal S1024 .f32) (W U : FVec Ideal S1024x1024 .f32) (r : Fin 16384) (j : Fin 2048)
    (i : Fin 1024) (hj : (j : ℕ) = 1024 + i) :
    val_main_v54 (F := Ideal) X G W U (ix2 r j) = val_main_v53 (F := Ideal) X G U (ix2 r i) := by
  unfold val_main_v54
  generalize val_main_v52 (F := Ideal) X G W = u
  generalize val_main_v53 (F := Ideal) X G U = v
  pointwise
  rw [dif_neg (by omega)]
  blk_ext []

/-! ## What the region finds in its input arrays -/

/-- The rows are the tokens, laid out as one column of rows. -/
theorem V_x (c : Dev nD) (r : Fin 16384) (k : Fin 1024) :
    V m c main_v3 (ix2 r k) = m ((c : Thread nD τ).loc main_arg0) (ix3 ⟨(r : ℕ) / 2048, by omega⟩ ⟨(r : ℕ) % 2048, by omega⟩ k) := by
  simp only [V, List.flatten_cons, List.flatten_nil, List.append_nil, hostOps0, List.cons_append, List.nil_append]
  after_results
  pointwise

/-- The gain as one row. -/
theorem V_g (c : Dev nD) (k : Fin 1024) : V m c main_v31 (ix2 0 k) = m ((c : Thread nD τ).loc main_arg1) (ix1 k) := by
  simp only [V, List.flatten_cons, List.flatten_nil, List.append_nil, hostOps0, List.cons_append, List.nil_append]
  after_results
  pointwise

/-- The weights: the key weights and the value weights side by side. -/
theorem V_w (c : Dev nD) (k : Fin 1024) (j : Fin 2048) :
    V m c main_v2 (ix2 k j) = (if h : (j : ℕ) < 1024 then (m ((c : Thread nD τ).loc main_arg2) : FVec Ideal S1024x1024 .f32) (ix2 k ⟨j, h⟩)
      else (m ((c : Thread nD τ).loc main_arg3) : FVec Ideal S1024x1024 .f32) (ix2 k ⟨(j : ℕ) - 1024, by omega⟩) : EReal) := by
  simp only [V, List.flatten_cons, List.flatten_nil, List.append_nil, hostOps0, List.cons_append, List.nil_append]
  after_results
  generalize (m ((c : Thread nD τ).loc main_arg2) : FVec Ideal S1024x1024 .f32) = u
  generalize (m ((c : Thread nD τ).loc main_arg3) : FVec Ideal S1024x1024 .f32) = v
  pointwise

/-- The first table: the reference's cosines twice, then ones. -/
theorem tab_cos (c : Dev nD) : V m c main_v27 = concatenate S2048x128 1 [⟨S2048x16, val_main_v34 (F := Ideal)⟩, ⟨S2048x16, val_main_v34 (F := Ideal)⟩,
      ⟨S2048x96, (broadcastInDim S2048x96 ![] bcast_S_S2048x96 (constant S_ .f32 0x3F800000#32) : FVec Ideal S2048x96 .f32)⟩]
      concatenates_S2048x16_S2048x16_S2048x96_S2048x128_d1 := by
  simp only [V, List.flatten_cons, List.flatten_nil, List.append_nil, hostOps0, List.cons_append, List.nil_append]
  after_results_simp
  dsimp only [Matrix.cons_val]
  rfl

/-- The second table: zeros, the reference's sines, then zeros. -/
theorem tab_sa (c : Dev nD) : V m c main_v28 = concatenate S2048x128 1
      [⟨S2048x16, (broadcastInDim S2048x16 ![] bcast_S_S2048x16 (constant S_ .f32 0x00000000#32) : FVec Ideal S2048x16 .f32)⟩, ⟨S2048x16, val_main_v36 (F := Ideal)⟩,
      ⟨S2048x96, (broadcastInDim S2048x96 ![] bcast_S_S2048x96 (constant S_ .f32 0x00000000#32) : FVec Ideal S2048x96 .f32)⟩]
      concatenates_S2048x16_S2048x16_S2048x96_S2048x128_d1 := by
  simp only [V, List.flatten_cons, List.flatten_nil, List.append_nil, hostOps0, List.cons_append, List.nil_append]
  after_results_simp
  dsimp only [Matrix.cons_val]
  rfl

/-- The third table: the reference's sines with their signs changed, then zeros. -/
theorem tab_sb (c : Dev nD) : V m c main_v30 = concatenate S2048x128 1
      [⟨S2048x16, Host.negf (val_main_v36 (F := Ideal))⟩, ⟨S2048x16, (broadcastInDim S2048x16 ![] bcast_S_S2048x16 (constant S_ .f32 0x00000000#32) : FVec Ideal S2048x16 .f32)⟩,
      ⟨S2048x96, (broadcastInDim S2048x96 ![] bcast_S_S2048x96 (constant S_ .f32 0x00000000#32) : FVec Ideal S2048x96 .f32)⟩]
      concatenates_S2048x16_S2048x16_S2048x96_S2048x128_d1 := by
  simp only [V, List.flatten_cons, List.flatten_nil, List.append_nil, hostOps0, List.cons_append, List.nil_append]
  after_results_simp
  dsimp only [Matrix.cons_val]
  rfl

theorem V_cos (c : Dev nD) (p : Fin 2048) (e : Fin 128) : V m c main_v27 (ix2 p e) = tabC (cosv p) e := by
  rw [tab_cos m c]
  unfold tabC cosv
  generalize val_main_v34 (F := Ideal) = u
  pointwise

theorem V_sa (c : Dev nD) (p : Fin 2048) (e : Fin 128) : V m c main_v28 (ix2 p e) = tabA (sinv p) e := by
  rw [tab_sa m c]
  unfold tabA sinv
  generalize val_main_v36 (F := Ideal) = u
  pointwise

theorem V_sb (c : Dev nD) (p : Fin 2048) (e : Fin 128) : V m c main_v30 (ix2 p e) = tabB (sinv p) e := by
  rw [tab_sb m c]
  unfold tabB sinv
  generalize val_main_v36 (F := Ideal) = u
  pointwise
  split_ifs <;> rfl

/-! ## The blocks of a grid point -/

/-- Row `r` of point `t`'s block is row `1024 t + r` of the tokens. -/
theorem x_at (c : Dev nD) (t : Fin cfg0.N) (r : Fin 1024) (k : Fin 1024) (R : Fin 16384) (hR : (R : ℕ) = t.val * 1024 + r) :
    (iblk m c 0 t : FVec Ideal S1024x1024 .f32) (ix2 r k)
      = m ((c : Thread nD τ).loc main_arg0) (ix3 ⟨(R : ℕ) / 2048, by omega⟩ ⟨(R : ℕ) % 2048, by omega⟩ k) := by
  refine Eq.trans ?_ (V_x m c R k)
  blk_ext [iblk, idx t]

theorem g_at (c : Dev nD) (t : Fin cfg0.N) (k : Fin 1024) :
    (iblk m c 1 t : FVec Ideal S1x1024 .f32) (ix2 0 k) = m ((c : Thread nD τ).loc main_arg1) (ix1 k) := by
  refine Eq.trans ?_ (V_g m c k)
  blk_ext [iblk, idx t]

theorem cos_at (c : Dev nD) (t : Fin cfg0.N) (r : Fin 1024) (e : Fin 128) (R : Fin 16384) (hR : (R : ℕ) = t.val * 1024 + r) :
    (iblk m c 2 t : FVec Ideal S1024x128 .f32) (ix2 r e) = tabC (cosv ⟨(R : ℕ) % 2048, by omega⟩) e := by
  refine Eq.trans ?_ (V_cos m c _ e)
  blk_ext [iblk, idx t]

theorem sa_at (c : Dev nD) (t : Fin cfg0.N) (r : Fin 1024) (e : Fin 128) (R : Fin 16384) (hR : (R : ℕ) = t.val * 1024 + r) :
    (iblk m c 3 t : FVec Ideal S1024x128 .f32) (ix2 r e) = tabA (sinv ⟨(R : ℕ) % 2048, by omega⟩) e := by
  refine Eq.trans ?_ (V_sa m c _ e)
  blk_ext [iblk, idx t]

theorem sb_at (c : Dev nD) (t : Fin cfg0.N) (r : Fin 1024) (e : Fin 128) (R : Fin 16384) (hR : (R : ℕ) = t.val * 1024 + r) :
    (iblk m c 4 t : FVec Ideal S1024x128 .f32) (ix2 r e) = tabB (sinv ⟨(R : ℕ) % 2048, by omega⟩) e := by
  refine Eq.trans ?_ (V_sb m c _ e)
  blk_ext [iblk, idx t]

theorem k_at (c : Dev nD) (t : Fin cfg0.N) (k : Fin 1024) (j : Fin 1024) :
    (iblk m c 5 t : FVec Ideal S1024x2048 .bf16) (ix2 k ⟨j, by omega⟩) = m ((c : Thread nD τ).loc main_arg2) (ix2 k j) := by
  refine Eq.trans (Eq.trans ?_ (V_w m c k ⟨j, by omega⟩)) (dif_pos j.isLt)
  blk_ext [iblk, idx t]

theorem v_at (c : Dev nD) (t : Fin cfg0.N) (k : Fin 1024) (j : Fin 1024) :
    (iblk m c 5 t : FVec Ideal S1024x2048 .bf16) (ix2 k ⟨1024 + j, by omega⟩) = m ((c : Thread nD τ).loc main_arg3) (ix2 k j) := by
  refine Eq.trans (Eq.trans ?_ (V_w m c k ⟨1024 + j, by omega⟩)) ((dif_neg (by show ¬1024 + (j : ℕ) < 1024; omega)).trans ?_)
  · blk_ext [iblk, idx t]
  · blk_ext []

/-- The kernel's normalised row is the reference's. -/
theorem row_at (c : Dev nD) (t : Fin cfg0.N) (r : Fin 1024) (k : Fin 1024) (R : Fin 16384) (hR : (R : ℕ) = t.val * 1024 + r) :
    k0_pay1 (F := Ideal) (iblk m c 0 t) (iblk m c 1 t) (ix2 r k)
      = val_main_v13 (F := Ideal) (m ((c : Thread nD τ).loc main_arg0)) (m ((c : Thread nD τ).loc main_arg1)) (ix2 R k) := by
  rw [row_ref]
  pointwise [k0_pay1]
  blk_point []
  · exact x_at m c t r _ R hR
  · exact x_at m c t r _ R hR
  · exact g_at m c t _

/-! ## The heads of a point's block -/

/-- A load of a whole block is the block. -/
theorem ld_row (a : FVec Ideal S1024x1024 .f32) : View.ld (Val := Elt Ideal) (e' := .f32) a r0_0 = a :=
  View.ld_unit_lit _ _ (by decide)

theorem ld_gain (a : FVec Ideal S1x1024 .f32) : View.ld (Val := Elt Ideal) (e' := .f32) a r0_1 = a :=
  View.ld_unit_lit _ _ (by decide)

theorem ld_tab (a : FVec Ideal S1024x128 .f32) : View.ld (Val := Elt Ideal) (e' := .f32) a r0_2 = a :=
  View.ld_unit_lit _ _ (by decide)

/-- The tables are used as they are loaded. -/
theorem same_tab (a : FVec Ideal S1024x128 .f32) : k0_pay2 a = a ∧ k0_pay3 a = a ∧ k0_pay4 a = a := by
  refine ⟨?_, ?_, ?_⟩ <;> funext y <;> pointwise [k0_pay2, k0_pay3, k0_pay4]

/-- The first two heads are turned heads of the product. -/
theorem same_first (x : FVec Ideal S1024x1024 .f32) (g : FVec Ideal S1x1024 .f32) (C A B : FVec Ideal S1024x128 .f32) (w : FVec Ideal S1024x256 .bf16) :
    k0_pay6 x g C A B w = turn (lo (prod (k0_pay1 x g) w)) (k0_pay2 C) (k0_pay3 A) (k0_pay4 B)
      ∧ k0_pay9 A B (k0_pay7 x g w) (k0_pay8 x g C w) 16#32 = turn (hi (prod (k0_pay1 x g) w)) (k0_pay2 C) A B := by
  and_intros <;> rfl

/-- So are the other keys. -/
theorem same_heads (h : FVec Ideal S1024x1024 .bf16) (C A B : FVec Ideal S1024x128 .f32) (w : FVec Ideal S1024x256 .bf16) :
    k0_pay11 h C A B w = turn (lo (prod h w)) C A B
      ∧ k0_pay12 h C A B w = turn (hi (prod h w)) C A B
      ∧ k0_pay17 (k0_pay15 h C A w) (k0_pay16 h B w) = turn (lo (prod h w)) C A B
      ∧ k0_pay18 C A B (k0_pay13 h w) = turn (hi (prod h w)) C A B
      ∧ k0_pay20 h C A B w = turn (lo (prod h w)) C A B
      ∧ k0_pay21 h C A B w = turn (hi (prod h w)) C A B := by
  and_intros <;> rfl

/-- The values are heads of the product. -/
theorem same_plain (h : FVec Ideal S1024x1024 .bf16) (w : FVec Ideal S1024x256 .bf16) :
    k0_pay23 h w = lo (prod h w)
      ∧ k0_pay24 (k0_pay22 h w) = hi (prod h w)
      ∧ k0_pay26 h w = lo (prod h w)
      ∧ k0_pay27 h w = hi (prod h w)
      ∧ k0_pay29 h w = lo (prod h w)
      ∧ k0_pay30 h w = hi (prod h w)
      ∧ k0_pay32 h w = lo (prod h w)
      ∧ k0_pay33 h w = hi (prod h w) := by
  and_intros <;> rfl

section Point
variable (X : FVec Ideal S8x2048x1024 .f32) (G : FVec Ideal S1024 .f32) (W U : FVec Ideal S1024x1024 .f32) (r : Fin 1024) (R : Fin 16384)

/-- The first of two heads of 256 columns, turned. -/
theorem head_lo (h : FVec Ideal S1024x1024 .bf16) (C A B : FVec Ideal S1024x128 .f32) (w : FVec Ideal S1024x256 .bf16) (e : Fin 128) (j : Fin 2048)
    (hrow : ∀ k : Fin 1024, h (ix2 r k) = val_main_v13 (F := Ideal) X G (ix2 R k))
    (hC : ∀ e : Fin 128, C (ix2 r e) = tabC (cosv ⟨(R : ℕ) % 2048, by omega⟩) e)
    (hA : ∀ e : Fin 128, A (ix2 r e) = tabA (sinv ⟨(R : ℕ) % 2048, by omega⟩) e)
    (hB : ∀ e : Fin 128, B (ix2 r e) = tabB (sinv ⟨(R : ℕ) % 2048, by omega⟩) e)
    (n : Fin 8) (hj : (j : ℕ) = 128 * n + e)
    (hw : ∀ (k : Fin 1024) (q : Fin 128), w (ix2 k ⟨q, by omega⟩) = W (ix2 k ⟨128 * n + q, by omega⟩)) :
    turn (lo (prod h w)) C A B (ix2 r e) = val_main_v54 (F := Ideal) X G W U (ix2 R j) := by
  rw [keys_ref X G W U R j ⟨128 * n + e, by omega⟩ hj, turned_ref X G W R n e _ rfl]
  refine turn_eq _ _ _ _ _ _ _ r e (fun q => ?_) hC hA hB
  rw [lo_at, prod_ref]
  refine Fin.sum_fin_congr fun k => ?_
  rw [hrow, hw]

/-- The second of two heads of 256 columns, turned. -/
theorem head_hi (h : FVec Ideal S1024x1024 .bf16) (C A B : FVec Ideal S1024x128 .f32) (w : FVec Ideal S1024x256 .bf16) (e : Fin 128) (j : Fin 2048)
    (hrow : ∀ k : Fin 1024, h (ix2 r k) = val_main_v13 (F := Ideal) X G (ix2 R k))
    (hC : ∀ e : Fin 128, C (ix2 r e) = tabC (cosv ⟨(R : ℕ) % 2048, by omega⟩) e)
    (hA : ∀ e : Fin 128, A (ix2 r e) = tabA (sinv ⟨(R : ℕ) % 2048, by omega⟩) e)
    (hB : ∀ e : Fin 128, B (ix2 r e) = tabB (sinv ⟨(R : ℕ) % 2048, by omega⟩) e)
    (n : Fin 8) (hj : (j : ℕ) = 128 * n + e)
    (hw : ∀ (k : Fin 1024) (q : Fin 128), w (ix2 k ⟨128 + q, by omega⟩) = W (ix2 k ⟨128 * n + q, by omega⟩)) :
    turn (hi (prod h w)) C A B (ix2 r e) = val_main_v54 (F := Ideal) X G W U (ix2 R j) := by
  rw [keys_ref X G W U R j ⟨128 * n + e, by omega⟩ hj, turned_ref X G W R n e _ rfl]
  refine turn_eq _ _ _ _ _ _ _ r e (fun q => ?_) hC hA hB
  rw [hi_at, prod_ref]
  refine Fin.sum_fin_congr fun k => ?_
  rw [hrow, hw]

/-- The first of two heads of 256 columns, as it is. -/
theorem plain_lo (h : FVec Ideal S1024x1024 .bf16) (w : FVec Ideal S1024x256 .bf16) (e : Fin 128) (j : Fin 2048)
    (hrow : ∀ k : Fin 1024, h (ix2 r k) = val_main_v13 (F := Ideal) X G (ix2 R k))
    (n : Fin 8) (hj : (j : ℕ) = 1024 + (128 * n + e))
    (hw : ∀ (k : Fin 1024) (q : Fin 128), w (ix2 k ⟨q, by omega⟩) = U (ix2 k ⟨128 * n + q, by omega⟩)) :
    lo (prod h w) (ix2 r e) = val_main_v54 (F := Ideal) X G W U (ix2 R j) := by
  rw [beside_ref X G W U R j ⟨128 * n + e, by omega⟩ hj, lo_at, values_ref]
  refine Fin.sum_fin_congr fun k => ?_
  rw [hrow, hw]

/-- The second of two heads of 256 columns, as it is. -/
theorem plain_hi (h : FVec Ideal S1024x1024 .bf16) (w : FVec Ideal S1024x256 .bf16) (e : Fin 128) (j : Fin 2048)
    (hrow : ∀ k : Fin 1024, h (ix2 r k) = val_main_v13 (F := Ideal) X G (ix2 R k))
    (n : Fin 8) (hj : (j : ℕ) = 1024 + (128 * n + e))
    (hw : ∀ (k : Fin 1024) (q : Fin 128), w (ix2 k ⟨128 + q, by omega⟩) = U (ix2 k ⟨128 * n + q, by omega⟩)) :
    hi (prod h w) (ix2 r e) = val_main_v54 (F := Ideal) X G W U (ix2 R j) := by
  rw [beside_ref X G W U R j ⟨128 * n + e, by omega⟩ hj, hi_at, values_ref]
  refine Fin.sum_fin_congr fun k => ?_
  rw [hrow, hw]

end Point

end Cert.RopeKvIdeal.Heads

end
-- ==== Proof.RopeKv.lean ====
module

public import proofs.«01_k».proof.Proof.RopeKvHead
public import proofs.«01_k».proof.Proof.Gen.RopeKvIdeal.Value
public import proofs.«01_k».proof.Proof.Gen.RopeKvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Rope

/-! # The keys and values of the attention block: the result array

The 16 heads of a point's block are put together, and the blocks of all points. -/

namespace Cert.RopeKvIdeal.Heads
open Cert.RopeKvIdeal Cert.RopeKvIdeal.Gen Cert.RopeKvRefIdeal.Read

section Point
variable (X : FVec Ideal S8x2048x1024 .f32) (G : FVec Ideal S1024 .f32) (W U : FVec Ideal S1024x1024 .f32) (r : Fin 1024) (R : Fin 16384)

attribute [local irreducible] lo hi prod turn

/-- An entry of a point's block is the reference's entry, whatever head it lies in. -/
theorem point (a0 : FVec Ideal S1024x1024 .f32) (a1 : FVec Ideal S1x1024 .f32) (a2 a3 a4 : FVec Ideal S1024x128 .f32) (a5 : FVec Ideal S1024x2048 .bf16)
    (hrow : ∀ k : Fin 1024, k0_pay1 (F := Ideal) a0 a1 (ix2 r k) = val_main_v13 (F := Ideal) X G (ix2 R k))
    (hC : ∀ e : Fin 128, a2 (ix2 r e) = tabC (cosv ⟨(R : ℕ) % 2048, by omega⟩) e)
    (hA : ∀ e : Fin 128, a3 (ix2 r e) = tabA (sinv ⟨(R : ℕ) % 2048, by omega⟩) e)
    (hB : ∀ e : Fin 128, a4 (ix2 r e) = tabB (sinv ⟨(R : ℕ) % 2048, by omega⟩) e)
    (hk : ∀ k q : Fin 1024, a5 (ix2 k ⟨q, by omega⟩) = W (ix2 k q)) (hv : ∀ k q : Fin 1024, a5 (ix2 k ⟨1024 + q, by omega⟩) = U (ix2 k q))
    (y : S1024x2048.Idx) (j : Fin 2048) (hy0 : (y 0 : ℕ) = r) (hy1 : (y 1 : ℕ) = j) :
    out0_6 (F := Ideal) a0 a1 a2 a3 a4 a5 y = val_main_v54 (F := Ideal) X G W U (ix2 R j) := by
  unfold out0_6
  canon_tiles x hh
  all_goals
    idx_vars x
    obtain rfl : r = x0 := Fin.ext (by omega)
    simp only [k0_pay34, k0_pay35, k0_pay36, k0_pay37, same_first, same_heads, same_plain, ld_row, ld_gain, ld_tab, same_tab]
    first
      | refine head_lo X G W U r R _ _ _ _ _ x1 j hrow hC hA hB ⟨(j : ℕ) / 128, by omega⟩ (by show (j : ℕ) = 128 * ((j : ℕ) / 128) + x1; omega)
          fun k q => Eq.trans ?_ (hk k ⟨128 * ((j : ℕ) / 128) + q, by omega⟩)
      | refine head_hi X G W U r R _ _ _ _ _ x1 j hrow hC hA hB ⟨(j : ℕ) / 128, by omega⟩ (by show (j : ℕ) = 128 * ((j : ℕ) / 128) + x1; omega)
          fun k q => Eq.trans ?_ (hk k ⟨128 * ((j : ℕ) / 128) + q, by omega⟩)
      | refine plain_lo X G W U r R _ _ x1 j hrow ⟨(j : ℕ) / 128 - 8, by omega⟩ (by show (j : ℕ) = 1024 + (128 * ((j : ℕ) / 128 - 8) + x1); omega)
          fun k q => Eq.trans ?_ (hv k ⟨128 * ((j : ℕ) / 128 - 8) + q, by omega⟩)
      | refine plain_hi X G W U r R _ _ x1 j hrow ⟨(j : ℕ) / 128 - 8, by omega⟩ (by show (j : ℕ) = 1024 + (128 * ((j : ℕ) / 128 - 8) + x1); omega)
          fun k q => Eq.trans ?_ (hv k ⟨128 * ((j : ℕ) / 128 - 8) + q, by omega⟩)
    pointwise
    blk_ext []
end Point

variable (m : (ℓ : Loc nD τ sig) → Buf (Elt Ideal) ℓ)

theorem core (c : Dev nD) (t : Fin cfg0.N) (y : S1024x2048.Idx) (j : S16384x2048.Idx) (hj0 : (j 0 : ℕ) = t.val * 1024 + y 0) (hj1 : (j 1 : ℕ) = y 1) :
    out0_6 (F := Ideal) (iblk m c 0 t) (iblk m c 1 t) (iblk m c 2 t) (iblk m c 3 t) (iblk m c 4 t) (iblk m c 5 t) y
      = val_main_v54 (F := Ideal) (m ((c : Thread nD τ).loc main_arg0)) (m ((c : Thread nD τ).loc main_arg1)) (m ((c : Thread nD τ).loc main_arg2)) (m ((c : Thread nD τ).loc main_arg3)) j := by
  idx_vars j
  exact point _ _ _ _ (y 0) j0 _ _ _ _ _ _ (fun k => row_at m c t (y 0) k j0 hj0) (fun e => cos_at m c t (y 0) e j0 hj0) (fun e => sa_at m c t (y 0) e j0 hj0)
    (fun e => sb_at m c t (y 0) e j0 hj0) (fun k q => k_at m c t k q) (fun k q => v_at m c t k q) y j1 rfl hj1.symm

/-- The kernel's result array is the reference's. -/
theorem final (c : Dev nD) : (dats m 0 c).arrAt 6 (cfgs 0).N
    = val_main_v54 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  refine core m c t y _ ?_ ?_
  all_goals (blk_simp [idx t] <;> try omega)

end Cert.RopeKvIdeal.Heads

end
-- ==== Proof.Out.lean ====
module

public import proofs.«01_k».proof.Proof.Gen.OutIdeal.Value
public import proofs.«01_k».proof.Proof.Gen.OutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The output projection of the first mixing block

The kernel multiplies the two halves of the mixed channels by the two halves of the weights and adds; the reference joins
the halves and multiplies once. The sum over 1024 channels splits at 512. -/

namespace Cert.OutIdeal.Proj
open Cert.OutIdeal Cert.OutIdeal.Gen Cert.OutRefIdeal.Read

variable (m : (ℓ : Loc nD τ sig) → Buf (Elt Ideal) ℓ)

/-- The block indices of the windows. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The tokens, laid out as one column of rows. -/
theorem V_x (c : Dev nD) (r : Fin 16384) (k : Fin 1024) :
    V m c main_v0 (ix2 r k) = m ((c : Thread nD τ).loc main_arg2) (ix3 ⟨(r : ℕ) / 2048, by omega⟩ ⟨(r : ℕ) % 2048, by omega⟩ k) := by
  simp only [V, List.flatten_cons, List.flatten_nil, List.append_nil, hostOps0, List.cons_append, List.nil_append]
  after_results
  pointwise

/-- The upper half of the weights. -/
theorem V_wa (c : Dev nD) (k : Fin 512) (j : Fin 1024) :
    V m c main_v3 (ix2 k j) = m ((c : Thread nD τ).loc main_arg3) (ix3 0 ⟨k, by omega⟩ j) := by
  simp only [V, List.flatten_cons, List.flatten_nil, List.append_nil, hostOps0, List.cons_append, List.nil_append]
  after_results
  pointwise

/-- The lower half of the weights. -/
theorem V_wb (c : Dev nD) (k : Fin 512) (j : Fin 1024) :
    V m c main_v6 (ix2 k j) = m ((c : Thread nD τ).loc main_arg3) (ix3 0 ⟨512 + k, by omega⟩ j) := by
  simp only [V, List.flatten_cons, List.flatten_nil, List.append_nil, hostOps0, List.cons_append, List.nil_append]
  after_results
  pointwise

/-- Row `r` of point `t`'s block of the first half is row `512 t + r` of the array. -/
theorem a_at (c : Dev nD) (t : Fin cfg0.N) (r : Fin 512) (k : Fin 512) (R : Fin 16384) (hR : (R : ℕ) = t.val * 512 + r) :
    (iblk m c 0 t : FVec Ideal S512x512 .f32) (ix2 r k) = m ((c : Thread nD τ).loc main_arg0) (ix2 R k) := by
  refine Eq.trans ?_ (congrFun (V_main_arg0 m c) (ix2 R k))
  blk_ext [iblk, idx t]

/-- The same for the second half. -/
theorem b_at (c : Dev nD) (t : Fin cfg0.N) (r : Fin 512) (k : Fin 512) (R : Fin 16384) (hR : (R : ℕ) = t.val * 512 + r) :
    (iblk m c 1 t : FVec Ideal S512x512 .f32) (ix2 r k) = m ((c : Thread nD τ).loc main_arg1) (ix2 R k) := by
  refine Eq.trans ?_ (congrFun (V_main_arg1 m c) (ix2 R k))
  blk_ext [iblk, idx t]

/-- The same for the tokens. -/
theorem x_at (c : Dev nD) (t : Fin cfg0.N) (r : Fin 512) (k : Fin 1024) (R : Fin 16384) (hR : (R : ℕ) = t.val * 512 + r) :
    (iblk m c 2 t : FVec Ideal S512x1024 .f32) (ix2 r k)
      = m ((c : Thread nD τ).loc main_arg2) (ix3 ⟨(R : ℕ) / 2048, by omega⟩ ⟨(R : ℕ) % 2048, by omega⟩ k) := by
  refine Eq.trans ?_ (V_x m c R k)
  blk_ext [iblk, idx t]

theorem wa_at (c : Dev nD) (t : Fin cfg0.N) (k : Fin 512) (j : Fin 1024) :
    (iblk m c 3 t : FVec Ideal S512x1024 .bf16) (ix2 k j) = m ((c : Thread nD τ).loc main_arg3) (ix3 0 ⟨k, by omega⟩ j) := by
  refine Eq.trans ?_ (V_wa m c k j)
  blk_ext [iblk, idx t]

theorem wb_at (c : Dev nD) (t : Fin cfg0.N) (k : Fin 512) (j : Fin 1024) :
    (iblk m c 4 t : FVec Ideal S512x1024 .bf16) (ix2 k j) = m ((c : Thread nD τ).loc main_arg3) (ix3 0 ⟨512 + k, by omega⟩ j) := by
  refine Eq.trans ?_ (V_wb m c k j)
  blk_ext [iblk, idx t]

/-- A sum over 1024 terms is the sum over the first 512 and the sum over the last 512. -/
theorem sum_halves (f : Fin 1024 → EReal) : ∑ k, f k = (∑ k : Fin 512, f ⟨k, by omega⟩) + ∑ k : Fin 512, f ⟨512 + k, by omega⟩ :=
  Fin.sum_univ_add (a := 512) (b := 512) f

/-- The joined halves at a channel of the first half, and at a channel of the second. -/
theorem join_left (X Y : FVec Ideal S16384x512 .f32) (r : Fin 16384) (k : Fin 512) :
    val_main_v0 (F := Ideal) X Y (ix2 r ⟨k, by omega⟩) = X (ix2 r k) := by
  pointwise [val_main_v0]

theorem join_right (X Y : FVec Ideal S16384x512 .f32) (r : Fin 16384) (k : Fin 512) :
    val_main_v0 (F := Ideal) X Y (ix2 r ⟨512 + k, by omega⟩) = Y (ix2 r k) := by
  pointwise [val_main_v0]

theorem core (c : Dev nD) (t : Fin cfg0.N) (y : S512x1024.Idx) (j : S16384x1024.Idx) (hj0 : (j 0 : ℕ) = t.val * 512 + y 0) (hj1 : (j 1 : ℕ) = y 1) :
    k0_pay1 (F := Ideal) (iblk m c 0 t) (iblk m c 3 t) (iblk m c 1 t) (iblk m c 4 t) (iblk m c 2 t) y
      = val_main_v4 (F := Ideal) (m ((c : Thread nD τ).loc main_arg0)) (m ((c : Thread nD τ).loc main_arg1)) (m ((c : Thread nD τ).loc main_arg2)) (m ((c : Thread nD τ).loc main_arg3)) j := by
  idx_vars y
  idx_vars j
  obtain rfl : j1 = y1 := Fin.ext hj1
  pointwise [k0_pay1, val_main_v4, val_main_v3, val_main_v2, val_main_v1]
  rw [x_at m c t y0 j1 j0 hj0, sum_halves]
  refine congrArg₂ _ rfl (congrArg₂ _ ?_ ?_)
  · refine Fin.sum_fin_congr fun k => ?_
    rw [a_at m c t y0 k j0 hj0, wa_at m c t k j1, join_left]
  · refine Fin.sum_fin_congr fun k => ?_
    rw [b_at m c t y0 k j0 hj0, wb_at m c t k j1, join_right]

/-- The result array. -/
theorem final (c : Dev nD) : (dats m 0 c).arrAt 5 (cfgs 0).N
    = val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine core m c t y _ ?_ ?_
  all_goals (blk_simp [idx t] <;> try omega)

end Cert.OutIdeal.Proj

end
-- ==== Proof.Comb.lean ====
module

public import proofs.«01_k».proof.Proof.Gen.CombIdeal.Value
public import proofs.«01_k».proof.Proof.Gen.CombRefIdeal.Read
public import proofs.«01_k».proof.Pre_top_is_real
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The three groups' outputs combined and projected

The reference takes the softmax of the three log-sum-exps of a head and mixes the outputs by it; the kernel multiplies by
one over the sum where the reference divides by it. The two agree where the largest log-sum-exp is a real number: the sum
of exponentials is then a positive real. Elsewhere the sum is zero, and zero times (one over zero) is not zero over zero. -/

namespace Cert.CombIdeal.Mix
open Cert.CombIdeal Cert.CombIdeal.Gen Cert.CombRefIdeal.Read

/-! ## One group's weight -/

theorem bot_bits : Ideal.ofBits .f32 4286578688#32 = (⊥ : EReal) := by simp [Ideal.ofBits, Ideal.ieee]

theorem top_bits : Ideal.ofBits .f32 2139095040#32 = (⊤ : EReal) := by simp [Ideal.ofBits, Ideal.ieee]

/-- The exponential of a number below a real `M`, less `M`: a nonnegative real. -/
theorem exp_real (M : ℝ) (l : EReal) (h : l ≤ M) : ∃ e : ℝ, 0 ≤ e ∧ Ideal.exp (l - M) = e := by
  induction l using EReal.rec with
  | bot => exact ⟨0, le_refl _, by rw [EReal.bot_sub]; simp⟩
  | coe x => exact ⟨Real.exp (x - M), (Real.exp_pos _).le, by rw [← EReal.coe_sub, Ideal.exp_coe]⟩
  | top => exact absurd (top_le_iff.1 h) (EReal.coe_ne_top M)

/-- Where the largest of the three is real, multiplying by one over the sum of exponentials is dividing by the sum. -/
theorem weight (a b c l : EReal) (hl : l = a ∨ l = b ∨ l = c) (h0 : ⊥ < max (max a b) c) (h1 : max (max a b) c < ⊤) :
    Ideal.exp (l - max (max a b) c)
        * Ideal.div 1 (Ideal.exp (a - max (max a b) c) + Ideal.exp (b - max (max a b) c) + Ideal.exp (c - max (max a b) c))
      = Ideal.div (Ideal.exp (l - max (max a b) c))
          (Ideal.exp (a - max (max a b) c) + Ideal.exp (b - max (max a b) c) + Ideal.exp (c - max (max a b) c)) := by
  have ha : a ≤ max (max a b) c := le_max_of_le_left (le_max_left _ _)
  have hb : b ≤ max (max a b) c := le_max_of_le_left (le_max_right _ _)
  have hc : c ≤ max (max a b) c := le_max_right _ _
  have hm : max (max a b) c = a ∨ max (max a b) c = b ∨ max (max a b) c = c := by
    rcases max_choice (max a b) c with h | h
    · rcases max_choice a b with h' | h'
      · exact .inl (h.trans h')
      · exact .inr (.inl (h.trans h'))
    · exact .inr (.inr h)
  generalize max (max a b) c = M at *
  lift M to ℝ using ⟨h1.ne, h0.ne'⟩
  obtain ⟨x, hx, ex⟩ := exp_real M a ha
  obtain ⟨y, hy, ey⟩ := exp_real M b hb
  obtain ⟨z, hz, ez⟩ := exp_real M c hc
  have one : ∀ w : ℝ, Ideal.exp ((M : EReal) - M) = w → w = 1 := fun w h => by
    rw [← EReal.coe_sub, sub_self, Ideal.exp_coe, Real.exp_zero] at h
    exact (EReal.coe_injective h).symm
  have hs : x + y + z ≠ 0 := by
    rcases hm with h | h | h
    · have := one x (by rw [← ex, ← h]); positivity
    · have := one y (by rw [← ey, ← h]); positivity
    · have := one z (by rw [← ez, ← h]); positivity
  rw [ex, ey, ez, ← EReal.coe_add, ← EReal.coe_add, Ideal.div_coe hs, Ideal.div_coe hs, one_mul]

/-- The largest of three numbers, as a fold over them. -/
theorem fold_three (f : Fin 3 → EReal) : max ⊥ (Finset.fold max ⊥ f Finset.univ) = max (max (f 0) (f 1)) (f 2) := by
  rw [show (Finset.univ : Finset (Fin 3)) = {0, 1, 2} by decide]
  simp [max_assoc]

section Weights
variable (A B C : FVec Ideal S16384x128 .f32) (r : Fin 16384) (h : Fin 8)

/-- The largest of the three groups' log-sum-exps. -/
def top : EReal := max (max (A (ix2 r ⟨h, by omega⟩)) (B (ix2 r ⟨h, by omega⟩))) (C (ix2 r ⟨h, by omega⟩))

/-- A group's weight, for its log-sum-exp `l`. -/
def wt (l : EReal) : EReal :=
  Ideal.div (Ideal.exp (l - top A B C r h)) (Ideal.exp (A (ix2 r ⟨h, by omega⟩) - top A B C r h)
    + Ideal.exp (B (ix2 r ⟨h, by omega⟩) - top A B C r h) + Ideal.exp (C (ix2 r ⟨h, by omega⟩) - top A B C r h))

theorem group_ref : val_main_v13 (F := Ideal) A B C (ix3 0 r h) = A (ix2 r ⟨h, by omega⟩)
    ∧ val_main_v13 (F := Ideal) A B C (ix3 1 r h) = B (ix2 r ⟨h, by omega⟩)
    ∧ val_main_v13 (F := Ideal) A B C (ix3 2 r h) = C (ix2 r ⟨h, by omega⟩) := by
  refine ⟨?_, ?_, ?_⟩ <;> pointwise [val_main_v13, val_main_v12, val_main_v11, val_main_v10, val_main_v9, val_main_v8, val_main_v7]

theorem wt_ref (g : Fin 3) : val_main_v24 (F := Ideal) A B C (ix3 g r h) = wt A B C r h (val_main_v13 (F := Ideal) A B C (ix3 g r h)) := by
  pointwise [val_main_v24, val_main_v23, val_main_v22, val_main_v21, val_main_v20, val_main_v19, val_main_v18, val_main_v17, val_main_v16,
    val_main_v15, val_main_v14, val_main_cst, val_main_cst_0, val_main_cst_1]
  obtain ⟨e0, e1, e2⟩ := group_ref A B C r h
  simp only [bot_bits, fold_three, Fin.sum_univ_three, e0, e1, e2, wt, top]

/-- The kernel's three weights of a row whose log-sum-exps are the reference's row's, where their largest is real. -/
theorem wt_ker (a b c : FVec Ideal S512x128 .f32) (y : Fin 512) (ha : ∀ k, a (ix2 y k) = A (ix2 r k)) (hb : ∀ k, b (ix2 y k) = B (ix2 r k))
    (hc : ∀ k, c (ix2 y k) = C (ix2 r k)) (h0 : ⊥ < top A B C r h) (h1 : top A B C r h < ⊤) :
    k0_pay7 (F := Ideal) a b c (ix2 y ⟨h, by omega⟩) = wt A B C r h (A (ix2 r ⟨h, by omega⟩))
      ∧ k0_pay8 (F := Ideal) a b c (ix2 y ⟨h, by omega⟩) = wt A B C r h (B (ix2 r ⟨h, by omega⟩))
      ∧ k0_pay9 (F := Ideal) a b c (ix2 y ⟨h, by omega⟩) = wt A B C r h (C (ix2 r ⟨h, by omega⟩)) := by
  refine ⟨?_, ?_, ?_⟩ <;> pointwise [k0_pay7, k0_pay8, k0_pay9, k0_pay6, k0_pay5, k0_pay4, k0_pay3, k0_pay2] <;> rw [ha, hb, hc]
  · exact weight _ _ _ _ (.inl rfl) h0 h1
  · exact weight _ _ _ _ (.inr (.inl rfl)) h0 h1
  · exact weight _ _ _ _ (.inr (.inr rfl)) h0 h1
end Weights

/-- The reference's mixture of the three outputs. -/
theorem mix_ref (O0 O1 O2 : FVec Ideal S16384x1024 .f32) (A B C : FVec Ideal S16384x128 .f32) (r : Fin 16384) (q : Fin 1024) :
    val_main_v29 (F := Ideal) O0 O1 O2 A B C (ix2 r q)
      = wt A B C r ⟨(q : ℕ) / 128, by omega⟩ (A (ix2 r ⟨(q : ℕ) / 128, by omega⟩)) * O0 (ix2 r q) + wt A B C r ⟨(q : ℕ) / 128, by omega⟩ (B (ix2 r ⟨(q : ℕ) / 128, by omega⟩)) * O1 (ix2 r q)
        + wt A B C r ⟨(q : ℕ) / 128, by omega⟩ (C (ix2 r ⟨(q : ℕ) / 128, by omega⟩)) * O2 (ix2 r q) := by
  obtain ⟨e0, e1, e2⟩ := group_ref A B C r ⟨(q : ℕ) / 128, by omega⟩
  pointwise [val_main_v29, val_main_v28, val_main_v27, val_main_v26, val_main_v25, val_main_cst_2]
  rw [Fin.sum_univ_three]
  pointwise [val_main_v6, val_main_v5, val_main_v4, val_main_v3, val_main_v2, val_main_v1, val_main_v0]
  simp only [wt_ref, e0, e1, e2]

/-! ## One head's tile -/

/-- The eight heads' tiles side by side. -/
def joined (f : Fin 8 → FVec Ideal S512x128 .f32) : FVec Ideal S512x1024 .f32 :=
  concatenate S512x1024 1 (List.ofFn fun n : Fin 8 => ⟨S512x128, f n⟩)
    concatenates_S512x128_S512x128_S512x128_S512x128_S512x128_S512x128_S512x128_S512x128_S512x1024_d1

theorem joined_at (f : Fin 8 → FVec Ideal S512x128 .f32) (r : Fin 512) (q : Fin 1024) :
    joined f (ix2 r q) = f ⟨(q : ℕ) / 128, by omega⟩ (ix2 r ⟨(q : ℕ) % 128, by omega⟩) := by
  refine concatenate_ofFn_apply (t := S512x1024) 1 f _ rfl 128 rfl (ix2 r q) ⟨(q : ℕ) / 128, by omega⟩ rfl (ix2 r ⟨(q : ℕ) % 128, by omega⟩) rfl fun b hb => ?_
  match b, hb with
  | ⟨0, _⟩, _ => rfl
  | ⟨1, _⟩, hb => exact absurd rfl hb

/-- The mixture of three groups' outputs by their weights, head by head. -/
def mixed (A B C : FVec Ideal S512x128 .f32) (x y z : FVec Ideal S512x1024 .f32) (r : Fin 512) (q : Fin 1024) : EReal :=
  A (ix2 r ⟨(q : ℕ) / 128, by omega⟩) * x (ix2 r q) + B (ix2 r ⟨(q : ℕ) / 128, by omega⟩) * y (ix2 r q)
    + C (ix2 r ⟨(q : ℕ) / 128, by omega⟩) * z (ix2 r q)

/-- Head `k`'s tile, from the three groups' weights and outputs. -/
theorem head_at (k o : ℕ) (hk : k < 8) (hs : S512x128.Slices ![0, k] S512x1) (ho : o = 128 * k)
    (hb : ∀ a, (![0, o] : Fin 2 → Nat) a + S512x128.size a ≤ S512x1024.size a) (A B C : FVec Ideal S512x128 .f32) (x y z : FVec Ideal S512x1024 .f32) (r : Fin 512) (l : Fin 128) :
    addf (addf (mulf (broadcastTo S512x128 (extractStridedSlice S512x1 ![0, k] A hs) broadcasts_S512x1_S512x128) (View.ld (Val := Elt Ideal) (e' := .f32) x (Rect.unit (s := S512x1024) ![0, o] S512x128.size hb)))
        (mulf (broadcastTo S512x128 (extractStridedSlice S512x1 ![0, k] B hs) broadcasts_S512x1_S512x128) (View.ld (Val := Elt Ideal) (e' := .f32) y (Rect.unit (s := S512x1024) ![0, o] S512x128.size hb))))
        (mulf (broadcastTo S512x128 (extractStridedSlice S512x1 ![0, k] C hs) broadcasts_S512x1_S512x128) (View.ld (Val := Elt Ideal) (e' := .f32) z (Rect.unit (s := S512x1024) ![0, o] S512x128.size hb))) (ix2 r l)
      = mixed A B C x y z r ⟨128 * k + l, by omega⟩ := by
  have hd : (128 * k + (l : ℕ)) / 128 = k := by omega
  have at_ld : ∀ v : FVec Ideal S512x1024 .f32, View.ld (Val := Elt Ideal) (e' := .f32) v (Rect.unit (s := S512x1024) ![0, o] S512x128.size hb) (ix2 r l)
      = v (ix2 r ⟨128 * k + l, by omega⟩) := fun v => by
    refine View.ld_unit_apply_of (Val := Elt Ideal) (S := S512x1024) (e := .f32) v ![0, o] S512x128.size hb (ix2 r l) _ fun a => ?_
    match a with
    | ⟨0, _⟩ => show (r : ℕ) = 0 + r; omega
    | ⟨1, _⟩ => show 128 * k + (l : ℕ) = o + l; omega
  have hx := at_ld x
  have hy := at_ld y
  have hz := at_ld z
  generalize View.ld (Val := Elt Ideal) (e' := .f32) x _ = tx at hx ⊢
  generalize View.ld (Val := Elt Ideal) (e' := .f32) y _ = ty at hy ⊢
  generalize View.ld (Val := Elt Ideal) (e' := .f32) z _ = tz at hz ⊢
  pointwise
  simp only [hx, hy, hz, mixed, hd]

/-- One entry of the body: the token plus the projected tiles. -/
theorem pay1_at (t0 t1 t2 t3 t4 t5 t6 s v : FVec Ideal S512x128 .f32) (u : FVec Ideal S512x1 .f32) (X : FVec Ideal S512x1024 .f32)
    (W : FVec Ideal S1024x1024 .bf16) (r : Fin 512) (j : Fin 1024) :
    k0_pay1 (F := Ideal) t0 t1 t2 t3 t4 t5 t6 s u v X W (ix2 r j)
      = X (ix2 r j) + ∑ q : Fin 1024, joined ![t0, t1, t2, t3, t4, t5, t6, addf s (mulf (broadcastTo S512x128 u broadcasts_S512x1_S512x128) v)] (ix2 r q) * W (ix2 q j) := by
  have e : k0_pay1 (F := Ideal) t0 t1 t2 t3 t4 t5 t6 s u v X W
      = addf X (matmul (dot_S512x1024_S1024x1024_S512x1024_1_0_0_1_n_n) none
          (truncf .bf16 (joined ![t0, t1, t2, t3, t4, t5, t6, addf s (mulf (broadcastTo S512x128 u broadcasts_S512x1_S512x128) v)]) bitsLt_bf16_f32)
          (shapeCast S1024x1024 W shapeCasts_S1024x1024_S1024x1024) (constant S512x1024 .f32 0x00000000#32)) := rfl
  rw [e]
  generalize joined _ = M
  pointwise

/-! ## The blocks of a grid point -/

variable (m : (ℓ : Loc nD τ sig) → Buf (Elt Ideal) ℓ)

/-- The block indices of the windows: the row windows move with the grid point, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] :=
  (by decide +kernel : ∀ t : Fin grid0.N, _)

/-- The weights. -/
theorem V_w (c : Dev nD) (k j : Fin 1024) : V m c main_v1 (ix2 k j) = m ((c : Thread nD τ).loc main_arg7) (ix3 0 k j) := by
  simp only [V, List.flatten_cons, List.flatten_nil, List.append_nil, hostOps0, List.cons_append, List.nil_append]
  after_results
  pointwise

theorem w_at (c : Dev nD) (t : Fin cfg0.N) (k j : Fin 1024) :
    (iblk m c 7 t : FVec Ideal S1024x1024 .bf16) (ix2 k j) = m ((c : Thread nD τ).loc main_arg7) (ix3 0 k j) := by
  refine Eq.trans ?_ (V_w m c k j)
  blk_ext [iblk, idx t]

section Rows
variable (c : Dev nD) (t : Fin cfg0.N) (r : Fin 512) (R : Fin 16384) (hR : (R : ℕ) = t.val * 512 + r)
include hR

theorem o0_at (k : Fin 1024) : (iblk m c 0 t : FVec Ideal S512x1024 .f32) (ix2 r k) = m ((c : Thread nD τ).loc main_arg0) (ix2 R k) := by
  refine Eq.trans ?_ (congrFun (V_main_arg0 m c) (ix2 R k))
  blk_ext [iblk, idx t]

theorem o1_at (k : Fin 1024) : (iblk m c 1 t : FVec Ideal S512x1024 .f32) (ix2 r k) = m ((c : Thread nD τ).loc main_arg1) (ix2 R k) := by
  refine Eq.trans ?_ (congrFun (V_main_arg1 m c) (ix2 R k))
  blk_ext [iblk, idx t]

theorem o2_at (k : Fin 1024) : (iblk m c 2 t : FVec Ideal S512x1024 .f32) (ix2 r k) = m ((c : Thread nD τ).loc main_arg2) (ix2 R k) := by
  refine Eq.trans ?_ (congrFun (V_main_arg2 m c) (ix2 R k))
  blk_ext [iblk, idx t]

theorem l0_at (k : Fin 128) : (iblk m c 3 t : FVec Ideal S512x128 .f32) (ix2 r k) = m ((c : Thread nD τ).loc main_arg3) (ix2 R k) := by
  refine Eq.trans ?_ (congrFun (V_main_arg3 m c) (ix2 R k))
  blk_ext [iblk, idx t]

theorem l1_at (k : Fin 128) : (iblk m c 4 t : FVec Ideal S512x128 .f32) (ix2 r k) = m ((c : Thread nD τ).loc main_arg4) (ix2 R k) := by
  refine Eq.trans ?_ (congrFun (V_main_arg4 m c) (ix2 R k))
  blk_ext [iblk, idx t]

theorem l2_at (k : Fin 128) : (iblk m c 5 t : FVec Ideal S512x128 .f32) (ix2 r k) = m ((c : Thread nD τ).loc main_arg5) (ix2 R k) := by
  refine Eq.trans ?_ (congrFun (V_main_arg5 m c) (ix2 R k))
  blk_ext [iblk, idx t]

theorem x_at (k : Fin 1024) : (iblk m c 6 t : FVec Ideal S512x1024 .f32) (ix2 r k) = m ((c : Thread nD τ).loc main_arg6) (ix2 R k) := by
  refine Eq.trans ?_ (congrFun (V_main_arg6 m c) (ix2 R k))
  blk_ext [iblk, idx t]
end Rows

/-! ## One entry of a point's block -/

/-- One entry of a point's block. -/
theorem out_at (x y z : FVec Ideal S512x1024 .f32) (a b c : FVec Ideal S512x128 .f32) (X : FVec Ideal S512x1024 .f32) (W : FVec Ideal S1024x1024 .bf16)
    (r : Fin 512) (j : Fin 1024) :
    out0_8 (F := Ideal) x y z a b c X W (ix2 r j)
      = X (ix2 r j) + ∑ q : Fin 1024, mixed (k0_pay7 (F := Ideal) a b c) (k0_pay8 (F := Ideal) a b c) (k0_pay9 (F := Ideal) a b c) x y z r q * W (ix2 q j) := by
  unfold_out out0_8
  frame_out
  refine (pay1_at _ _ _ _ _ _ _ _ _ _ _ _ r j).trans (congrArg (X (ix2 r j) + ·) (Finset.sum_congr rfl fun q _ => congrArg (· * W (ix2 q j)) ?_))
  obtain ⟨n, l, rfl⟩ : ∃ (n : Fin 8) (l : Fin 128), q = ⟨128 * (n : ℕ) + l, by omega⟩ :=
    ⟨⟨(q : ℕ) / 128, by omega⟩, ⟨(q : ℕ) % 128, by omega⟩, Fin.ext (by show (q : ℕ) = 128 * ((q : ℕ) / 128) + (q : ℕ) % 128; omega)⟩
  rw [joined_at, show (⟨(128 * (n : ℕ) + (l : ℕ)) / 128, by omega⟩ : Fin 8) = n from Fin.ext (by show (128 * (n : ℕ) + (l : ℕ)) / 128 = n; omega),
    show (⟨(128 * (n : ℕ) + (l : ℕ)) % 128, by omega⟩ : Fin 128) = l from Fin.ext (by show (128 * (n : ℕ) + (l : ℕ)) % 128 = l; omega)]
  fin_cases n
  · exact head_at 0 0 (by omega) _ rfl _ _ _ _ _ _ _ r l
  · exact head_at 1 128 (by omega) _ rfl _ _ _ _ _ _ _ r l
  · exact head_at 2 256 (by omega) _ rfl _ _ _ _ _ _ _ r l
  · exact head_at 3 384 (by omega) _ rfl _ _ _ _ _ _ _ r l
  · exact head_at 4 512 (by omega) _ rfl _ _ _ _ _ _ _ r l
  · exact head_at 5 640 (by omega) _ rfl _ _ _ _ _ _ _ r l
  · exact head_at 6 768 (by omega) _ rfl _ _ _ _ _ _ _ r l
  · exact head_at 7 896 (by omega) _ rfl _ _ _ _ _ _ _ r l

/-- One entry of the reference. -/
theorem out_ref (O0 O1 O2 : FVec Ideal S16384x1024 .f32) (A B C : FVec Ideal S16384x128 .f32) (X : FVec Ideal S16384x1024 .f32) (W : FVec Ideal S1x1024x1024 .f32)
    (r : Fin 16384) (j : Fin 1024) :
    val_main_v32 (F := Ideal) O0 O1 O2 A B C X W (ix2 r j)
      = X (ix2 r j) + ∑ q : Fin 1024, val_main_v29 (F := Ideal) O0 O1 O2 A B C (ix2 r q) * W (ix3 0 q j) := by
  pointwise [val_main_v32, val_main_v31, val_main_v30]

/-- An entry of a point's block is the reference's entry, where the largest log-sum-exp of every head of its row is real. -/
theorem point (x y z : FVec Ideal S512x1024 .f32) (a b c : FVec Ideal S512x128 .f32) (X : FVec Ideal S512x1024 .f32) (W : FVec Ideal S1024x1024 .bf16)
    (O0 O1 O2 : FVec Ideal S16384x1024 .f32) (A B C : FVec Ideal S16384x128 .f32) (X' : FVec Ideal S16384x1024 .f32) (W' : FVec Ideal S1x1024x1024 .f32)
    (i : Fin 512) (r : Fin 16384) (j : Fin 1024)
    (hx : ∀ k, x (ix2 i k) = O0 (ix2 r k)) (hy : ∀ k, y (ix2 i k) = O1 (ix2 r k)) (hz : ∀ k, z (ix2 i k) = O2 (ix2 r k))
    (ha : ∀ k, a (ix2 i k) = A (ix2 r k)) (hb : ∀ k, b (ix2 i k) = B (ix2 r k)) (hc : ∀ k, c (ix2 i k) = C (ix2 r k))
    (hX : ∀ k, X (ix2 i k) = X' (ix2 r k)) (hW : ∀ k q, W (ix2 k q) = W' (ix3 0 k q))
    (hpre : ∀ k, ⊥ < top A B C r k ∧ top A B C r k < ⊤) :
    out0_8 (F := Ideal) x y z a b c X W (ix2 i j) = val_main_v32 (F := Ideal) O0 O1 O2 A B C X' W' (ix2 r j) := by
  rw [out_at, out_ref, hX]
  refine congrArg (X' (ix2 r j) + ·) (Finset.sum_congr rfl fun q _ => ?_)
  obtain ⟨e7, e8, e9⟩ := wt_ker A B C r ⟨(q : ℕ) / 128, by omega⟩ a b c i ha hb hc (hpre _).1 (hpre _).2
  rw [hW, mix_ref, mixed, hx, hy, hz, e7, e8, e9]

/-! ## The result array -/

/-- What the precondition says: the largest log-sum-exp of every row and head is real. -/
theorem top_real [Cert.Pre_top_is_real.Facts] (O0 O1 O2 : FVec Ideal S16384x1024 .f32) (A B C : FVec Ideal S16384x128 .f32) (X : FVec Ideal S16384x1024 .f32)
    (W : FVec Ideal S1x1024x1024 .f32) (h : Cert.Pre_top_is_real.fn (F := Ideal) O0 O1 O2 A B C X W = fun _ => 1#1) (r : Fin 16384) (k : Fin 8) :
    ⊥ < top A B C r k ∧ top A B C r k < ⊤ := by
  have e : Cert.Pre_top_is_real.fn (F := Ideal) O0 O1 O2 A B C X W (ix2 r k)
      = IntOp.andi (BitVec.ofBool (decide (⊥ < top A B C r k))) (BitVec.ofBool (decide (top A B C r k < ⊤))) := by
    unfold Cert.Pre_top_is_real.fn
    pointwise
    rw [bot_bits, top_bits, top]
  rw [congrFun h (ix2 r k)] at e
  by_cases h0 : ⊥ < top A B C r k <;> by_cases h1 : top A B C r k < ⊤
  · exact ⟨h0, h1⟩
  all_goals (rw [IntOp.andi] at e; simp [h0, h1] at e)

variable (hpre : ∀ (c : Dev nD) (r : Fin 16384) (k : Fin 8), ⊥ < top (m ((c : Thread nD τ).loc main_arg3)) (m ((c : Thread nD τ).loc main_arg4)) (m ((c : Thread nD τ).loc main_arg5)) r k
  ∧ top (m ((c : Thread nD τ).loc main_arg3)) (m ((c : Thread nD τ).loc main_arg4)) (m ((c : Thread nD τ).loc main_arg5)) r k < ⊤)
include hpre

theorem core (c : Dev nD) (t : Fin cfg0.N) (y : S512x1024.Idx) (j : S16384x1024.Idx) (hj0 : (j 0 : ℕ) = t.val * 512 + y 0) (hj1 : (j 1 : ℕ) = y 1) :
    out0_8 (F := Ideal) (iblk m c 0 t) (iblk m c 1 t) (iblk m c 2 t) (iblk m c 3 t) (iblk m c 4 t) (iblk m c 5 t) (iblk m c 6 t) (iblk m c 7 t) y
      = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) j := by
  idx_vars y
  idx_vars j
  obtain rfl : j1 = y1 := Fin.ext hj1
  exact point _ _ _ _ _ _ _ _ _ _ _ _ _ _ _ _ y0 j0 j1 (o0_at m c t y0 j0 hj0) (o1_at m c t y0 j0 hj0) (o2_at m c t y0 j0 hj0) (l0_at m c t y0 j0 hj0)
    (l1_at m c t y0 j0 hj0) (l2_at m c t y0 j0 hj0) (x_at m c t y0 j0 hj0) (w_at m c t) (hpre c j0)

/-- The result array. -/
theorem final (c : Dev nD) : (dats m 0 c).arrAt 8 (cfgs 0).N
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  refine core m hpre c t y _ ?_ ?_
  all_goals (blk_simp [idx t] <;> try omega)

end Cert.CombIdeal.Mix

end
-- ==== Proof.Ple.lean ====
module

public import proofs.«01_k».proof.Proof.Gen.PleIdeal.Value
public import proofs.«01_k».proof.Proof.Gen.PleRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The per-layer embedding gate with the final normalisation

The kernel takes 512 rows of tokens at a grid point: it normalises them, multiplies by the gate's weights, passes the
product through the logistic function, multiplies that by the projected embeddings, adds the tokens and normalises once
more. Each of these steps is the reference's at the same row. -/

namespace Cert.PleIdeal.Gate
open Cert.PleIdeal Cert.PleIdeal.Gen Cert.PleRefIdeal.Read

variable (m : (ℓ : Loc nD τ sig) → Buf (Elt Ideal) ℓ)

/-- The block indices of the windows: the row windows move with the grid point, the others stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-! ## What the region finds in its input arrays -/

/-- The embeddings, laid out as one column of rows. -/
theorem V_p (c : Dev nD) (r : Fin 16384) (k : Fin 256) :
    V m c main_v0 (ix2 r k) = m ((c : Thread nD τ).loc main_arg1) (ix3 ⟨(r : ℕ) / 2048, by omega⟩ ⟨(r : ℕ) % 2048, by omega⟩ k) := by
  simp only [V, List.flatten_cons, List.flatten_nil, List.append_nil, hostOps0, List.cons_append, List.nil_append]
  after_results
  pointwise

/-- The gate's weights. -/
theorem V_wg (c : Dev nD) (k : Fin 1024) (j : Fin 1024) : V m c main_v1 (ix2 k j) = m ((c : Thread nD τ).loc main_arg3) (ix2 k j) := by
  simp only [V, List.flatten_cons, List.flatten_nil, List.append_nil, hostOps0, List.cons_append, List.nil_append]
  after_results
  pointwise

/-- The embeddings' weights. -/
theorem V_wp (c : Dev nD) (k : Fin 256) (j : Fin 1024) : V m c main_v2 (ix2 k j) = m ((c : Thread nD τ).loc main_arg4) (ix2 k j) := by
  simp only [V, List.flatten_cons, List.flatten_nil, List.append_nil, hostOps0, List.cons_append, List.nil_append]
  after_results
  pointwise

/-- The two gains, each as one row. -/
theorem V_g (c : Dev nD) (k : Fin 1024) : V m c main_v3 (ix2 0 k) = m ((c : Thread nD τ).loc main_arg2) (ix1 k) := by
  simp only [V, List.flatten_cons, List.flatten_nil, List.append_nil, hostOps0, List.cons_append, List.nil_append]
  after_results
  pointwise

theorem V_gf (c : Dev nD) (k : Fin 1024) : V m c main_v4 (ix2 0 k) = m ((c : Thread nD τ).loc main_arg5) (ix1 k) := by
  simp only [V, List.flatten_cons, List.flatten_nil, List.append_nil, hostOps0, List.cons_append, List.nil_append]
  after_results
  pointwise

/-! ## The blocks of a grid point -/

/-- Row `r` of point `t`'s block is row `512 t + r` of the tokens. -/
theorem x_at (c : Dev nD) (t : Fin cfg0.N) (r : Fin 512) (k : Fin 1024) (R : Fin 16384) (hR : (R : ℕ) = t.val * 512 + r) :
    (iblk m c 0 t : FVec Ideal S512x1024 .f32) (ix2 r k) = m ((c : Thread nD τ).loc main_arg0) (ix2 R k) := by
  refine Eq.trans ?_ (congrFun (V_main_arg0 m c) (ix2 R k))
  blk_ext [iblk, idx t]

theorem p_at (c : Dev nD) (t : Fin cfg0.N) (r : Fin 512) (k : Fin 256) (R : Fin 16384) (hR : (R : ℕ) = t.val * 512 + r) :
    (iblk m c 1 t : FVec Ideal S512x256 .f32) (ix2 r k)
      = m ((c : Thread nD τ).loc main_arg1) (ix3 ⟨(R : ℕ) / 2048, by omega⟩ ⟨(R : ℕ) % 2048, by omega⟩ k) := by
  refine Eq.trans ?_ (V_p m c R k)
  blk_ext [iblk, idx t]

theorem g_at (c : Dev nD) (t : Fin cfg0.N) (k : Fin 1024) :
    (iblk m c 2 t : FVec Ideal S1x1024 .f32) (ix2 0 k) = m ((c : Thread nD τ).loc main_arg2) (ix1 k) := by
  refine Eq.trans ?_ (V_g m c k)
  blk_ext [iblk, idx t]

theorem wg_at (c : Dev nD) (t : Fin cfg0.N) (k : Fin 1024) (j : Fin 1024) :
    (iblk m c 3 t : FVec Ideal S1024x1024 .bf16) (ix2 k j) = m ((c : Thread nD τ).loc main_arg3) (ix2 k j) := by
  refine Eq.trans ?_ (V_wg m c k j)
  blk_ext [iblk, idx t]

theorem wp_at (c : Dev nD) (t : Fin cfg0.N) (k : Fin 256) (j : Fin 1024) :
    (iblk m c 4 t : FVec Ideal S256x1024 .bf16) (ix2 k j) = m ((c : Thread nD τ).loc main_arg4) (ix2 k j) := by
  refine Eq.trans ?_ (V_wp m c k j)
  blk_ext [iblk, idx t]

theorem gf_at (c : Dev nD) (t : Fin cfg0.N) (k : Fin 1024) :
    (iblk m c 5 t : FVec Ideal S1x1024 .f32) (ix2 0 k) = m ((c : Thread nD τ).loc main_arg5) (ix1 k) := by
  refine Eq.trans ?_ (V_gf m c k)
  blk_ext [iblk, idx t]

/-! ## One entry of a point's block -/

/-- The reference's normalised row, at an entry. -/
theorem row_ref (X : FVec Ideal S16384x1024 .f32) (G : FVec Ideal S1024 .f32) (r : Fin 16384) (k : Fin 1024) :
    val_main_v12 (F := Ideal) X G (ix2 r k)
      = X (ix2 r k) * Ideal.rsqrt (Ideal.div (∑ q : Fin 1024, X (ix2 r q) * X (ix2 r q)) (Ideal.ofBits .f32 1149239296#32) + Ideal.ofBits .f32 897988541#32)
          * G (ix1 k) := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- The reference's gated tokens, at an entry. -/
theorem gated_ref (X : FVec Ideal S16384x1024 .f32) (P : FVec Ideal S8x2048x256 .f32) (G : FVec Ideal S1024 .f32) (Wg : FVec Ideal S1024x1024 .f32)
    (Wp : FVec Ideal S256x1024 .f32) (r : Fin 16384) (k : Fin 1024) :
    val_main_v23 (F := Ideal) X P G Wg Wp (ix2 r k)
      = X (ix2 r k) + Ideal.div 1 (1 + Ideal.exp (-(∑ q : Fin 1024, val_main_v12 (F := Ideal) X G (ix2 r q) * Wg (ix2 q k))))
          * ∑ q : Fin 256, P (ix3 ⟨(r : ℕ) / 2048, by omega⟩ ⟨(r : ℕ) % 2048, by omega⟩ q) * Wp (ix2 q k) := by
  pointwise [val_main_v23, val_main_v22, val_main_v21, val_main_v20, val_main_v19, val_main_v18, val_main_v17, val_main_v16, val_main_v15,
    val_main_v14, val_main_v13, val_main_cst_2, val_main_cst_3]

/-- The kernel's gated tokens, at an entry of a block whose loads have the named entries. -/
theorem gated_ker (x : FVec Ideal S512x1024 .f32) (g : FVec Ideal S1x1024 .f32) (wg : FVec Ideal S1024x1024 .bf16) (p : FVec Ideal S512x256 .f32)
    (wp : FVec Ideal S256x1024 .bf16) (r : Fin 512) (k : Fin 1024) :
    k0_pay2 (F := Ideal) x g wg p wp (ix2 r k)
      = x (ix2 r k) + Ideal.div 1 (1 + Ideal.exp (-(∑ q : Fin 1024, (x (ix2 r q)
            * Ideal.rsqrt (Ideal.div (∑ l : Fin 1024, x (ix2 r l) * x (ix2 r l)) (Ideal.ofBits .f32 1149239296#32) + Ideal.ofBits .f32 897988541#32)
            * g (ix2 0 q)) * wg (ix2 q k))))
          * ∑ q : Fin 256, p (ix2 r q) * wp (ix2 q k) := by
  pointwise [k0_pay2]
  simp only [sub_eq_add_neg, zero_add]

/-- The kernel's gated tokens are the reference's. -/
theorem gated_at (c : Dev nD) (t : Fin cfg0.N) (r : Fin 512) (k : Fin 1024) (R : Fin 16384) (hR : (R : ℕ) = t.val * 512 + r) :
    k0_pay2 (F := Ideal) (iblk m c 0 t) (iblk m c 2 t) (iblk m c 3 t) (iblk m c 1 t) (iblk m c 4 t) (ix2 r k)
      = val_main_v23 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 R k) := by
  rw [gated_ref, gated_ker]
  simp only [row_ref, x_at m c t r _ R hR, p_at m c t r _ R hR, g_at m c t, wg_at m c t, wp_at m c t]

/-- The last normalisation, at an entry, of any block of gated tokens. -/
theorem last_ker (y : FVec Ideal S512x1024 .f32) (g : FVec Ideal S1x1024 .f32) (s : FVec Ideal S512 .f32) (r : Fin 512) (k : Fin 1024) :
    k0_pay1 (F := Ideal) y g s (ix2 r k)
      = y (ix2 r k) * Ideal.rsqrt (Ideal.div (s (ix1 r)) (Ideal.ofBits .f32 1149239296#32) + Ideal.ofBits .f32 897988541#32) * g (ix2 0 k) := by
  pointwise [k0_pay1]

theorem squares_ker (x : FVec Ideal S512x1024 .f32) (g : FVec Ideal S1x1024 .f32) (wg : FVec Ideal S1024x1024 .bf16) (p : FVec Ideal S512x256 .f32)
    (wp : FVec Ideal S256x1024 .bf16) (r : Fin 512) :
    k0_pay4 (F := Ideal) x g wg p wp (ix1 r)
      = ∑ k : Fin 1024, k0_pay2 (F := Ideal) x g wg p wp (ix2 r k) * k0_pay2 (F := Ideal) x g wg p wp (ix2 r k) := by
  pointwise [k0_pay4]

theorem last_ref (X : FVec Ideal S16384x1024 .f32) (P : FVec Ideal S8x2048x256 .f32) (G : FVec Ideal S1024 .f32) (Wg : FVec Ideal S1024x1024 .f32)
    (Wp : FVec Ideal S256x1024 .f32) (Gf : FVec Ideal S1024 .f32) (r : Fin 16384) (k : Fin 1024) :
    val_main_v36 (F := Ideal) X P G Wg Wp Gf (ix2 r k)
      = val_main_v23 (F := Ideal) X P G Wg Wp (ix2 r k)
          * Ideal.rsqrt (Ideal.div (∑ q : Fin 1024, val_main_v23 (F := Ideal) X P G Wg Wp (ix2 r q) * val_main_v23 (F := Ideal) X P G Wg Wp (ix2 r q))
              (Ideal.ofBits .f32 1149239296#32) + Ideal.ofBits .f32 897988541#32)
          * Gf (ix1 k) := by
  pointwise [val_main_v36, val_main_v35, val_main_v34, val_main_v33, val_main_v32, val_main_v31, val_main_v30, val_main_v29, val_main_v28,
    val_main_v27, val_main_v26, val_main_v25, val_main_v24, val_main_cst_4, val_main_cst_5, val_main_cst_6]

theorem pay3_eq (g : FVec Ideal S1x1024 .f32) (k : Fin 1024) : k0_pay3 (F := Ideal) g (ix2 0 k) = g (ix2 0 k) := by
  pointwise [k0_pay3]

theorem core (c : Dev nD) (t : Fin cfg0.N) (y : S512x1024.Idx) (j : S16384x1024.Idx) (hj0 : (j 0 : ℕ) = t.val * 512 + y 0) (hj1 : (j 1 : ℕ) = y 1) :
    k0_pay1 (F := Ideal) (k0_pay2 (iblk m c 0 t) (iblk m c 2 t) (iblk m c 3 t) (iblk m c 1 t) (iblk m c 4 t)) (k0_pay3 (iblk m c 5 t))
        (k0_pay4 (iblk m c 0 t) (iblk m c 2 t) (iblk m c 3 t) (iblk m c 1 t) (iblk m c 4 t)) y
      = val_main_v36 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) j := by
  idx_vars y
  idx_vars j
  obtain rfl : j1 = y1 := Fin.ext hj1
  refine (last_ker _ _ _ y0 j1).trans (Eq.trans ?_ (last_ref _ _ _ _ _ _ j0 j1).symm)
  rw [squares_ker, pay3_eq, gf_at m c t]
  simp only [gated_at m c t y0 _ j0 hj0]

/-- The result array. -/
theorem final (c : Dev nD) : (dats m 0 c).arrAt 6 (cfgs 0).N
    = val_main_v36 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  refine core m c t y _ ?_ ?_
  all_goals (blk_simp [idx t] <;> try omega)

end Cert.PleIdeal.Gate

end
-- ==== Proof.Gate.lean ====
module

public import proofs.«01_k».proof.Proof.Gen.GateIdeal.Value
public import proofs.«01_k».proof.Proof.Gen.GateRefIdeal.Read
public import proofs.«01_k».proof.Proof.Ple
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The per-layer embedding gate without the final normalisation

The first layer's call of the gate. Its body is the first part of the second layer's, and its reference the first part of
the second layer's reference, so one entry is given by the lemmas of that call. -/

namespace Cert.GateIdeal.Gate
open Cert.GateIdeal Cert.GateIdeal.Gen Cert.GateRefIdeal.Read

variable (m : (ℓ : Loc nD τ sig) → Buf (Elt Ideal) ℓ)

/-- The block indices of the windows: the row windows move with the grid point, the others stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-! ## What the region finds in its input arrays -/

/-- The embeddings, laid out as one column of rows. -/
theorem V_p (c : Dev nD) (r : Fin 16384) (k : Fin 256) :
    V m c main_v0 (ix2 r k) = m ((c : Thread nD τ).loc main_arg1) (ix3 ⟨(r : ℕ) / 2048, by omega⟩ ⟨(r : ℕ) % 2048, by omega⟩ k) := by
  simp only [V, List.flatten_cons, List.flatten_nil, List.append_nil, hostOps0, List.cons_append, List.nil_append]
  after_results
  pointwise

/-- The gate's weights. -/
theorem V_wg (c : Dev nD) (k : Fin 1024) (j : Fin 1024) : V m c main_v1 (ix2 k j) = m ((c : Thread nD τ).loc main_arg3) (ix2 k j) := by
  simp only [V, List.flatten_cons, List.flatten_nil, List.append_nil, hostOps0, List.cons_append, List.nil_append]
  after_results
  pointwise

/-- The embeddings' weights. -/
theorem V_wp (c : Dev nD) (k : Fin 256) (j : Fin 1024) : V m c main_v2 (ix2 k j) = m ((c : Thread nD τ).loc main_arg4) (ix2 k j) := by
  simp only [V, List.flatten_cons, List.flatten_nil, List.append_nil, hostOps0, List.cons_append, List.nil_append]
  after_results
  pointwise

/-- The gain as one row. -/
theorem V_g (c : Dev nD) (k : Fin 1024) : V m c main_v3 (ix2 0 k) = m ((c : Thread nD τ).loc main_arg2) (ix1 k) := by
  simp only [V, List.flatten_cons, List.flatten_nil, List.append_nil, hostOps0, List.cons_append, List.nil_append]
  after_results
  pointwise

/-! ## The blocks of a grid point -/

/-- Row `r` of point `t`'s block is row `512 t + r` of the tokens. -/
theorem x_at (c : Dev nD) (t : Fin cfg0.N) (r : Fin 512) (k : Fin 1024) (R : Fin 16384) (hR : (R : ℕ) = t.val * 512 + r) :
    (iblk m c 0 t : FVec Ideal S512x1024 .f32) (ix2 r k) = m ((c : Thread nD τ).loc main_arg0) (ix2 R k) := by
  refine Eq.trans ?_ (congrFun (V_main_arg0 m c) (ix2 R k))
  blk_ext [iblk, idx t]

theorem p_at (c : Dev nD) (t : Fin cfg0.N) (r : Fin 512) (k : Fin 256) (R : Fin 16384) (hR : (R : ℕ) = t.val * 512 + r) :
    (iblk m c 1 t : FVec Ideal S512x256 .f32) (ix2 r k)
      = m ((c : Thread nD τ).loc main_arg1) (ix3 ⟨(R : ℕ) / 2048, by omega⟩ ⟨(R : ℕ) % 2048, by omega⟩ k) := by
  refine Eq.trans ?_ (V_p m c R k)
  blk_ext [iblk, idx t]

theorem g_at (c : Dev nD) (t : Fin cfg0.N) (k : Fin 1024) :
    (iblk m c 2 t : FVec Ideal S1x1024 .f32) (ix2 0 k) = m ((c : Thread nD τ).loc main_arg2) (ix1 k) := by
  refine Eq.trans ?_ (V_g m c k)
  blk_ext [iblk, idx t]

theorem wg_at (c : Dev nD) (t : Fin cfg0.N) (k : Fin 1024) (j : Fin 1024) :
    (iblk m c 3 t : FVec Ideal S1024x1024 .bf16) (ix2 k j) = m ((c : Thread nD τ).loc main_arg3) (ix2 k j) := by
  refine Eq.trans ?_ (V_wg m c k j)
  blk_ext [iblk, idx t]

theorem wp_at (c : Dev nD) (t : Fin cfg0.N) (k : Fin 256) (j : Fin 1024) :
    (iblk m c 4 t : FVec Ideal S256x1024 .bf16) (ix2 k j) = m ((c : Thread nD τ).loc main_arg4) (ix2 k j) := by
  refine Eq.trans ?_ (V_wp m c k j)
  blk_ext [iblk, idx t]

/-! ## One entry of a point's block -/

/-- The body's one value is the gated tokens of the second layer's call. -/
theorem same_ker (x : FVec Ideal S512x1024 .f32) (g : FVec Ideal S1x1024 .f32) (wg : FVec Ideal S1024x1024 .bf16) (p : FVec Ideal S512x256 .f32)
    (wp : FVec Ideal S256x1024 .bf16) : k0_pay1 (F := Ideal) x g wg p wp = Cert.PleIdeal.Gen.k0_pay2 (F := Ideal) x g wg p wp := rfl

/-- The reference's result is the gated tokens of the second layer's reference. -/
theorem same_ref (X : FVec Ideal S16384x1024 .f32) (P : FVec Ideal S8x2048x256 .f32) (G : FVec Ideal S1024 .f32) (Wg : FVec Ideal S1024x1024 .f32)
    (Wp : FVec Ideal S256x1024 .f32) : val_main_v23 (F := Ideal) X P G Wg Wp = Cert.PleRefIdeal.Read.val_main_v23 (F := Ideal) X P G Wg Wp := rfl

theorem core (c : Dev nD) (t : Fin cfg0.N) (y : S512x1024.Idx) (j : S16384x1024.Idx) (hj0 : (j 0 : ℕ) = t.val * 512 + y 0) (hj1 : (j 1 : ℕ) = y 1) :
    k0_pay1 (F := Ideal) (iblk m c 0 t) (iblk m c 2 t) (iblk m c 3 t) (iblk m c 1 t) (iblk m c 4 t) y
      = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) j := by
  idx_vars y
  idx_vars j
  obtain rfl : j1 = y1 := Fin.ext hj1
  rw [same_ker, same_ref]
  refine (Cert.PleIdeal.Gate.gated_ker _ _ _ _ _ y0 j1).trans (Eq.trans ?_ (Cert.PleIdeal.Gate.gated_ref _ _ _ _ _ j0 j1).symm)
  simp only [Cert.PleIdeal.Gate.row_ref, x_at m c t y0 _ j0 hj0, p_at m c t y0 _ j0 hj0, g_at m c t, wg_at m c t, wp_at m c t]

/-- The result array. -/
theorem final (c : Dev nD) : (dats m 0 c).arrAt 6 (cfgs 0).N
    = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  refine core m c t y _ ?_ ?_
  all_goals (blk_simp [idx t] <;> try omega)

end Cert.GateIdeal.Gate

end
-- ==== Proof.Shift.lean ====
module

public import Idealize.ShloMosaic.Lib.Pipeline.ValueKit

@[expose] public section

noncomputable section

open Idealize.ShloMosaic

/-! # The rows a rolling cache holds

The new four rows are put behind a cache of `L` rows and the first four rows are dropped: a row of the result is the
cache's row four further on, and past the cache's end one of the new rows. -/

namespace Cert.Shift

section
variable {L M : ℕ} (X : FVec Ideal ⟨5, ![32, L, 2, 8, 128]⟩ .f32) (Y : FVec Ideal ⟨5, ![32, 4, 2, 8, 128]⟩ .f32)
  (hc : Shape.Concatenates [⟨5, ![32, L, 2, 8, 128]⟩, ⟨5, ![32, 4, 2, 8, 128]⟩] ⟨5, ![32, M, 2, 8, 128]⟩ 1)
  (hs : Shape.Slices ⟨5, ![32, M, 2, 8, 128]⟩ ![0, 4, 0, 0, 0] ⟨5, ![32, L, 2, 8, 128]⟩)
  (b : Fin 32) (r : Fin L) (k : Fin 2) (h : Fin 8) (e : Fin 128)

/-- Row `r` of the slice is row `r + 4` of the joined rows. -/
theorem dropped (hM : M = L + 4) (A : FVec Ideal ⟨5, ![32, M, 2, 8, 128]⟩ .f32) :
    extractStridedSlice ⟨5, ![32, L, 2, 8, 128]⟩ ![0, 4, 0, 0, 0] A hs (ix5 b r k h e) = A (ix5 b ⟨r + 4, by omega⟩ k h e) := by
  refine extractStridedSlice_apply ![0, 4, 0, 0, 0] A hs _ _ fun a => ?_
  match a with
  | ⟨0, _⟩ => show b.val = 0 + b.val; omega
  | ⟨1, _⟩ => show r.val + 4 = 4 + r.val; omega
  | ⟨2, _⟩ => show k.val = 0 + k.val; omega
  | ⟨3, _⟩ => show h.val = 0 + h.val; omega
  | ⟨4, _⟩ => show e.val = 0 + e.val; omega

/-- A row of the cache. -/
theorem old (hM : M = L + 4) (q : Fin L) (hq : q.val = r.val + 4) :
    extractStridedSlice ⟨5, ![32, L, 2, 8, 128]⟩ ![0, 4, 0, 0, 0]
        (concatenate ⟨5, ![32, M, 2, 8, 128]⟩ 1 [⟨⟨5, ![32, L, 2, 8, 128]⟩, X⟩, ⟨⟨5, ![32, 4, 2, 8, 128]⟩, Y⟩] hc) hs (ix5 b r k h e)
      = X (ix5 b q k h e) := by
  rw [dropped hs b r k h e hM]
  refine concatenate_pair_apply_left (t := ⟨5, ![32, M, 2, 8, 128]⟩) 1 X Y hc _ rfl (ix5 b q k h e) fun a => ?_
  match a with
  | ⟨0, _⟩ => rfl
  | ⟨1, _⟩ => exact hq
  | ⟨2, _⟩ => rfl
  | ⟨3, _⟩ => rfl
  | ⟨4, _⟩ => rfl

/-- A new row. -/
theorem fresh (hM : M = L + 4) (q : Fin 4) (hq : q.val + L = r.val + 4) :
    extractStridedSlice ⟨5, ![32, L, 2, 8, 128]⟩ ![0, 4, 0, 0, 0]
        (concatenate ⟨5, ![32, M, 2, 8, 128]⟩ 1 [⟨⟨5, ![32, L, 2, 8, 128]⟩, X⟩, ⟨⟨5, ![32, 4, 2, 8, 128]⟩, Y⟩] hc) hs (ix5 b r k h e)
      = Y (ix5 b q k h e) := by
  rw [dropped hs b r k h e hM]
  refine concatenate_pair_apply_right (t := ⟨5, ![32, M, 2, 8, 128]⟩) 1 X Y hc _ rfl rfl (ix5 b q k h e) (fun a ha => ?_) ?_
  · match a, ha with
    | ⟨0, _⟩, _ => rfl
    | ⟨1, _⟩, ha => exact absurd rfl ha
    | ⟨2, _⟩, _ => rfl
    | ⟨3, _⟩, _ => rfl
    | ⟨4, _⟩, _ => rfl
  · exact hq
end

end Cert.Shift

end
-- ==== Proof.Roll128.lean ====
module

public import proofs.«01_k».proof.Proof.Gen.Roll128Ideal.Value
public import proofs.«01_k».proof.Proof.Gen.Roll128RefIdeal.Read
public import proofs.«01_k».proof.Proof.Shift
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The rolling cache of 128 rows -/

namespace Cert.Roll128Ideal.Whole
open Cert.Roll128Ideal Cert.Roll128Ideal.Gen Cert.Roll128RefIdeal.Read

/-! ## The body's block -/

section Block
variable (c : Dev nD) (t : Fin cfg0.N) (cur : Vec Ideal S1x128x2x8x128 .f32) (next new : Vec Ideal S1x4x2x8x128 .f32)
  (y : Fin 128) (k : Fin 2) (h : Fin 8) (e : Fin 128) (v : EReal)

/-- A row of the block, the cache's only one: the rows past its end are the new ones. -/
theorem oA (hc0 : ¬cond0_0 (grid0.coords t)) (hc1 : cond0_1 (grid0.coords t)) (hcur : ∀ q : Fin 128, q.val = y.val + 4 → cur (ix5 0 q k h e) = v)
    (hlast : ∀ q : Fin 4, q.val + 124 = y.val → new (ix5 0 q k h e) = v) :
    out0_A_3 (F := Ideal) c (grid0.coords t) (ms0_0 t) (hs0_0 t) (ms0_1 t) (hs0_1 t) (ms0_2 t) (hs0_2 t) (ms0_3 t) (hs0_3 t) hc0 hc1 cur next new
      (ix5 0 y k h e) = v := by
  frame_out
  canon_tiles x hh using View.cover_of_tiledBy _ ![1, 4, 2, 8, 128] (by sl_kernel_rfl) _
  all_goals
    idx_vars x
    obtain rfl : x0 = 0 := Subsingleton.elim _ _
    obtain rfl : k = x2 := Fin.ext (by omega)
    obtain rfl : h = x3 := Fin.ext (by omega)
    obtain rfl : e = x4 := Fin.ext (by omega)
  · pointwise [k0_pay3]
    exact hlast _ (by omega)
  · pointwise [k0_pay1]
    refine Eq.trans ?_ (hcur ⟨y + 4, by omega⟩ rfl)
    blk_ext []

end Block

/-! ## The blocks of a grid point -/

variable (m : (ℓ : Loc nD τ sig) → Buf (Elt Ideal) ℓ)

/-- The block indices of the windows at a grid point. -/
theorem idx : ∀ t : Fin cfg0.N, win0_0.index t = ![t.val, 0, 0, 0, 0]
    ∧ win0_2.index t = ![t.val, 0, 0, 0, 0] ∧ win0_3.index t = ![t.val, 0, 0, 0, 0] :=
  (by decide +kernel : ∀ t : Fin grid0.N, _)

section Blocks
variable (c : Dev nD) (t : Fin cfg0.N) (b : Fin 32) (k : Fin 2) (h : Fin 8) (e : Fin 128) (hb : b.val = t.val)
include hb

theorem cur_at (y : Fin 128) (q : Fin 128) (hq : q.val = y.val) :
    (iblk m c 0 t : FVec Ideal S1x128x2x8x128 .f32) (ix5 0 y k h e) = m ((c : Thread nD τ).loc main_arg0) (ix5 b q k h e) := by
  refine Eq.trans ?_ (congrFun (V_main_arg0 m c) (ix5 b q k h e))
  blk_ext [iblk, idx t]

theorem new_at (y : Fin 4) :
    (iblk m c 2 t : FVec Ideal S1x4x2x8x128 .f32) (ix5 0 y k h e) = m ((c : Thread nD τ).loc main_arg1) (ix5 b y k h e) := by
  refine Eq.trans ?_ (congrFun (V_main_arg1 m c) (ix5 b y k h e))
  blk_ext [iblk, idx t]
end Blocks

/-! ## The result -/

/-- The reference's rows, of the arguments a core starts from. -/
def G (c : Dev nD) : FVec Ideal S32x128x2x8x128 .f32 :=
  val_main_v1 (F := Ideal) (m ((c : Thread nD τ).loc main_arg0)) (m ((c : Thread nD τ).loc main_arg1))

section
variable (c : Dev nD) (b : Fin 32) (r : Fin 128) (k : Fin 2) (h : Fin 8) (e : Fin 128)

theorem ref_old (q : Fin 128) (hq : q.val = r.val + 4) : m ((c : Thread nD τ).loc main_arg0) (ix5 b q k h e) = G m c (ix5 b r k h e) :=
  (Cert.Shift.old _ _ Cert.Roll128RefIdeal.Gen.concatenates_S32x128x2x8x128_S32x4x2x8x128_S32x132x2x8x128_d1
    Cert.Roll128RefIdeal.Gen.slices_S32x132x2x8x128_S32x128x2x8x128_0_4_0_0_0 b r k h e rfl q hq).symm

theorem ref_new (q : Fin 4) (hq : q.val + 128 = r.val + 4) : m ((c : Thread nD τ).loc main_arg1) (ix5 b q k h e) = G m c (ix5 b r k h e) :=
  (Cert.Shift.fresh _ _ Cert.Roll128RefIdeal.Gen.concatenates_S32x128x2x8x128_S32x4x2x8x128_S32x132x2x8x128_d1
    Cert.Roll128RefIdeal.Gen.slices_S32x132x2x8x128_S32x128x2x8x128_0_4_0_0_0 b r k h e rfl q hq).symm
end

/-- An entry of a point's block. -/
theorem core (c : Dev nD) (t : Fin cfg0.N) (y : S1x128x2x8x128.Idx) (j : S32x128x2x8x128.Idx) (h0 : (j 0).val = t.val)
    (h1 : (j 1).val = (y 1).val) (h2 : (j 2).val = (y 2).val) (h3 : (j 3).val = (y 3).val) (h4 : (j 4).val = (y 4).val) :
    outsAt0 m c t y = G m c j := by
  have hN : cfg0.N = 32 := N_0
  have htl := t.isLt
  idx_vars j
  idx_vars y
  obtain rfl : y0 = 0 := Subsingleton.elim _ _
  obtain rfl : j2 = y2 := Fin.ext (by omega)
  obtain rfl : j3 = y3 := Fin.ext (by omega)
  obtain rfl : j4 = y4 := Fin.ext (by omega)
  exact oA c t _ _ _ y1 j2 j3 j4 _ _ _
    (fun q hq => (cur_at m c t j0 j2 j3 j4 h0 q ⟨j1 + 4, by omega⟩ (by show j1.val + 4 = _; omega)).trans (ref_old m c j0 j1 j2 j3 j4 _ rfl))
    (fun q hq => (new_at m c t j0 j2 j3 j4 h0 q).trans (ref_new m c j0 j1 j2 j3 j4 q (by omega)))

theorem final (c : Dev nD) : (dats m 0 c).arrAt 3 (cfgs 0).N
    = val_main_v1 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  refine core m c t y _ ?_ ?_ ?_ ?_ ?_
  all_goals (blk_simp [idx t] <;> try omega)

end Cert.Roll128Ideal.Whole

end
-- ==== Proof.Roll512.lean ====
module

public import proofs.«01_k».proof.Proof.Gen.Roll512Ideal.Value
public import proofs.«01_k».proof.Proof.Gen.Roll512RefIdeal.Read
public import proofs.«01_k».proof.Proof.Shift
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The rolling cache of 512 rows -/

namespace Cert.Roll512Ideal.Whole
open Cert.Roll512Ideal Cert.Roll512Ideal.Gen Cert.Roll512RefIdeal.Read

/-! ## The body's block -/

section Block
variable (c : Dev nD) (t : Fin cfg0.N) (cur : Vec Ideal S1x256x2x8x128 .f32) (next new : Vec Ideal S1x4x2x8x128 .f32)
  (y : Fin 256) (k : Fin 2) (h : Fin 8) (e : Fin 128) (v : EReal)

/-- A row of a block that is not the cache's last: the rows past the block's end come from the next block. -/
theorem oA (hc0 : cond0_0 (grid0.coords t)) (hc1 : ¬cond0_1 (grid0.coords t)) (hcur : ∀ q : Fin 256, q.val = y.val + 4 → cur (ix5 0 q k h e) = v)
    (hlast : ∀ q : Fin 4, q.val + 252 = y.val → next (ix5 0 q k h e) = v) :
    out0_A_3 (F := Ideal) c (grid0.coords t) (ms0_0 t) (hs0_0 t) (ms0_1 t) (hs0_1 t) (ms0_2 t) (hs0_2 t) (ms0_3 t) (hs0_3 t) hc0 hc1 cur next new
      (ix5 0 y k h e) = v := by
  frame_out
  canon_tiles x hh using View.cover_of_tiledBy _ ![1, 4, 2, 8, 128] (by sl_kernel_rfl) _
  all_goals
    idx_vars x
    obtain rfl : x0 = 0 := Subsingleton.elim _ _
    obtain rfl : k = x2 := Fin.ext (by omega)
    obtain rfl : h = x3 := Fin.ext (by omega)
    obtain rfl : e = x4 := Fin.ext (by omega)
  · pointwise [k0_pay2]
    exact hlast _ (by omega)
  · pointwise [k0_pay1]
    refine Eq.trans ?_ (hcur ⟨y + 4, by omega⟩ rfl)
    blk_ext []

/-- A row of the cache's last block: the rows past its end are the new ones. -/
theorem oB (hc0 : ¬cond0_0 (grid0.coords t)) (hc1 : cond0_1 (grid0.coords t)) (hcur : ∀ q : Fin 256, q.val = y.val + 4 → cur (ix5 0 q k h e) = v)
    (hlast : ∀ q : Fin 4, q.val + 252 = y.val → new (ix5 0 q k h e) = v) :
    out0_B_3 (F := Ideal) c (grid0.coords t) (ms0_0 t) (hs0_0 t) (ms0_1 t) (hs0_1 t) (ms0_2 t) (hs0_2 t) (ms0_3 t) (hs0_3 t) hc0 hc1 cur next new
      (ix5 0 y k h e) = v := by
  frame_out
  canon_tiles x hh using View.cover_of_tiledBy _ ![1, 4, 2, 8, 128] (by sl_kernel_rfl) _
  all_goals
    idx_vars x
    obtain rfl : x0 = 0 := Subsingleton.elim _ _
    obtain rfl : k = x2 := Fin.ext (by omega)
    obtain rfl : h = x3 := Fin.ext (by omega)
    obtain rfl : e = x4 := Fin.ext (by omega)
  · pointwise [k0_pay3]
    exact hlast _ (by omega)
  · pointwise [k0_pay1]
    refine Eq.trans ?_ (hcur ⟨y + 4, by omega⟩ rfl)
    blk_ext []

end Block

/-! ## The blocks of a grid point -/

variable (m : (ℓ : Loc nD τ sig) → Buf (Elt Ideal) ℓ)

/-- The block indices of the windows at a grid point. -/
theorem idx : ∀ t : Fin cfg0.N, win0_0.index t = ![t.val / 2, t.val % 2, 0, 0, 0]
    ∧ win0_1.index t = ![t.val / 2, min ((t.val % 2 + 1) * 64) 127, 0, 0, 0]
    ∧ win0_2.index t = ![t.val / 2, 0, 0, 0, 0] ∧ win0_3.index t = ![t.val / 2, t.val % 2, 0, 0, 0] :=
  (by decide +kernel : ∀ t : Fin grid0.N, _)

section Blocks
variable (c : Dev nD) (t : Fin cfg0.N) (b : Fin 32) (k : Fin 2) (h : Fin 8) (e : Fin 128) (hb : b.val = t.val / 2)
include hb

theorem cur_at (y : Fin 256) (q : Fin 512) (hq : q.val = t.val % 2 * 256 + y.val) :
    (iblk m c 0 t : FVec Ideal S1x256x2x8x128 .f32) (ix5 0 y k h e) = m ((c : Thread nD τ).loc main_arg0) (ix5 b q k h e) := by
  refine Eq.trans ?_ (congrFun (V_main_arg0 m c) (ix5 b q k h e))
  blk_ext [iblk, idx t]

theorem next_at (y : Fin 4) (q : Fin 512) (ht : t.val % 2 = 0) (hq : q.val = t.val % 2 * 256 + 256 + y.val) :
    (iblk m c 1 t : FVec Ideal S1x4x2x8x128 .f32) (ix5 0 y k h e) = m ((c : Thread nD τ).loc main_arg0) (ix5 b q k h e) := by
  refine Eq.trans ?_ (congrFun (V_main_arg0 m c) (ix5 b q k h e))
  blk_ext [iblk, idx t]

theorem new_at (y : Fin 4) :
    (iblk m c 2 t : FVec Ideal S1x4x2x8x128 .f32) (ix5 0 y k h e) = m ((c : Thread nD τ).loc main_arg1) (ix5 b y k h e) := by
  refine Eq.trans ?_ (congrFun (V_main_arg1 m c) (ix5 b y k h e))
  blk_ext [iblk, idx t]
end Blocks

/-! ## The result -/

/-- The reference's rows, of the arguments a core starts from. -/
def G (c : Dev nD) : FVec Ideal S32x512x2x8x128 .f32 :=
  val_main_v1 (F := Ideal) (m ((c : Thread nD τ).loc main_arg0)) (m ((c : Thread nD τ).loc main_arg1))

section
variable (c : Dev nD) (b : Fin 32) (r : Fin 512) (k : Fin 2) (h : Fin 8) (e : Fin 128)

theorem ref_old (q : Fin 512) (hq : q.val = r.val + 4) : m ((c : Thread nD τ).loc main_arg0) (ix5 b q k h e) = G m c (ix5 b r k h e) :=
  (Cert.Shift.old _ _ Cert.Roll512RefIdeal.Gen.concatenates_S32x512x2x8x128_S32x4x2x8x128_S32x516x2x8x128_d1
    Cert.Roll512RefIdeal.Gen.slices_S32x516x2x8x128_S32x512x2x8x128_0_4_0_0_0 b r k h e rfl q hq).symm

theorem ref_new (q : Fin 4) (hq : q.val + 512 = r.val + 4) : m ((c : Thread nD τ).loc main_arg1) (ix5 b q k h e) = G m c (ix5 b r k h e) :=
  (Cert.Shift.fresh _ _ Cert.Roll512RefIdeal.Gen.concatenates_S32x512x2x8x128_S32x4x2x8x128_S32x516x2x8x128_d1
    Cert.Roll512RefIdeal.Gen.slices_S32x516x2x8x128_S32x512x2x8x128_0_4_0_0_0 b r k h e rfl q hq).symm
end

/-- An entry of a point's block. -/
theorem core (c : Dev nD) (t : Fin cfg0.N) (y : S1x256x2x8x128.Idx) (j : S32x512x2x8x128.Idx) (h0 : (j 0).val = t.val / 2)
    (h1 : (j 1).val = t.val % 2 * 256 + (y 1).val) (h2 : (j 2).val = (y 2).val) (h3 : (j 3).val = (y 3).val) (h4 : (j 4).val = (y 4).val) :
    outsAt0 m c t.val t.isLt y = G m c j := by
  have hN : cfg0.N = 64 := N_0
  have htl := t.isLt
  idx_vars j
  idx_vars y
  obtain rfl : y0 = 0 := Subsingleton.elim _ _
  obtain rfl : j2 = y2 := Fin.ext (by omega)
  obtain rfl : j3 = y3 := Fin.ext (by omega)
  obtain rfl : j4 = y4 := Fin.ext (by omega)
  by_cases hA : t.val % 2 = 0
  · rw [outsAt0_A m c t hA (by omega)]
    exact oA c t _ _ _ y1 j2 j3 j4 _ _ _
      (fun q hq => (cur_at m c t j0 j2 j3 j4 h0 q ⟨j1 + 4, by omega⟩ (by show j1.val + 4 = _; omega)).trans (ref_old m c j0 j1 j2 j3 j4 _ rfl))
      (fun q hq => (next_at m c t j0 j2 j3 j4 h0 q ⟨j1 + 4, by omega⟩ hA (by show j1.val + 4 = _; omega)).trans (ref_old m c j0 j1 j2 j3 j4 _ rfl))
  · rw [outsAt0_B m c t hA (by omega)]
    exact oB c t _ _ _ y1 j2 j3 j4 _ _ _
      (fun q hq => (cur_at m c t j0 j2 j3 j4 h0 q ⟨j1 + 4, by omega⟩ (by show j1.val + 4 = _; omega)).trans (ref_old m c j0 j1 j2 j3 j4 _ rfl))
      (fun q hq => (new_at m c t j0 j2 j3 j4 h0 q).trans (ref_new m c j0 j1 j2 j3 j4 q (by omega)))

theorem final (c : Dev nD) : (dats m 0 c).arrAt 3 (cfgs 0).N
    = val_main_v1 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  refine core m c t y _ ?_ ?_ ?_ ?_ ?_
  all_goals (blk_simp [idx t] <;> try omega)

end Cert.Roll512Ideal.Whole

end
-- ==== Proof.Roll2048.lean ====
module

public import proofs.«01_k».proof.Proof.Gen.Roll2048Ideal.Value
public import proofs.«01_k».proof.Proof.Gen.Roll2048RefIdeal.Read
public import proofs.«01_k».proof.Proof.Shift
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The rolling cache of 2048 rows -/

namespace Cert.Roll2048Ideal.Whole
open Cert.Roll2048Ideal Cert.Roll2048Ideal.Gen Cert.Roll2048RefIdeal.Read

/-! ## The body's block -/

section Block
variable (c : Dev nD) (t : Fin cfg0.N) (cur : Vec Ideal S1x256x2x8x128 .f32) (next new : Vec Ideal S1x4x2x8x128 .f32)
  (y : Fin 256) (k : Fin 2) (h : Fin 8) (e : Fin 128) (v : EReal)

/-- A row of a block that is not the cache's last: the rows past the block's end come from the next block. -/
theorem oA (hc0 : cond0_0 (grid0.coords t)) (hc1 : ¬cond0_1 (grid0.coords t)) (hcur : ∀ q : Fin 256, q.val = y.val + 4 → cur (ix5 0 q k h e) = v)
    (hlast : ∀ q : Fin 4, q.val + 252 = y.val → next (ix5 0 q k h e) = v) :
    out0_A_3 (F := Ideal) c (grid0.coords t) (ms0_0 t) (hs0_0 t) (ms0_1 t) (hs0_1 t) (ms0_2 t) (hs0_2 t) (ms0_3 t) (hs0_3 t) hc0 hc1 cur next new
      (ix5 0 y k h e) = v := by
  frame_out
  canon_tiles x hh using View.cover_of_tiledBy _ ![1, 4, 2, 8, 128] (by sl_kernel_rfl) _
  all_goals
    idx_vars x
    obtain rfl : x0 = 0 := Subsingleton.elim _ _
    obtain rfl : k = x2 := Fin.ext (by omega)
    obtain rfl : h = x3 := Fin.ext (by omega)
    obtain rfl : e = x4 := Fin.ext (by omega)
  · pointwise [k0_pay2]
    exact hlast _ (by omega)
  · pointwise [k0_pay1]
    refine Eq.trans ?_ (hcur ⟨y + 4, by omega⟩ rfl)
    blk_ext []

/-- A row of the cache's last block: the rows past its end are the new ones. -/
theorem oB (hc0 : ¬cond0_0 (grid0.coords t)) (hc1 : cond0_1 (grid0.coords t)) (hcur : ∀ q : Fin 256, q.val = y.val + 4 → cur (ix5 0 q k h e) = v)
    (hlast : ∀ q : Fin 4, q.val + 252 = y.val → new (ix5 0 q k h e) = v) :
    out0_B_3 (F := Ideal) c (grid0.coords t) (ms0_0 t) (hs0_0 t) (ms0_1 t) (hs0_1 t) (ms0_2 t) (hs0_2 t) (ms0_3 t) (hs0_3 t) hc0 hc1 cur next new
      (ix5 0 y k h e) = v := by
  frame_out
  canon_tiles x hh using View.cover_of_tiledBy _ ![1, 4, 2, 8, 128] (by sl_kernel_rfl) _
  all_goals
    idx_vars x
    obtain rfl : x0 = 0 := Subsingleton.elim _ _
    obtain rfl : k = x2 := Fin.ext (by omega)
    obtain rfl : h = x3 := Fin.ext (by omega)
    obtain rfl : e = x4 := Fin.ext (by omega)
  · pointwise [k0_pay3]
    exact hlast _ (by omega)
  · pointwise [k0_pay1]
    refine Eq.trans ?_ (hcur ⟨y + 4, by omega⟩ rfl)
    blk_ext []

end Block

/-! ## The blocks of a grid point -/

variable (m : (ℓ : Loc nD τ sig) → Buf (Elt Ideal) ℓ)

/-- The block indices of the windows at a grid point. -/
theorem idx : ∀ t : Fin cfg0.N, win0_0.index t = ![t.val / 8, t.val % 8, 0, 0, 0]
    ∧ win0_1.index t = ![t.val / 8, min ((t.val % 8 + 1) * 64) 511, 0, 0, 0]
    ∧ win0_2.index t = ![t.val / 8, 0, 0, 0, 0] ∧ win0_3.index t = ![t.val / 8, t.val % 8, 0, 0, 0] :=
  (by decide +kernel : ∀ t : Fin grid0.N, _)

section Blocks
variable (c : Dev nD) (t : Fin cfg0.N) (b : Fin 32) (k : Fin 2) (h : Fin 8) (e : Fin 128) (hb : b.val = t.val / 8)
include hb

theorem cur_at (y : Fin 256) (q : Fin 2048) (hq : q.val = t.val % 8 * 256 + y.val) :
    (iblk m c 0 t : FVec Ideal S1x256x2x8x128 .f32) (ix5 0 y k h e) = m ((c : Thread nD τ).loc main_arg0) (ix5 b q k h e) := by
  refine Eq.trans ?_ (congrFun (V_main_arg0 m c) (ix5 b q k h e))
  blk_ext [iblk, idx t]

theorem next_at (y : Fin 4) (q : Fin 2048) (ht : t.val % 8 ≤ 6) (hq : q.val = t.val % 8 * 256 + 256 + y.val) :
    (iblk m c 1 t : FVec Ideal S1x4x2x8x128 .f32) (ix5 0 y k h e) = m ((c : Thread nD τ).loc main_arg0) (ix5 b q k h e) := by
  refine Eq.trans ?_ (congrFun (V_main_arg0 m c) (ix5 b q k h e))
  blk_ext [iblk, idx t]

theorem new_at (y : Fin 4) :
    (iblk m c 2 t : FVec Ideal S1x4x2x8x128 .f32) (ix5 0 y k h e) = m ((c : Thread nD τ).loc main_arg1) (ix5 b y k h e) := by
  refine Eq.trans ?_ (congrFun (V_main_arg1 m c) (ix5 b y k h e))
  blk_ext [iblk, idx t]
end Blocks

/-! ## The result -/

/-- The reference's rows, of the arguments a core starts from. -/
def G (c : Dev nD) : FVec Ideal S32x2048x2x8x128 .f32 :=
  val_main_v1 (F := Ideal) (m ((c : Thread nD τ).loc main_arg0)) (m ((c : Thread nD τ).loc main_arg1))

section
variable (c : Dev nD) (b : Fin 32) (r : Fin 2048) (k : Fin 2) (h : Fin 8) (e : Fin 128)

theorem ref_old (q : Fin 2048) (hq : q.val = r.val + 4) : m ((c : Thread nD τ).loc main_arg0) (ix5 b q k h e) = G m c (ix5 b r k h e) :=
  (Cert.Shift.old _ _ Cert.Roll2048RefIdeal.Gen.concatenates_S32x2048x2x8x128_S32x4x2x8x128_S32x2052x2x8x128_d1
    Cert.Roll2048RefIdeal.Gen.slices_S32x2052x2x8x128_S32x2048x2x8x128_0_4_0_0_0 b r k h e rfl q hq).symm

theorem ref_new (q : Fin 4) (hq : q.val + 2048 = r.val + 4) : m ((c : Thread nD τ).loc main_arg1) (ix5 b q k h e) = G m c (ix5 b r k h e) :=
  (Cert.Shift.fresh _ _ Cert.Roll2048RefIdeal.Gen.concatenates_S32x2048x2x8x128_S32x4x2x8x128_S32x2052x2x8x128_d1
    Cert.Roll2048RefIdeal.Gen.slices_S32x2052x2x8x128_S32x2048x2x8x128_0_4_0_0_0 b r k h e rfl q hq).symm
end

/-- An entry of a point's block. -/
theorem core (c : Dev nD) (t : Fin cfg0.N) (y : S1x256x2x8x128.Idx) (j : S32x2048x2x8x128.Idx) (h0 : (j 0).val = t.val / 8)
    (h1 : (j 1).val = t.val % 8 * 256 + (y 1).val) (h2 : (j 2).val = (y 2).val) (h3 : (j 3).val = (y 3).val) (h4 : (j 4).val = (y 4).val) :
    outsAt0 m c t.val t.isLt y = G m c j := by
  have hN : cfg0.N = 256 := N_0
  have htl := t.isLt
  idx_vars j
  idx_vars y
  obtain rfl : y0 = 0 := Subsingleton.elim _ _
  obtain rfl : j2 = y2 := Fin.ext (by omega)
  obtain rfl : j3 = y3 := Fin.ext (by omega)
  obtain rfl : j4 = y4 := Fin.ext (by omega)
  by_cases hA : t.val % 8 ≤ 6
  · rw [outsAt0_A m c t hA (by omega)]
    exact oA c t _ _ _ y1 j2 j3 j4 _ _ _
      (fun q hq => (cur_at m c t j0 j2 j3 j4 h0 q ⟨j1 + 4, by omega⟩ (by show j1.val + 4 = _; omega)).trans (ref_old m c j0 j1 j2 j3 j4 _ rfl))
      (fun q hq => (next_at m c t j0 j2 j3 j4 h0 q ⟨j1 + 4, by omega⟩ hA (by show j1.val + 4 = _; omega)).trans (ref_old m c j0 j1 j2 j3 j4 _ rfl))
  · rw [outsAt0_B m c t hA (by omega)]
    exact oB c t _ _ _ y1 j2 j3 j4 _ _ _
      (fun q hq => (cur_at m c t j0 j2 j3 j4 h0 q ⟨j1 + 4, by omega⟩ (by show j1.val + 4 = _; omega)).trans (ref_old m c j0 j1 j2 j3 j4 _ rfl))
      (fun q hq => (new_at m c t j0 j2 j3 j4 h0 q).trans (ref_new m c j0 j1 j2 j3 j4 q (by omega)))

theorem final (c : Dev nD) : (dats m 0 c).arrAt 3 (cfgs 0).N
    = val_main_v1 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  refine core m c t y _ ?_ ?_ ?_ ?_ ?_
  all_goals (blk_simp [idx t] <;> try omega)

end Cert.Roll2048Ideal.Whole

end
-- ==== Proof.Glu.lean ====
module

public import proofs.«01_k».proof.Proof.Gen.GluIdeal.Value
public import proofs.«01_k».proof.Proof.Gen.GluRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! # The gated columns of the convolution call

The first half of the projected columns times the logistic function of the second half. -/

namespace Cert.GluIdeal.Gated
open Cert.GluIdeal Cert.GluIdeal.Gen Cert.GluRefIdeal.Read

/-- One entry of the body, where the loaded row is a row of the columns. -/
theorem point (Z : FVec Ideal S16384x1024 .f32) (x : FVec Ideal S1x256x1024 .f32) (b : Fin 8) (s : Fin 2048) (y : Fin 256)
    (q : Fin 512) (hx : ∀ p : Fin 1024, x (ix3 0 y p) = Z (ix2 ⟨b.val * 2048 + s.val, by omega⟩ p)) :
    k0_pay5 (F := Ideal) x (ix3 0 y q) = val_main_v9 (F := Ideal) Z (ix3 b s q) := by
  pointwise [k0_pay5, k0_pay4, val_main_v9, val_main_v8, val_main_v7, val_main_v6, val_main_v5, val_main_v4, val_main_v3, val_main_v2,
    val_main_v1, val_main_v0, val_main_cst, val_main_cst_0]
  rw [hx, hx]
  simp only [sub_eq_add_neg, zero_add]

variable (m : (ℓ : Loc nD τ sig) → Buf (Elt Ideal) ℓ)

/-- The block indices of the windows at a grid point. -/
theorem idx : ∀ t : Fin cfg0.N, win0_0.index t = ![t.val / 8, t.val % 8, 0] ∧ win0_7.index t = ![t.val / 8, t.val % 8, 0] :=
  (by decide +kernel : ∀ t : Fin grid0.N, _)

/-- The columns, cut in eight sequences. -/
theorem V_z (c : Dev nD) (b : Fin 8) (s : Fin 2048) (p : Fin 1024) :
    V m c main_v0 (ix3 b s p) = m ((c : Thread nD τ).loc main_arg0) (ix2 ⟨b.val * 2048 + s.val, by omega⟩ p) := by
  simp only [V, List.flatten_cons, List.flatten_nil, List.append_nil, hostOps0, hostOps0_1, hostOps0_2, List.cons_append, List.nil_append]
  after_results
  pointwise

theorem z_at (c : Dev nD) (t : Fin cfg0.N) (b : Fin 8) (s : Fin 2048) (y : Fin 256) (p : Fin 1024) (hb : b.val = t.val / 8)
    (hs : s.val = t.val % 8 * 256 + y.val) :
    (iblk m c 0 t : FVec Ideal S1x256x1024 .f32) (ix3 0 y p) = m ((c : Thread nD τ).loc main_arg0) (ix2 ⟨b.val * 2048 + s.val, by omega⟩ p) := by
  refine Eq.trans ?_ (V_z m c b s p)
  blk_ext [iblk, idx t]

/-- What a point leaves in the output's block: the body's gated columns, whatever the convolution carries. -/
theorem left_at (c : Dev nD) (t : Fin cfg0.N) (y : S1x256x512.Idx) :
    (outsAt0 m c t.val t.isLt).2.1 y = k0_pay5 (iblk m c 0 t) y := by
  by_cases h0 : t.val % 8 = 0
  · rw [outsAt0_A m c t h0 (by omega)]
    dsimp only
    frame_out
  · rw [outsAt0_B m c t h0 (by omega)]
    dsimp only
    frame_out

theorem core (c : Dev nD) (t : Fin cfg0.N) (y : S1x256x512.Idx) (j : S8x2048x512.Idx) (h0 : (j 0).val = t.val / 8)
    (h1 : (j 1).val = t.val % 8 * 256 + (y 1).val) (h2 : (j 2).val = (y 2).val) :
    (outsAt0 m c t.val t.isLt).2.1 y = val_main_v9 (F := Ideal) (m ((c : Thread nD τ).loc main_arg0)) j := by
  rw [left_at]
  idx_vars j
  idx_vars y
  obtain rfl : y0 = 0 := Subsingleton.elim _ _
  obtain rfl : j2 = y2 := Fin.ext (by omega)
  exact point _ _ j0 j1 y1 j2 fun p => z_at m c t j0 j1 y1 p h0 h1

theorem final (c : Dev nD) : (dats m 0 c).arrAt 7 (cfgs 0).N = val_main_v9 (F := Ideal) (m ((c : Thread nD τ).loc main_arg0)) := by
  refine (dats m 0 c).arrAt_eq_of_covers 7 _ (by decide +kernel) fun t _ y => ?_
  blk_simp
  rw [after0_7]
  refine core m c t y _ ?_ ?_ ?_
  all_goals (blk_simp [idx t] <;> try omega)

end Cert.GluIdeal.Gated

end
-- ==== Proof.lean ====
module

public import proofs.«01_k».proof.Proof.Attn
public import proofs.«01_k».proof.Proof.Nmm
public import proofs.«01_k».proof.Proof.RopeQ
public import proofs.«01_k».proof.Proof.RopeKv
public import proofs.«01_k».proof.Proof.Out
public import proofs.«01_k».proof.Proof.Comb
public import proofs.«01_k».proof.Proof.Ple
public import proofs.«01_k».proof.Proof.Gate
public import proofs.«01_k».proof.Proof.Roll128
public import proofs.«01_k».proof.Proof.Roll512
public import proofs.«01_k».proof.Proof.Roll2048
public import proofs.«01_k».proof.Proof.Glu
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.NmmIdeal.Value
public import proofs.«01_k».proof.Proof.Gen.NmmRefIdeal.Run
public import proofs.«01_k».proof.Proof.Gen.NmmRefIdeal.Read
public import proofs.«01_k».proof.Proof.Gen.RopeQIdeal.Value
public import proofs.«01_k».proof.Proof.Gen.RopeQRefIdeal.Run
public import proofs.«01_k».proof.Proof.Gen.RopeQRefIdeal.Read
public import proofs.«01_k».proof.Proof.Gen.RopeKvIdeal.Value
public import proofs.«01_k».proof.Proof.Gen.RopeKvRefIdeal.Run
public import proofs.«01_k».proof.Proof.Gen.RopeKvRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.CombIdeal.Value
public import proofs.«01_k».proof.Proof.Gen.CombRefIdeal.Run
public import proofs.«01_k».proof.Proof.Gen.CombRefIdeal.Read
public import proofs.«01_k».proof.Proof.Gen.PleIdeal.Value
public import proofs.«01_k».proof.Proof.Gen.PleRefIdeal.Run
public import proofs.«01_k».proof.Proof.Gen.PleRefIdeal.Read
public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Nmm
public import proofs.«01_k».proof.Proof.Gen.Nmm.Skeleton
public import proofs.«01_k».proof.Proof.Gen.Nmm.Launch
public import proofs.«01_k».proof.Proof.Gen.Nmm.Points
public import proofs.«01_k».proof.Proof.Gen.Nmm.Frame
public import proofs.«01_k».proof.Proof.Gen.NmmIdeal
public import proofs.«01_k».proof.Proof.Gen.NmmIdeal.Skeleton
public import proofs.«01_k».proof.Proof.Gen.NmmIdeal.Launch
public import proofs.«01_k».proof.Proof.Gen.NmmIdeal.Points
public import proofs.«01_k».proof.Proof.Gen.NmmIdeal.Frame
public import proofs.«01_k».proof.Proof.Gen.NmmRefIdeal
public import proofs.«01_k».proof.Proof.Gen.RopeQ
public import proofs.«01_k».proof.Proof.Gen.RopeQ.Skeleton
public import proofs.«01_k».proof.Proof.Gen.RopeQ.Launch
public import proofs.«01_k».proof.Proof.Gen.RopeQ.Points
public import proofs.«01_k».proof.Proof.Gen.RopeQ.Frame
public import proofs.«01_k».proof.Proof.Gen.RopeQIdeal
public import proofs.«01_k».proof.Proof.Gen.RopeQIdeal.Skeleton
public import proofs.«01_k».proof.Proof.Gen.RopeQIdeal.Launch
public import proofs.«01_k».proof.Proof.Gen.RopeQIdeal.Points
public import proofs.«01_k».proof.Proof.Gen.RopeQIdeal.Frame
public import proofs.«01_k».proof.Proof.Gen.RopeQRefIdeal
public import proofs.«01_k».proof.Proof.Gen.RopeKv
public import proofs.«01_k».proof.Proof.Gen.RopeKv.Skeleton
public import proofs.«01_k».proof.Proof.Gen.RopeKv.Launch
public import proofs.«01_k».proof.Proof.Gen.RopeKv.Points
public import proofs.«01_k».proof.Proof.Gen.RopeKv.Frame
public import proofs.«01_k».proof.Proof.Gen.RopeKvIdeal
public import proofs.«01_k».proof.Proof.Gen.RopeKvIdeal.Skeleton
public import proofs.«01_k».proof.Proof.Gen.RopeKvIdeal.Launch
public import proofs.«01_k».proof.Proof.Gen.RopeKvIdeal.Points
public import proofs.«01_k».proof.Proof.Gen.RopeKvIdeal.Frame
public import proofs.«01_k».proof.Proof.Gen.RopeKvRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Comb
public import proofs.«01_k».proof.Proof.Gen.Comb.Skeleton
public import proofs.«01_k».proof.Proof.Gen.Comb.Launch
public import proofs.«01_k».proof.Proof.Gen.Comb.Points
public import proofs.«01_k».proof.Proof.Gen.Comb.Frame
public import proofs.«01_k».proof.Proof.Gen.CombIdeal
public import proofs.«01_k».proof.Proof.Gen.CombIdeal.Skeleton
public import proofs.«01_k».proof.Proof.Gen.CombIdeal.Launch
public import proofs.«01_k».proof.Proof.Gen.CombIdeal.Points
public import proofs.«01_k».proof.Proof.Gen.CombIdeal.Frame
public import proofs.«01_k».proof.Proof.Gen.CombRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.GateIdeal.Value
public import proofs.«01_k».proof.Proof.Gen.GateRefIdeal.Run
public import proofs.«01_k».proof.Proof.Gen.GateRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Roll128Ideal.Value
public import proofs.«01_k».proof.Proof.Gen.Roll128RefIdeal.Run
public import proofs.«01_k».proof.Proof.Gen.Roll128RefIdeal.Read
public import proofs.«01_k».proof.Proof.Gen.Roll128
public import proofs.«01_k».proof.Proof.Gen.Roll128.Skeleton
public import proofs.«01_k».proof.Proof.Gen.Roll128.Launch
public import proofs.«01_k».proof.Proof.Gen.Roll128.Points
public import proofs.«01_k».proof.Proof.Gen.Roll128.Frame
public import proofs.«01_k».proof.Proof.Gen.Roll128Ideal
public import proofs.«01_k».proof.Proof.Gen.Roll128Ideal.Skeleton
public import proofs.«01_k».proof.Proof.Gen.Roll128Ideal.Launch
public import proofs.«01_k».proof.Proof.Gen.Roll128Ideal.Points
public import proofs.«01_k».proof.Proof.Gen.Roll128Ideal.Frame
public import proofs.«01_k».proof.Proof.Gen.Roll128RefIdeal
public import proofs.«01_k».proof.Proof.Gen.Roll512Ideal.Value
public import proofs.«01_k».proof.Proof.Gen.Roll512RefIdeal.Run
public import proofs.«01_k».proof.Proof.Gen.Roll512RefIdeal.Read
public import proofs.«01_k».proof.Proof.Gen.Roll512
public import proofs.«01_k».proof.Proof.Gen.Roll512.Skeleton
public import proofs.«01_k».proof.Proof.Gen.Roll512.Launch
public import proofs.«01_k».proof.Proof.Gen.Roll512.Points
public import proofs.«01_k».proof.Proof.Gen.Roll512.Frame
public import proofs.«01_k».proof.Proof.Gen.Roll512Ideal
public import proofs.«01_k».proof.Proof.Gen.Roll512Ideal.Skeleton
public import proofs.«01_k».proof.Proof.Gen.Roll512Ideal.Launch
public import proofs.«01_k».proof.Proof.Gen.Roll512Ideal.Points
public import proofs.«01_k».proof.Proof.Gen.Roll512Ideal.Frame
public import proofs.«01_k».proof.Proof.Gen.Roll512RefIdeal
public import proofs.«01_k».proof.Proof.Gen.Roll2048Ideal.Value
public import proofs.«01_k».proof.Proof.Gen.Roll2048RefIdeal.Run
public import proofs.«01_k».proof.Proof.Gen.Roll2048RefIdeal.Read
public import proofs.«01_k».proof.Proof.Gen.Roll2048
public import proofs.«01_k».proof.Proof.Gen.Roll2048.Skeleton
public import proofs.«01_k».proof.Proof.Gen.Roll2048.Launch
public import proofs.«01_k».proof.Proof.Gen.Roll2048.Points
public import proofs.«01_k».proof.Proof.Gen.Roll2048.Frame
public import proofs.«01_k».proof.Proof.Gen.Roll2048Ideal
public import proofs.«01_k».proof.Proof.Gen.Roll2048Ideal.Skeleton
public import proofs.«01_k».proof.Proof.Gen.Roll2048Ideal.Launch
public import proofs.«01_k».proof.Proof.Gen.Roll2048Ideal.Points
public import proofs.«01_k».proof.Proof.Gen.Roll2048Ideal.Frame
public import proofs.«01_k».proof.Proof.Gen.Roll2048RefIdeal
public import proofs.«01_k».proof.Proof.Gen.GluIdeal.Value
public import proofs.«01_k».proof.Proof.Gen.GluRefIdeal.Run
public import proofs.«01_k».proof.Proof.Gen.GluRefIdeal.Read
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.Pre_top_is_real
public import Idealize.ShloMosaic.Adequacy
public import Idealize.ShloMosaic.Init
public import Idealize.ShloMosaic.Lib.Claim

@[expose] public section

noncomputable section

/-! # The claims, put together

Each kernel's run leaves its result arrays as the modules beside this one compute them; each reference's run leaves its
own term; the two are equal. The runs themselves give that every program ends with its arguments unchanged. -/

namespace Cert.Proof

open Idealize.ShloMosaic Idealize.SL.Sem

/-- The reference of Attn runs and leaves its arguments unchanged. -/
theorem frame_AttnRef : Cert.quiescent_AttnRefIdeal := fun m ρ _ =>
  (θ_run Cert.AttnRefIdeal.defs _ _).mono (fun r h => ⟨fun c => (h c).2.2, sem_eq_zero_of_no_sems (by decide) r.2⟩)
    (Cert.AttnRefIdeal.Value.run m ρ)

/-- The reference of Nmm runs and leaves its arguments unchanged. -/
theorem frame_NmmRef : Cert.quiescent_NmmRefIdeal := fun m ρ _ =>
  (θ_run Cert.NmmRefIdeal.defs _ _).mono (fun r h => ⟨fun c => (h c).2.2.2.2, sem_eq_zero_of_no_sems (by decide) r.2⟩)
    (Cert.NmmRefIdeal.Value.run m ρ)

/-- The reference of RopeQ runs and leaves its arguments unchanged. -/
theorem frame_RopeQRef : Cert.quiescent_RopeQRefIdeal := fun m ρ _ =>
  (θ_run Cert.RopeQRefIdeal.defs _ _).mono (fun r h => ⟨fun c => (h c).2, sem_eq_zero_of_no_sems (by decide) r.2⟩)
    (Cert.RopeQRefIdeal.Value.run m ρ)

/-- The reference of RopeKv runs and leaves its arguments unchanged. -/
theorem frame_RopeKvRef : Cert.quiescent_RopeKvRefIdeal := fun m ρ _ =>
  (θ_run Cert.RopeKvRefIdeal.defs _ _).mono (fun r h => ⟨fun c => (h c).2, sem_eq_zero_of_no_sems (by decide) r.2⟩)
    (Cert.RopeKvRefIdeal.Value.run m ρ)

/-- The reference of Out runs and leaves its arguments unchanged. -/
theorem frame_OutRef : Cert.quiescent_OutRefIdeal := fun m ρ _ =>
  (θ_run Cert.OutRefIdeal.defs _ _).mono (fun r h => ⟨fun c => (h c).2, sem_eq_zero_of_no_sems (by decide) r.2⟩)
    (Cert.OutRefIdeal.Value.run m ρ)

/-- The reference of Comb runs and leaves its arguments unchanged. -/
theorem frame_CombRef : Cert.quiescent_CombRefIdeal := fun m ρ _ =>
  (θ_run Cert.CombRefIdeal.defs _ _).mono (fun r h => ⟨fun c => (h c).2, sem_eq_zero_of_no_sems (by decide) r.2⟩)
    (Cert.CombRefIdeal.Value.run m ρ)

/-- The reference of Ple runs and leaves its arguments unchanged. -/
theorem frame_PleRef : Cert.quiescent_PleRefIdeal := fun m ρ _ =>
  (θ_run Cert.PleRefIdeal.defs _ _).mono (fun r h => ⟨fun c => (h c).2, sem_eq_zero_of_no_sems (by decide) r.2⟩)
    (Cert.PleRefIdeal.Value.run m ρ)

/-- The reference of Gate runs and leaves its arguments unchanged. -/
theorem frame_GateRef : Cert.quiescent_GateRefIdeal := fun m ρ _ =>
  (θ_run Cert.GateRefIdeal.defs _ _).mono (fun r h => ⟨fun c => (h c).2, sem_eq_zero_of_no_sems (by decide) r.2⟩)
    (Cert.GateRefIdeal.Value.run m ρ)

/-- The reference of Roll128 runs and leaves its arguments unchanged. -/
theorem frame_Roll128Ref : Cert.quiescent_Roll128RefIdeal := fun m ρ _ =>
  (θ_run Cert.Roll128RefIdeal.defs _ _).mono (fun r h => ⟨fun c => (h c).2, sem_eq_zero_of_no_sems (by decide) r.2⟩)
    (Cert.Roll128RefIdeal.Value.run m ρ)

/-- The reference of Roll512 runs and leaves its arguments unchanged. -/
theorem frame_Roll512Ref : Cert.quiescent_Roll512RefIdeal := fun m ρ _ =>
  (θ_run Cert.Roll512RefIdeal.defs _ _).mono (fun r h => ⟨fun c => (h c).2, sem_eq_zero_of_no_sems (by decide) r.2⟩)
    (Cert.Roll512RefIdeal.Value.run m ρ)

/-- The reference of Roll2048 runs and leaves its arguments unchanged. -/
theorem frame_Roll2048Ref : Cert.quiescent_Roll2048RefIdeal := fun m ρ _ =>
  (θ_run Cert.Roll2048RefIdeal.defs _ _).mono (fun r h => ⟨fun c => (h c).2, sem_eq_zero_of_no_sems (by decide) r.2⟩)
    (Cert.Roll2048RefIdeal.Value.run m ρ)

/-- The reference of Glu runs and leaves its arguments unchanged. -/
theorem frame_GluRef : Cert.quiescent_GluRefIdeal := fun m ρ _ =>
  (θ_run Cert.GluRefIdeal.defs _ _).mono (fun r h => ⟨fun c => (h c).2, sem_eq_zero_of_no_sems (by decide) r.2⟩)
    (Cert.GluRefIdeal.Value.run m ρ)

/-- The kernel Attn and its reference end with equal results. -/
theorem equal_Attn : Cert.algebraic_AttnIdeal_AttnRefIdeal := by
  pair_intro
  · run_from Cert.AttnIdeal.Value.run_blocks m g
  · run_from Cert.AttnRefIdeal.Value.run m' g'
    · rw [Cert.AttnRefIdeal.Read.val_main_v78_eq m' c, (hagree c).1, (hagree c).2]; exact (Cert.AttnIdeal.Whole.final2 m c).symm
    · rw [Cert.AttnRefIdeal.Read.val_main_v79_eq m' c, (hagree c).1, (hagree c).2]; exact (Cert.AttnIdeal.Whole.final3 m c).symm

/-- The kernel Nmm and its reference end with equal results. -/
theorem equal_Nmm : Cert.algebraic_NmmIdeal_NmmRefIdeal := by
  pair_intro
  · run_from Cert.NmmIdeal.Value.run_blocks m g
  · run_from Cert.NmmRefIdeal.Value.run m' g'
    · exact (Cert.NmmIdeal.Proj.final0 m c).symm
    · exact (Cert.NmmIdeal.Proj.final1 m c).symm
    · exact (Cert.NmmIdeal.Proj.final2 m c).symm
    · exact (Cert.NmmIdeal.Proj.final3 m c).symm

/-- The kernel RopeQ and its reference end with equal results. -/
theorem equal_RopeQ : Cert.algebraic_RopeQIdeal_RopeQRefIdeal := by
  pair_intro
  · run_from Cert.RopeQIdeal.Value.run_blocks m g
  · run_from Cert.RopeQRefIdeal.Value.run m' g'
    · rw [Cert.RopeQRefIdeal.Read.val_main_v54_eq m' c, (hagree c).1, (hagree c).2.1, (hagree c).2.2]; exact (Cert.RopeQIdeal.Heads.final m c).symm

/-- The kernel RopeKv and its reference end with equal results. -/
theorem equal_RopeKv : Cert.algebraic_RopeKvIdeal_RopeKvRefIdeal := by
  pair_intro
  · run_from Cert.RopeKvIdeal.Value.run_blocks m g
  · run_from Cert.RopeKvRefIdeal.Value.run m' g'
    · rw [Cert.RopeKvRefIdeal.Read.val_main_v54_eq m' c, (hagree c).1, (hagree c).2.1, (hagree c).2.2.1, (hagree c).2.2.2]; exact (Cert.RopeKvIdeal.Heads.final m c).symm

/-- The kernel Out and its reference end with equal results. -/
theorem equal_Out : Cert.algebraic_OutIdeal_OutRefIdeal := by
  pair_intro
  · run_from Cert.OutIdeal.Value.run_blocks m g
  · run_from Cert.OutRefIdeal.Value.run m' g'
    · exact (Cert.OutIdeal.Proj.final m c).symm

/-- The kernel Comb and its reference end with equal results, where the precondition holds. -/
theorem equal_Comb : Cert.algebraic_CombIdeal_CombRefIdeal_pre_top_is_real := by
  pair_intro
  · run_from Cert.CombIdeal.Value.run_blocks m g
  · run_from Cert.CombRefIdeal.Value.run m' g'
    · rw [Cert.CombRefIdeal.Read.val_main_v32_eq m' c, (hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.CombIdeal.Mix.final m (fun c => Cert.CombIdeal.Mix.top_real _ _ _ _ _ _ _ _ (hpre c)) c).symm

/-- The kernel Ple and its reference end with equal results. -/
theorem equal_Ple : Cert.algebraic_PleIdeal_PleRefIdeal := by
  pair_intro
  · run_from Cert.PleIdeal.Value.run_blocks m g
  · run_from Cert.PleRefIdeal.Value.run m' g'
    · rw [Cert.PleRefIdeal.Read.val_main_v36_eq m' c, (hagree c).1, (hagree c).2.1, (hagree c).2.2.1, (hagree c).2.2.2.1, (hagree c).2.2.2.2.1, (hagree c).2.2.2.2.2]; exact (Cert.PleIdeal.Gate.final m c).symm

/-- The kernel Gate and its reference end with equal results. -/
theorem equal_Gate : Cert.algebraic_GateIdeal_GateRefIdeal := by
  pair_intro
  · run_from Cert.GateIdeal.Value.run_blocks m g
  · run_from Cert.GateRefIdeal.Value.run m' g'
    · exact (Cert.GateIdeal.Gate.final m c).symm

/-- The kernel Roll128 and its reference end with equal results. -/
theorem equal_Roll128 : Cert.algebraic_Roll128Ideal_Roll128RefIdeal := by
  pair_intro
  · run_from Cert.Roll128Ideal.Value.run_blocks m g
  · run_from Cert.Roll128RefIdeal.Value.run m' g'
    · exact (Cert.Roll128Ideal.Whole.final m c).symm

/-- The kernel Roll512 and its reference end with equal results. -/
theorem equal_Roll512 : Cert.algebraic_Roll512Ideal_Roll512RefIdeal := by
  pair_intro
  · run_from Cert.Roll512Ideal.Value.run_blocks m g
  · run_from Cert.Roll512RefIdeal.Value.run m' g'
    · exact (Cert.Roll512Ideal.Whole.final m c).symm

/-- The kernel Roll2048 and its reference end with equal results. -/
theorem equal_Roll2048 : Cert.algebraic_Roll2048Ideal_Roll2048RefIdeal := by
  pair_intro
  · run_from Cert.Roll2048Ideal.Value.run_blocks m g
  · run_from Cert.Roll2048RefIdeal.Value.run m' g'
    · exact (Cert.Roll2048Ideal.Whole.final m c).symm

/-- The kernel Glu and its reference end with equal results. -/
theorem equal_Glu : Cert.algebraic_GluIdeal_GluRefIdeal := by
  pair_intro
  · run_from Cert.GluIdeal.Value.run_blocks m g
  · run_from Cert.GluRefIdeal.Value.run m' g'
    · exact (Cert.GluIdeal.Gated.final m c).symm

theorem claim : Cert.Claim := ⟨Cert.Attn.Gen.facts, Cert.AttnIdeal.Gen.facts, Cert.AttnRefIdeal.Gen.facts, Cert.Nmm.Gen.facts, Cert.NmmIdeal.Gen.facts, Cert.NmmRefIdeal.Gen.facts, Cert.RopeQ.Gen.facts, Cert.RopeQIdeal.Gen.facts, Cert.RopeQRefIdeal.Gen.facts, Cert.RopeKv.Gen.facts, Cert.RopeKvIdeal.Gen.facts, Cert.RopeKvRefIdeal.Gen.facts, Cert.Out.Gen.facts, Cert.OutIdeal.Gen.facts, Cert.OutRefIdeal.Gen.facts, Cert.Comb.Gen.facts, Cert.CombIdeal.Gen.facts, Cert.CombRefIdeal.Gen.facts, Cert.Ple.Gen.facts, Cert.PleIdeal.Gen.facts, Cert.PleRefIdeal.Gen.facts, Cert.Gate.Gen.facts, Cert.GateIdeal.Gen.facts, Cert.GateRefIdeal.Gen.facts, Cert.Roll128.Gen.facts, Cert.Roll128Ideal.Gen.facts, Cert.Roll128RefIdeal.Gen.facts, Cert.Roll512.Gen.facts, Cert.Roll512Ideal.Gen.facts, Cert.Roll512RefIdeal.Gen.facts, Cert.Roll2048.Gen.facts, Cert.Roll2048Ideal.Gen.facts, Cert.Roll2048RefIdeal.Gen.facts, Cert.Glu.Gen.facts, Cert.GluIdeal.Gen.facts, Cert.GluRefIdeal.Gen.facts, Cert.Pre_top_is_real.Gen.facts,
  fun m ρ _ => Cert.Attn.Gen.frame m ρ,
  fun m ρ _ => Cert.AttnIdeal.Gen.frame m ρ,
  frame_AttnRef,
  fun m ρ _ => Cert.Nmm.Gen.frame m ρ,
  fun m ρ _ => Cert.NmmIdeal.Gen.frame m ρ,
  frame_NmmRef,
  fun m ρ _ => Cert.RopeQ.Gen.frame m ρ,
  fun m ρ _ => Cert.RopeQIdeal.Gen.frame m ρ,
  frame_RopeQRef,
  fun m ρ _ => Cert.RopeKv.Gen.frame m ρ,
  fun m ρ _ => Cert.RopeKvIdeal.Gen.frame m ρ,
  frame_RopeKvRef,
  fun m ρ _ => Cert.Out.Gen.frame m ρ,
  fun m ρ _ => Cert.OutIdeal.Gen.frame m ρ,
  frame_OutRef,
  fun m ρ _ => Cert.Comb.Gen.frame m ρ,
  fun m ρ _ => Cert.CombIdeal.Gen.frame m ρ,
  fun m ρ _ => Cert.CombIdeal.Gen.frame m ρ,
  frame_CombRef,
  fun m ρ _ => frame_CombRef m ρ trivial,
  fun m ρ _ => Cert.Ple.Gen.frame m ρ,
  fun m ρ _ => Cert.PleIdeal.Gen.frame m ρ,
  frame_PleRef,
  fun m ρ _ => Cert.Gate.Gen.frame m ρ,
  fun m ρ _ => Cert.GateIdeal.Gen.frame m ρ,
  frame_GateRef,
  fun m ρ _ => Cert.Roll128.Gen.frame m ρ,
  fun m ρ _ => Cert.Roll128Ideal.Gen.frame m ρ,
  frame_Roll128Ref,
  fun m ρ _ => Cert.Roll512.Gen.frame m ρ,
  fun m ρ _ => Cert.Roll512Ideal.Gen.frame m ρ,
  frame_Roll512Ref,
  fun m ρ _ => Cert.Roll2048.Gen.frame m ρ,
  fun m ρ _ => Cert.Roll2048Ideal.Gen.frame m ρ,
  frame_Roll2048Ref,
  fun m ρ _ => Cert.Glu.Gen.frame m ρ,
  fun m ρ _ => Cert.GluIdeal.Gen.frame m ρ,
  frame_GluRef,
  IdealRules.named_const.statement Cert.AttnIdeal.κ "mask" .f32 0xF149F2CA#32 ⊥ rfl,
  equal_Attn,
  trivial,
  equal_Nmm,
  trivial,
  equal_RopeQ,
  trivial,
  equal_RopeKv,
  trivial,
  equal_Out,
  trivial,
  equal_Comb,
  trivial,
  equal_Ple,
  trivial,
  equal_Gate,
  trivial,
  equal_Roll128,
  trivial,
  equal_Roll512,
  trivial,
  equal_Roll2048,
  trivial,
  equal_Glu⟩

end Cert.Proof

end
